-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.Statement Cert.KernelIdeal.S256x256 Cert.KernelIdeal.S128x256
  ∧ IdealRules.bf16_pair.SelectZeroStatement Cert.KernelIdeal.S128x256

def algebraic_KernelIdeal_ReferenceIdeal_on_selected [hKernelIdeal : Cert.KernelIdeal.Facts] [hReferenceIdeal : Cert.ReferenceIdeal.Facts] [hOn_selected : Cert.On_selected.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![16, 2048, 2048]⟩ : Shape).Idx, (Cert.On_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v1_0) i = v0 c i)
          ∧ (∀ i : (⟨1, ![16]⟩ : Shape).Idx, (Cert.On_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 i = 1#1 → r.2.mem ((c.tc : Thread Cert.KernelIdeal.nD Cert.KernelIdeal.τ).loc Cert.KernelIdeal.main_v1_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![16, 2048, 2048]⟩ : Shape).Idx, (Cert.On_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_v19) i = v0 c i)
          ∧ (∀ i : (⟨1, ![16]⟩ : Shape).Idx, (Cert.On_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 i = 1#1 → r.2.mem ((c.tc : Thread Cert.ReferenceIdeal.nD Cert.ReferenceIdeal.τ).loc Cert.ReferenceIdeal.main_v20) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hOn_selected : Cert.On_selected.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_selected (hKernelIdeal := hKernelIdeal) (hReferenceIdeal := hReferenceIdeal) (hOn_selected := hOn_selected)
-- ==== On_selected.lean ====
abbrev S256x2048 : Shape := ⟨2, ![256, 2048]⟩
abbrev S256 : Shape := ⟨1, ![256]⟩
abbrev S17 : Shape := ⟨1, ![17]⟩
abbrev S16 : Shape := ⟨1, ![16]⟩
abbrev S16x1x1 : Shape := ⟨3, ![16, 1, 1]⟩
abbrev S16x2048x2048 : Shape := ⟨3, ![16, 2048, 2048]⟩
abbrev S_ : Shape := ⟨0, ![]⟩

class Facts : Prop where
  slices_S17_S16_0 : S17.Slices ![0] S16
  slices_S17_S16_1 : S17.Slices ![1] S16
  bcast_S16_S16x1x1_0 : S16.BroadcastsInDim S16x1x1 (![0] : Fin 1 → Fin S16x1x1.rank)
  bcast_S16x1x1_S16x2048x2048_0_1_2 : S16x1x1.BroadcastsInDim S16x2048x2048 (![0, 1, 2] : Fin 3 → Fin S16x2048x2048.rank)
  bcast_S_S16 : S_.BroadcastsInDim S16 (![] : Fin 0 → Fin S16.rank)

variable [Facts]

def fn {F : FTy → Type} [FloatOps F] (main_arg0 : FVec F S256x2048 .fp8e4m3) (main_arg1 : FVec F S256 .f32) (main_arg2 : IVec S17 32) : IVec S16x2048x2048 1 × IVec S16 1 :=
  let main_v0 : IVec S16 32 := (extractStridedSlice S16 ![0] · slices_S17_S16_0) main_arg2
  let main_v1 : IVec S16 32 := (extractStridedSlice S16 ![1] · slices_S17_S16_1) main_arg2
  let main_v2 : IVec S16 1 := cmpi .sle main_v0 main_v1
  let main_v3 : IVec S16x1x1 1 := broadcastInDim S16x1x1 ![0] bcast_S16_S16x1x1_0 main_v2
  let main_v4 : IVec S16x2048x2048 1 := broadcastInDim S16x2048x2048 ![0, 1, 2] bcast_S16x1x1_S16x2048x2048_0_1_2 main_v3
  let main_c : IVec S_ 1 := constantI S_ 1 1#1
  let main_v5 : IVec S16 1 := broadcastInDim S16 ![] bcast_S_S16 main_c
  (main_v4, main_v5)
-- ==== Kernel.lean ====
abbrev S256x2048 : Shape := ⟨2, ![256, 2048]⟩
abbrev S256 : Shape := ⟨1, ![256]⟩
abbrev S17 : Shape := ⟨1, ![17]⟩
abbrev S1x256 : Shape := ⟨2, ![1, 256]⟩
abbrev S16x2048x2048 : Shape := ⟨3, ![16, 2048, 2048]⟩
abbrev S16 : Shape := ⟨1, ![16]⟩
abbrev S2048x256 : Shape := ⟨2, ![2048, 256]⟩
abbrev S8x256x2048 : Shape := ⟨3, ![8, 256, 2048]⟩
abbrev S2 : Shape := ⟨1, ![2]⟩
abbrev S_ : Shape := ⟨0, ![]⟩
abbrev S8 : Shape := ⟨1, ![8]⟩
abbrev S1 : Shape := ⟨1, ![1]⟩
abbrev S1x256x2048 : Shape := ⟨3, ![1, 256, 2048]⟩
abbrev S8x256 : Shape := ⟨2, ![8, 256]⟩
abbrev S256x8 : Shape := ⟨2, ![256, 8]⟩
abbrev S256x1 : Shape := ⟨2, ![256, 1]⟩
abbrev S256x256 : Shape := ⟨2, ![256, 256]⟩
abbrev S128x256 : Shape := ⟨2, ![128, 256]⟩

abbrev nBuf : Space → Nat
  | .hbm => 6
  | .vmem => 6
  | .smem => 2
  | _ => 0

abbrev bufTy : (tb : Table) → Fin (tcTables nBuf tb) → BufTy
  | .hbm, ⟨0, _⟩ => ⟨S256x2048, .fp8e4m3⟩
  | .hbm, ⟨1, _⟩ => ⟨S256, .f32⟩
  | .hbm, ⟨2, _⟩ => ⟨S17, .i32⟩
  | .hbm, ⟨3, _⟩ => ⟨S1x256, .f32⟩
  | .hbm, ⟨4, _⟩ => ⟨S16x2048x2048, .f32⟩
  | .hbm, ⟨5, _⟩ => ⟨S16, .i32⟩
  | .local _ .vmem, ⟨0, _⟩ => ⟨S256x2048, .fp8e4m3⟩
  | .local _ .vmem, ⟨1, _⟩ => ⟨S1x256, .f32⟩
  | .local _ .vmem, ⟨2, _⟩ => ⟨S256x2048, .bf16⟩
  | .local _ .vmem, ⟨3, _⟩ => ⟨S2048x256, .bf16⟩
  | .local _ .vmem, ⟨4, _⟩ => ⟨S256x2048, .f32⟩
  | .local _ .vmem, ⟨5, _⟩ => ⟨S8x256x2048, .f32⟩
  | .local _ .smem, ⟨0, _⟩ => ⟨S17, .i32⟩
  | .local _ .smem, ⟨1, _⟩ => ⟨S16, .i32⟩
  | _, _ => ⟨S256x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1

abbrev nD : Nat := 1
abbrev τ : Topo := Topo.v7x

variable {F : FTy → Type} [BitOps F]

abbrev grid0 : Pipeline.Grid := .none

@[reducible] def k0_t1_loop : Scf.Loop 32 :=
  let c0_i32_2 : BitVec 32 := 0#32
  let c16_i32 : BitVec 32 := 16#32
  let v8 : BitVec 32 := Scalar.addi c0_i32_2 c16_i32
  let c1_i32_3 : BitVec 32 := 1#32
  ⟨c0_i32_2, v8, c1_i32_3⟩
def k0_off1 (k0_t1 : Fin k0_t1_loop.trips) : Fin 1 → Nat :=
  let c0_i32_2 : BitVec 32 := 0#32
  let c1_i32_3 : BitVec 32 := 1#32
  let arg14 : BitVec 32 := Scf.iv c0_i32_2 c1_i32_3 k0_t1
  let c1_i32_30 : BitVec 32 := 1#32
  let v45 : BitVec 32 := Scalar.addi arg14 c1_i32_30
  let v46 : Index := Scalar.indexCast v45
  ![v46.toNat]
def k0_off2 (k0_t1 : Fin k0_t1_loop.trips) : Fin 1 → Nat :=
  let c0_i32_2 : BitVec 32 := 0#32
  let c1_i32_3 : BitVec 32 := 1#32
  let arg14 : BitVec 32 := Scf.iv c0_i32_2 c1_i32_3 k0_t1
  let v48 : Index := Scalar.indexCast arg14
  ![v48.toNat]
def k0_off3 (k0_t1 : Fin k0_t1_loop.trips) : Fin 1 → Nat :=
  let c0_i32_2 : BitVec 32 := 0#32
  let c1_i32_3 : BitVec 32 := 1#32
  let arg14 : BitVec 32 := Scf.iv c0_i32_2 c1_i32_3 k0_t1
  let v51 : Index := Scalar.indexCast arg14
  ![v51.toNat]
@[reducible] def k0_t2_loop (v47 : BitVec 32) (v49 : BitVec 32) : Scf.Loop 32 :=
  let c0_i32_35 : BitVec 32 := 0#32
  let v50 : BitVec 32 := Scalar.subi v47 v49
  let c0_i32_31 : BitVec 32 := 0#32
  let v53 : BitVec 1 := Scalar.cmpi .eq v50 c0_i32_31
  let c8_i32_32 : BitVec 32 := 8#32
  let c0_i32_33 : BitVec 32 := 0#32
  let v54 : BitVec 32 := Scalar.select v53 c8_i32_32 c0_i32_33
  let v55 : BitVec 32 := Scalar.subi v54 c0_i32_35
  let c1_i32_36 : BitVec 32 := 1#32
  let v57 : BitVec 32 := Scalar.divsi v55 c1_i32_36
  let v58 : BitVec 32 := Scalar.muli v57 c1_i32_36
  let v59 : BitVec 32 := Scalar.addi c0_i32_35 v58
  let c1_i32_37 : BitVec 32 := 1#32
  ⟨c0_i32_35, v59, c1_i32_37⟩

def k0_mult1 (v47 : BitVec 32) (v49 : BitVec 32) (k0_t2 : Fin (k0_t2_loop v47 v49).trips) : BitVec 32 :=
  let c0_i32_35 : BitVec 32 := 0#32
  let c1_i32_37 : BitVec 32 := 1#32
  let arg16 : BitVec 32 := Scf.iv c0_i32_35 c1_i32_37 k0_t2
  let c256_i32 : BitVec 32 := 256#32
  let v61 : BitVec 32 := Scalar.muli arg16 c256_i32
  v61
def k0_off4 (k0_t1 : Fin k0_t1_loop.trips) (v47 : BitVec 32) (v49 : BitVec 32) (k0_t2 : Fin (k0_t2_loop v47 v49).trips) : Fin 3 → Nat :=
  let c0_i32_2 : BitVec 32 := 0#32
  let c1_i32_3 : BitVec 32 := 1#32
  let arg14 : BitVec 32 := Scf.iv c0_i32_2 c1_i32_3 k0_t1
  let c0_i32_35 : BitVec 32 := 0#32
  let c1_i32_37 : BitVec 32 := 1#32
  let arg16 : BitVec 32 := Scf.iv c0_i32_35 c1_i32_37 k0_t2
  let c256_i32 : BitVec 32 := 256#32
  let v61 : BitVec 32 := Scalar.muli arg16 c256_i32
  let v62 : BitVec 32 := v61
  let c0_i32_39 : BitVec 32 := 0#32
  ![arg14.toNat, v62.toNat, 0]
@[reducible] def k0_t3_loop (v47 : BitVec 32) (v49 : BitVec 32) : Scf.Loop 32 :=
  let c0_i32_35 : BitVec 32 := 0#32
  let v50 : BitVec 32 := Scalar.subi v47 v49
  let c0_i32_31 : BitVec 32 := 0#32
  let v53 : BitVec 1 := Scalar.cmpi .eq v50 c0_i32_31
  let c8_i32_32 : BitVec 32 := 8#32
  let c0_i32_33 : BitVec 32 := 0#32
  let v54 : BitVec 32 := Scalar.select v53 c8_i32_32 c0_i32_33
  let v55 : BitVec 32 := Scalar.subi v54 c0_i32_35
  let c1_i32_36 : BitVec 32 := 1#32
  let v57 : BitVec 32 := Scalar.divsi v55 c1_i32_36
  let v58 : BitVec 32 := Scalar.muli v57 c1_i32_36
  let v59 : BitVec 32 := Scalar.addi c0_i32_35 v58
  let v56 : BitVec 32 := Scalar.addi c0_i32_35 v55
  let c1_i32_38 : BitVec 32 := 1#32
  ⟨v59, v56, c1_i32_38⟩
def k0_mult2 (v47 : BitVec 32) (v49 : BitVec 32) (k0_t3 : Fin (k0_t3_loop v47 v49).trips) : BitVec 32 :=
  let c0_i32_35 : BitVec 32 := 0#32
  let v50 : BitVec 32 := Scalar.subi v47 v49
  let c0_i32_31 : BitVec 32 := 0#32
  let v53 : BitVec 1 := Scalar.cmpi .eq v50 c0_i32_31
  let c8_i32_32 : BitVec 32 := 8#32
  let c0_i32_33 : BitVec 32 := 0#32
  let v54 : BitVec 32 := Scalar.select v53 c8_i32_32 c0_i32_33
  let v55 : BitVec 32 := Scalar.subi v54 c0_i32_35
  let c1_i32_36 : BitVec 32 := 1#32
  let v57 : BitVec 32 := Scalar.divsi v55 c1_i32_36
  let v58 : BitVec 32 := Scalar.muli v57 c1_i32_36
  let v59 : BitVec 32 := Scalar.addi c0_i32_35 v58
  let c1_i32_38 : BitVec 32 := 1#32
  let arg16 : BitVec 32 := Scf.iv v59 c1_i32_38 k0_t3
  let c256_i32 : BitVec 32 := 256#32
  let v61 : BitVec 32 := Scalar.muli arg16 c256_i32
  v61
def k0_off5 (k0_t1 : Fin k0_t1_loop.trips) (v47 : BitVec 32) (v49 : BitVec 32) (k0_t3 : Fin (k0_t3_loop v47 v49).trips) : Fin 3 → Nat :=
  let c0_i32_2 : BitVec 32 := 0#32
  let c1_i32_3 : BitVec 32 := 1#32
  let arg14 : BitVec 32 := Scf.iv c0_i32_2 c1_i32_3 k0_t1
  let c0_i32_35 : BitVec 32 := 0#32
  let v50 : BitVec 32 := Scalar.subi v47 v49
  let c0_i32_31 : BitVec 32 := 0#32
  let v53 : BitVec 1 := Scalar.cmpi .eq v50 c0_i32_31
  let c8_i32_32 : BitVec 32 := 8#32
  let c0_i32_33 : BitVec 32 := 0#32
  let v54 : BitVec 32 := Scalar.select v53 c8_i32_32 c0_i32_33
  let v55 : BitVec 32 := Scalar.subi v54 c0_i32_35
  let c1_i32_36 : BitVec 32 := 1#32
  let v57 : BitVec 32 := Scalar.divsi v55 c1_i32_36
  let v58 : BitVec 32 := Scalar.muli v57 c1_i32_36
  let v59 : BitVec 32 := Scalar.addi c0_i32_35 v58
  let c1_i32_38 : BitVec 32 := 1#32
  let arg16 : BitVec 32 := Scf.iv v59 c1_i32_38 k0_t3
  let c256_i32 : BitVec 32 := 256#32
  let v61 : BitVec 32 := Scalar.muli arg16 c256_i32
  let v62 : BitVec 32 := v61
  let c0_i32_39 : BitVec 32 := 0#32
  ![arg14.toNat, v62.toNat, 0]

def k0_chk1 (k0_t1 : Fin k0_t1_loop.trips) (v47 : BitVec 32) (v49 : BitVec 32) : Prop :=
  ((k0_t2_loop v47 v49).OK) ∧
  (∀ k0_t2 : Fin (k0_t2_loop v47 v49).trips, 256 ∣ (k0_mult1 v47 v49 k0_t2).toNat) ∧
  (∀ k0_t2 : Fin (k0_t2_loop v47 v49).trips, ∀ a, (k0_off4 k0_t1 v47 v49 k0_t2) a + S1x256x2048.size a ≤ S16x2048x2048.size a) ∧
  ((k0_t3_loop v47 v49).OK) ∧
  (∀ k0_t3 : Fin (k0_t3_loop v47 v49).trips, 256 ∣ (k0_mult2 v47 v49 k0_t3).toNat) ∧
  (∀ k0_t3 : Fin (k0_t3_loop v47 v49).trips, ∀ a, (k0_off5 k0_t1 v47 v49 k0_t3) a + S1x256x2048.size a ≤ S16x2048x2048.size a)
theorem k0_t2_ok : ∀ (k0_t1 : Fin k0_t1_loop.trips) (v47 : BitVec 32) (v49 : BitVec 32) (k0_hw1 : k0_chk1 k0_t1 v47 v49), (k0_t2_loop v47 v49).OK := fun k0_t1 v47 v49 k0_hw1 => k0_hw1.1
theorem k0_mult1_dvd : ∀ (k0_t1 : Fin k0_t1_loop.trips) (v47 : BitVec 32) (v49 : BitVec 32) (k0_hw1 : k0_chk1 k0_t1 v47 v49) (k0_t2 : Fin (k0_t2_loop v47 v49).trips), 256 ∣ (k0_mult1 v47 v49 k0_t2).toNat := fun k0_t1 v47 v49 k0_hw1 k0_t2 => k0_hw1.2.1 k0_t2
theorem k0_off4_inb : ∀ (k0_t1 : Fin k0_t1_loop.trips) (v47 : BitVec 32) (v49 : BitVec 32) (k0_hw1 : k0_chk1 k0_t1 v47 v49) (k0_t2 : Fin (k0_t2_loop v47 v49).trips), ∀ a, (k0_off4 k0_t1 v47 v49 k0_t2) a + S1x256x2048.size a ≤ S16x2048x2048.size a := fun k0_t1 v47 v49 k0_hw1 k0_t2 => k0_hw1.2.2.1 k0_t2
theorem k0_t3_ok : ∀ (k0_t1 : Fin k0_t1_loop.trips) (v47 : BitVec 32) (v49 : BitVec 32) (k0_hw1 : k0_chk1 k0_t1 v47 v49), (k0_t3_loop v47 v49).OK := fun k0_t1 v47 v49 k0_hw1 => k0_hw1.2.2.2.1
theorem k0_mult2_dvd : ∀ (k0_t1 : Fin k0_t1_loop.trips) (v47 : BitVec 32) (v49 : BitVec 32) (k0_hw1 : k0_chk1 k0_t1 v47 v49) (k0_t3 : Fin (k0_t3_loop v47 v49).trips), 256 ∣ (k0_mult2 v47 v49 k0_t3).toNat := fun k0_t1 v47 v49 k0_hw1 k0_t3 => k0_hw1.2.2.2.2.1 k0_t3
theorem k0_off5_inb : ∀ (k0_t1 : Fin k0_t1_loop.trips) (v47 : BitVec 32) (v49 : BitVec 32) (k0_hw1 : k0_chk1 k0_t1 v47 v49) (k0_t3 : Fin (k0_t3_loop v47 v49).trips), ∀ a, (k0_off5 k0_t1 v47 v49 k0_t3) a + S1x256x2048.size a ≤ S16x2048x2048.size a := fun k0_t1 v47 v49 k0_hw1 k0_t3 => k0_hw1.2.2.2.2.2 k0_t3

@[reducible] def k0_t4_loop : Scf.Loop 32 :=
  let c0_i32_16 : BitVec 32 := 0#32
  let c16_i32_17 : BitVec 32 := 16#32
  let v32 : BitVec 32 := Scalar.addi c0_i32_16 c16_i32_17
  let c1_i32_18 : BitVec 32 := 1#32
  ⟨c0_i32_16, v32, c1_i32_18⟩
def k0_off6 (k0_t4 : Fin k0_t4_loop.trips) : Fin 1 → Nat :=
  let c0_i32_16 : BitVec 32 := 0#32
  let c1_i32_18 : BitVec 32 := 1#32
  let arg14 : BitVec 32 := Scf.iv c0_i32_16 c1_i32_18 k0_t4
  let v45 : Index := Scalar.indexCast arg14
  ![v45.toNat]
def k0_off7 (k0_t4 : Fin k0_t4_loop.trips) : Fin 1 → Nat :=
  let c0_i32_16 : BitVec 32 := 0#32
  let c1_i32_18 : BitVec 32 := 1#32
  let arg14 : BitVec 32 := Scf.iv c0_i32_16 c1_i32_18 k0_t4
  let c1_i32_30 : BitVec 32 := 1#32
  let v47 : BitVec 32 := Scalar.addi arg14 c1_i32_30
  let v48 : Index := Scalar.indexCast v47
  ![v48.toNat]
@[reducible] def k0_t5_loop (v46 : BitVec 32) (v49 : BitVec 32) : Scf.Loop 32 :=
  let c0_i32_34 : BitVec 32 := 0#32
  let v58 : BitVec 1 := Scalar.cmpi .sgt v49 v46
  let c8_i32_32 : BitVec 32 := 8#32
  let c0_i32_33 : BitVec 32 := 0#32
  let v59 : BitVec 32 := Scalar.select v58 c8_i32_32 c0_i32_33
  let v60 : BitVec 32 := Scalar.subi v59 c0_i32_34
  let c1_i32_35 : BitVec 32 := 1#32
  let v62 : BitVec 32 := Scalar.divsi v60 c1_i32_35
  let v63 : BitVec 32 := Scalar.muli v62 c1_i32_35
  let v64 : BitVec 32 := Scalar.addi c0_i32_34 v63
  let c1_i32_36 : BitVec 32 := 1#32
  ⟨c0_i32_34, v64, c1_i32_36⟩

def k0_mult3 (v46 : BitVec 32) (v49 : BitVec 32) (k0_t5 : Fin (k0_t5_loop v46 v49).trips) : BitVec 32 :=
  let c0_i32_34 : BitVec 32 := 0#32
  let c1_i32_36 : BitVec 32 := 1#32
  let arg16 : BitVec 32 := Scf.iv c0_i32_34 c1_i32_36 k0_t5
  let c256_i32_54 : BitVec 32 := 256#32
  let v98 : BitVec 32 := Scalar.muli arg16 c256_i32_54
  v98
def k0_cond1 (arg17 : BitVec 32) : BitVec 1 :=
  let c8_i32_39 : BitVec 32 := 8#32
  let v68 : BitVec 1 := Scalar.cmpi .sge arg17 c8_i32_39
  let v69 : BitVec 32 := Scalar.extui v68
  let c0_i32_40 : BitVec 32 := 0#32
  let v70 : BitVec 1 := Scalar.cmpi .ne v69 c0_i32_40
  v70

def k0_off8 (arg17 : BitVec 32) : Fin 1 → Nat :=
  let c8_i32_38 : BitVec 32 := 8#32
  let v67 : BitVec 32 := Scalar.remsi arg17 c8_i32_38
  ![v67.toNat]
def k0_off9 (k0_t4 : Fin k0_t4_loop.trips) (v46 : BitVec 32) (v49 : BitVec 32) (k0_t5 : Fin (k0_t5_loop v46 v49).trips) : Fin 3 → Nat :=
  let c0_i32_16 : BitVec 32 := 0#32
  let c1_i32_18 : BitVec 32 := 1#32
  let arg14 : BitVec 32 := Scf.iv c0_i32_16 c1_i32_18 k0_t4
  let c0_i32_34 : BitVec 32 := 0#32
  let c1_i32_36 : BitVec 32 := 1#32
  let arg16 : BitVec 32 := Scf.iv c0_i32_34 c1_i32_36 k0_t5
  let c256_i32_54 : BitVec 32 := 256#32
  let v98 : BitVec 32 := Scalar.muli arg16 c256_i32_54
  let v99 : BitVec 32 := v98
  let c0_i32_55 : BitVec 32 := 0#32
  ![arg14.toNat, v99.toNat, 0]
def k0_off10 (arg17 : BitVec 32) : Fin 3 → Nat :=
  let c8_i32_38 : BitVec 32 := 8#32
  let v67 : BitVec 32 := Scalar.remsi arg17 c8_i32_38
  let c0_i32_56 : BitVec 32 := 0#32
  let c0_i32_57 : BitVec 32 := 0#32
  ![v67.toNat, 0, 0]
def k0_mult4 (v46 : BitVec 32) (v49 : BitVec 32) (k0_t5 : Fin (k0_t5_loop v46 v49).trips) : BitVec 32 :=
  let c0_i32_34 : BitVec 32 := 0#32
  let c1_i32_36 : BitVec 32 := 1#32
  let arg16 : BitVec 32 := Scf.iv c0_i32_34 c1_i32_36 k0_t5
  let c256_i32 : BitVec 32 := 256#32
  let v71 : BitVec 32 := Scalar.muli arg16 c256_i32
  v71
def k0_off11 (v46 : BitVec 32) (v49 : BitVec 32) (k0_t5 : Fin (k0_t5_loop v46 v49).trips) : Fin 2 → Nat :=
  let c0_i32_34 : BitVec 32 := 0#32
  let c1_i32_36 : BitVec 32 := 1#32
  let arg16 : BitVec 32 := Scf.iv c0_i32_34 c1_i32_36 k0_t5
  let c256_i32 : BitVec 32 := 256#32
  let v71 : BitVec 32 := Scalar.muli arg16 c256_i32
  let v72 : BitVec 32 := v71
  let v73 : Index := Scalar.indexCast v72
  let c0_41 : Index := 0#32
  ![v73.toNat, 0]
def k0_off12 (arg17 : BitVec 32) : Fin 3 → Nat :=
  let c8_i32_38 : BitVec 32 := 8#32
  let v67 : BitVec 32 := Scalar.remsi arg17 c8_i32_38
  let v85 : Index := Scalar.indexCast v67
  let c0_47 : Index := 0#32
  let c0_48 : Index := 0#32
  ![v85.toNat, 0, 0]
def k0_mult5 (v46 : BitVec 32) (v49 : BitVec 32) (k0_t5 : Fin (k0_t5_loop v46 v49).trips) : BitVec 32 :=
  let c0_i32_34 : BitVec 32 := 0#32
  let c1_i32_36 : BitVec 32 := 1#32
  let arg16 : BitVec 32 := Scf.iv c0_i32_34 c1_i32_36 k0_t5
  let c256_i32_49 : BitVec 32 := 256#32
  let v89 : BitVec 32 := Scalar.muli arg16 c256_i32_49
  v89
def k0_off13 (arg17 : BitVec 32) : Fin 1 → Nat :=
  let c8_i32_38 : BitVec 32 := 8#32
  let v67 : BitVec 32 := Scalar.remsi arg17 c8_i32_38
  ![v67.toNat]
def k0_off14 (k0_t4 : Fin k0_t4_loop.trips) (v46 : BitVec 32) (v49 : BitVec 32) (k0_t5 : Fin (k0_t5_loop v46 v49).trips) : Fin 3 → Nat :=
  let c0_i32_16 : BitVec 32 := 0#32
  let c1_i32_18 : BitVec 32 := 1#32
  let arg14 : BitVec 32 := Scf.iv c0_i32_16 c1_i32_18 k0_t4
  let c0_i32_34 : BitVec 32 := 0#32
  let c1_i32_36 : BitVec 32 := 1#32
  let arg16 : BitVec 32 := Scf.iv c0_i32_34 c1_i32_36 k0_t5
  let c256_i32_49 : BitVec 32 := 256#32
  let v89 : BitVec 32 := Scalar.muli arg16 c256_i32_49
  let v90 : BitVec 32 := v89
  let c0_i32_50 : BitVec 32 := 0#32
  ![arg14.toNat, v90.toNat, 0]
def k0_off15 (arg17 : BitVec 32) : Fin 3 → Nat :=
  let c8_i32_38 : BitVec 32 := 8#32
  let v67 : BitVec 32 := Scalar.remsi arg17 c8_i32_38
  let c0_i32_51 : BitVec 32 := 0#32
  let c0_i32_52 : BitVec 32 := 0#32
  ![v67.toNat, 0, 0]

def k0_chk3 (k0_t4 : Fin k0_t4_loop.trips) (v46 : BitVec 32) (v49 : BitVec 32) (k0_t5 : Fin (k0_t5_loop v46 v49).trips) (arg17 : BitVec 32) : Prop :=
  (∀ (k0_h1 : k0_cond1 arg17 = 1#1), 256 ∣ (k0_mult3 v46 v49 k0_t5).toNat) ∧
  (∀ (k0_h1 : k0_cond1 arg17 = 1#1), ∀ a, (k0_off8 arg17) a + S1.size a ≤ S8.size a) ∧
  (∀ (k0_h1 : k0_cond1 arg17 = 1#1), ∀ a, (k0_off9 k0_t4 v46 v49 k0_t5) a + S1x256x2048.size a ≤ S16x2048x2048.size a) ∧
  (∀ (k0_h1 : k0_cond1 arg17 = 1#1), ∀ a, (k0_off10 arg17) a + S1x256x2048.size a ≤ S8x256x2048.size a) ∧
  (∀ a, (k0_off12 arg17) a + S1x256x2048.size a ≤ S8x256x2048.size a) ∧
  (∀ a, (k0_off13 arg17) a + S1.size a ≤ S8.size a) ∧
  (∀ a, (k0_off15 arg17) a + S1x256x2048.size a ≤ S8x256x2048.size a)
theorem k0_mult3_dvd : ∀ (k0_t4 : Fin k0_t4_loop.trips) (v46 : BitVec 32) (v49 : BitVec 32) (k0_t5 : Fin (k0_t5_loop v46 v49).trips) (arg17 : BitVec 32) (k0_hw3 : k0_chk3 k0_t4 v46 v49 k0_t5 arg17), ∀ (k0_h1 : k0_cond1 arg17 = 1#1), 256 ∣ (k0_mult3 v46 v49 k0_t5).toNat := fun k0_t4 v46 v49 k0_t5 arg17 k0_hw3 k0_h1 => k0_hw3.1 k0_h1
theorem k0_off8_inb : ∀ (k0_t4 : Fin k0_t4_loop.trips) (v46 : BitVec 32) (v49 : BitVec 32) (k0_t5 : Fin (k0_t5_loop v46 v49).trips) (arg17 : BitVec 32) (k0_hw3 : k0_chk3 k0_t4 v46 v49 k0_t5 arg17), ∀ (k0_h1 : k0_cond1 arg17 = 1#1), ∀ a, (k0_off8 arg17) a + S1.size a ≤ S8.size a := fun k0_t4 v46 v49 k0_t5 arg17 k0_hw3 k0_h1 => k0_hw3.2.1 k0_h1
theorem k0_off9_inb : ∀ (k0_t4 : Fin k0_t4_loop.trips) (v46 : BitVec 32) (v49 : BitVec 32) (k0_t5 : Fin (k0_t5_loop v46 v49).trips) (arg17 : BitVec 32) (k0_hw3 : k0_chk3 k0_t4 v46 v49 k0_t5 arg17), ∀ (k0_h1 : k0_cond1 arg17 = 1#1), ∀ a, (k0_off9 k0_t4 v46 v49 k0_t5) a + S1x256x2048.size a ≤ S16x2048x2048.size a := fun k0_t4 v46 v49 k0_t5 arg17 k0_hw3 k0_h1 => k0_hw3.2.2.1 k0_h1
theorem k0_off10_inb : ∀ (k0_t4 : Fin k0_t4_loop.trips) (v46 : BitVec 32) (v49 : BitVec 32) (k0_t5 : Fin (k0_t5_loop v46 v49).trips) (arg17 : BitVec 32) (k0_hw3 : k0_chk3 k0_t4 v46 v49 k0_t5 arg17), ∀ (k0_h1 : k0_cond1 arg17 = 1#1), ∀ a, (k0_off10 arg17) a + S1x256x2048.size a ≤ S8x256x2048.size a := fun k0_t4 v46 v49 k0_t5 arg17 k0_hw3 k0_h1 => k0_hw3.2.2.2.1 k0_h1
theorem k0_off12_inb : ∀ (k0_t4 : Fin k0_t4_loop.trips) (v46 : BitVec 32) (v49 : BitVec 32) (k0_t5 : Fin (k0_t5_loop v46 v49).trips) (arg17 : BitVec 32) (k0_hw3 : k0_chk3 k0_t4 v46 v49 k0_t5 arg17), ∀ a, (k0_off12 arg17) a + S1x256x2048.size a ≤ S8x256x2048.size a := fun k0_t4 v46 v49 k0_t5 arg17 k0_hw3 => k0_hw3.2.2.2.2.1
theorem k0_off13_inb : ∀ (k0_t4 : Fin k0_t4_loop.trips) (v46 : BitVec 32) (v49 : BitVec 32) (k0_t5 : Fin (k0_t5_loop v46 v49).trips) (arg17 : BitVec 32) (k0_hw3 : k0_chk3 k0_t4 v46 v49 k0_t5 arg17), ∀ a, (k0_off13 arg17) a + S1.size a ≤ S8.size a := fun k0_t4 v46 v49 k0_t5 arg17 k0_hw3 => k0_hw3.2.2.2.2.2.1
theorem k0_off15_inb : ∀ (k0_t4 : Fin k0_t4_loop.trips) (v46 : BitVec 32) (v49 : BitVec 32) (k0_t5 : Fin (k0_t5_loop v46 v49).trips) (arg17 : BitVec 32) (k0_hw3 : k0_chk3 k0_t4 v46 v49 k0_t5 arg17), ∀ a, (k0_off15 arg17) a + S1x256x2048.size a ≤ S8x256x2048.size a := fun k0_t4 v46 v49 k0_t5 arg17 k0_hw3 => k0_hw3.2.2.2.2.2.2

@[reducible] def k0_t6_loop (v46 : BitVec 32) (v49 : BitVec 32) : Scf.Loop 32 :=
  let c0_i32_34 : BitVec 32 := 0#32
  let v58 : BitVec 1 := Scalar.cmpi .sgt v49 v46
  let c8_i32_32 : BitVec 32 := 8#32
  let c0_i32_33 : BitVec 32 := 0#32
  let v59 : BitVec 32 := Scalar.select v58 c8_i32_32 c0_i32_33
  let v60 : BitVec 32 := Scalar.subi v59 c0_i32_34
  let c1_i32_35 : BitVec 32 := 1#32
  let v62 : BitVec 32 := Scalar.divsi v60 c1_i32_35
  let v63 : BitVec 32 := Scalar.muli v62 c1_i32_35
  let v64 : BitVec 32 := Scalar.addi c0_i32_34 v63
  let v61 : BitVec 32 := Scalar.addi c0_i32_34 v60
  let c1_i32_37 : BitVec 32 := 1#32
  ⟨v64, v61, c1_i32_37⟩
def k0_mult6 (v46 : BitVec 32) (v49 : BitVec 32) (k0_t6 : Fin (k0_t6_loop v46 v49).trips) : BitVec 32 :=
  let c0_i32_34 : BitVec 32 := 0#32
  let v58 : BitVec 1 := Scalar.cmpi .sgt v49 v46
  let c8_i32_32 : BitVec 32 := 8#32
  let c0_i32_33 : BitVec 32 := 0#32
  let v59 : BitVec 32 := Scalar.select v58 c8_i32_32 c0_i32_33
  let v60 : BitVec 32 := Scalar.subi v59 c0_i32_34
  let c1_i32_35 : BitVec 32 := 1#32
  let v62 : BitVec 32 := Scalar.divsi v60 c1_i32_35
  let v63 : BitVec 32 := Scalar.muli v62 c1_i32_35
  let v64 : BitVec 32 := Scalar.addi c0_i32_34 v63
  let c1_i32_37 : BitVec 32 := 1#32
  let arg16 : BitVec 32 := Scf.iv v64 c1_i32_37 k0_t6
  let c256_i32_54 : BitVec 32 := 256#32
  let v98 : BitVec 32 := Scalar.muli arg16 c256_i32_54
  v98
def k0_cond2 (arg17 : BitVec 32) : BitVec 1 :=
  let c8_i32_39 : BitVec 32 := 8#32
  let v68 : BitVec 1 := Scalar.cmpi .sge arg17 c8_i32_39
  let v69 : BitVec 32 := Scalar.extui v68
  let c0_i32_40 : BitVec 32 := 0#32
  let v70 : BitVec 1 := Scalar.cmpi .ne v69 c0_i32_40
  v70

def k0_off16 (arg17 : BitVec 32) : Fin 1 → Nat :=
  let c8_i32_38 : BitVec 32 := 8#32
  let v67 : BitVec 32 := Scalar.remsi arg17 c8_i32_38
  ![v67.toNat]
def k0_off17 (k0_t4 : Fin k0_t4_loop.trips) (v46 : BitVec 32) (v49 : BitVec 32) (k0_t6 : Fin (k0_t6_loop v46 v49).trips) : Fin 3 → Nat :=
  let c0_i32_16 : BitVec 32 := 0#32
  let c1_i32_18 : BitVec 32 := 1#32
  let arg14 : BitVec 32 := Scf.iv c0_i32_16 c1_i32_18 k0_t4
  let c0_i32_34 : BitVec 32 := 0#32
  let v58 : BitVec 1 := Scalar.cmpi .sgt v49 v46
  let c8_i32_32 : BitVec 32 := 8#32
  let c0_i32_33 : BitVec 32 := 0#32
  let v59 : BitVec 32 := Scalar.select v58 c8_i32_32 c0_i32_33
  let v60 : BitVec 32 := Scalar.subi v59 c0_i32_34
  let c1_i32_35 : BitVec 32 := 1#32
  let v62 : BitVec 32 := Scalar.divsi v60 c1_i32_35
  let v63 : BitVec 32 := Scalar.muli v62 c1_i32_35
  let v64 : BitVec 32 := Scalar.addi c0_i32_34 v63
  let c1_i32_37 : BitVec 32 := 1#32
  let arg16 : BitVec 32 := Scf.iv v64 c1_i32_37 k0_t6
  let c256_i32_54 : BitVec 32 := 256#32
  let v98 : BitVec 32 := Scalar.muli arg16 c256_i32_54
  let v99 : BitVec 32 := v98
  let c0_i32_55 : BitVec 32 := 0#32
  ![arg14.toNat, v99.toNat, 0]
def k0_off18 (arg17 : BitVec 32) : Fin 3 → Nat :=
  let c8_i32_38 : BitVec 32 := 8#32
  let v67 : BitVec 32 := Scalar.remsi arg17 c8_i32_38
  let c0_i32_56 : BitVec 32 := 0#32
  let c0_i32_57 : BitVec 32 := 0#32
  ![v67.toNat, 0, 0]
def k0_mult7 (v46 : BitVec 32) (v49 : BitVec 32) (k0_t6 : Fin (k0_t6_loop v46 v49).trips) : BitVec 32 :=
  let c0_i32_34 : BitVec 32 := 0#32
  let v58 : BitVec 1 := Scalar.cmpi .sgt v49 v46
  let c8_i32_32 : BitVec 32 := 8#32
  let c0_i32_33 : BitVec 32 := 0#32
  let v59 : BitVec 32 := Scalar.select v58 c8_i32_32 c0_i32_33
  let v60 : BitVec 32 := Scalar.subi v59 c0_i32_34
  let c1_i32_35 : BitVec 32 := 1#32
  let v62 : BitVec 32 := Scalar.divsi v60 c1_i32_35
  let v63 : BitVec 32 := Scalar.muli v62 c1_i32_35
  let v64 : BitVec 32 := Scalar.addi c0_i32_34 v63
  let c1_i32_37 : BitVec 32 := 1#32
  let arg16 : BitVec 32 := Scf.iv v64 c1_i32_37 k0_t6
  let c256_i32 : BitVec 32 := 256#32
  let v71 : BitVec 32 := Scalar.muli arg16 c256_i32
  v71
def k0_off19 (v46 : BitVec 32) (v49 : BitVec 32) (k0_t6 : Fin (k0_t6_loop v46 v49).trips) : Fin 2 → Nat :=
  let c0_i32_34 : BitVec 32 := 0#32
  let v58 : BitVec 1 := Scalar.cmpi .sgt v49 v46
  let c8_i32_32 : BitVec 32 := 8#32
  let c0_i32_33 : BitVec 32 := 0#32
  let v59 : BitVec 32 := Scalar.select v58 c8_i32_32 c0_i32_33
  let v60 : BitVec 32 := Scalar.subi v59 c0_i32_34
  let c1_i32_35 : BitVec 32 := 1#32
  let v62 : BitVec 32 := Scalar.divsi v60 c1_i32_35
  let v63 : BitVec 32 := Scalar.muli v62 c1_i32_35
  let v64 : BitVec 32 := Scalar.addi c0_i32_34 v63
  let c1_i32_37 : BitVec 32 := 1#32
  let arg16 : BitVec 32 := Scf.iv v64 c1_i32_37 k0_t6
  let c256_i32 : BitVec 32 := 256#32
  let v71 : BitVec 32 := Scalar.muli arg16 c256_i32
  let v72 : BitVec 32 := v71
  let v73 : Index := Scalar.indexCast v72
  let c0_41 : Index := 0#32
  ![v73.toNat, 0]
def k0_off20 (arg17 : BitVec 32) : Fin 3 → Nat :=
  let c8_i32_38 : BitVec 32 := 8#32
  let v67 : BitVec 32 := Scalar.remsi arg17 c8_i32_38
  let v85 : Index := Scalar.indexCast v67
  let c0_47 : Index := 0#32
  let c0_48 : Index := 0#32
  ![v85.toNat, 0, 0]
def k0_mult8 (v46 : BitVec 32) (v49 : BitVec 32) (k0_t6 : Fin (k0_t6_loop v46 v49).trips) : BitVec 32 :=
  let c0_i32_34 : BitVec 32 := 0#32
  let v58 : BitVec 1 := Scalar.cmpi .sgt v49 v46
  let c8_i32_32 : BitVec 32 := 8#32
  let c0_i32_33 : BitVec 32 := 0#32
  let v59 : BitVec 32 := Scalar.select v58 c8_i32_32 c0_i32_33
  let v60 : BitVec 32 := Scalar.subi v59 c0_i32_34
  let c1_i32_35 : BitVec 32 := 1#32
  let v62 : BitVec 32 := Scalar.divsi v60 c1_i32_35
  let v63 : BitVec 32 := Scalar.muli v62 c1_i32_35
  let v64 : BitVec 32 := Scalar.addi c0_i32_34 v63
  let c1_i32_37 : BitVec 32 := 1#32
  let arg16 : BitVec 32 := Scf.iv v64 c1_i32_37 k0_t6
  let c256_i32_49 : BitVec 32 := 256#32
  let v89 : BitVec 32 := Scalar.muli arg16 c256_i32_49
  v89
def k0_off21 (arg17 : BitVec 32) : Fin 1 → Nat :=
  let c8_i32_38 : BitVec 32 := 8#32
  let v67 : BitVec 32 := Scalar.remsi arg17 c8_i32_38
  ![v67.toNat]
def k0_off22 (k0_t4 : Fin k0_t4_loop.trips) (v46 : BitVec 32) (v49 : BitVec 32) (k0_t6 : Fin (k0_t6_loop v46 v49).trips) : Fin 3 → Nat :=
  let c0_i32_16 : BitVec 32 := 0#32
  let c1_i32_18 : BitVec 32 := 1#32
  let arg14 : BitVec 32 := Scf.iv c0_i32_16 c1_i32_18 k0_t4
  let c0_i32_34 : BitVec 32 := 0#32
  let v58 : BitVec 1 := Scalar.cmpi .sgt v49 v46
  let c8_i32_32 : BitVec 32 := 8#32
  let c0_i32_33 : BitVec 32 := 0#32
  let v59 : BitVec 32 := Scalar.select v58 c8_i32_32 c0_i32_33
  let v60 : BitVec 32 := Scalar.subi v59 c0_i32_34
  let c1_i32_35 : BitVec 32 := 1#32
  let v62 : BitVec 32 := Scalar.divsi v60 c1_i32_35
  let v63 : BitVec 32 := Scalar.muli v62 c1_i32_35
  let v64 : BitVec 32 := Scalar.addi c0_i32_34 v63
  let c1_i32_37 : BitVec 32 := 1#32
  let arg16 : BitVec 32 := Scf.iv v64 c1_i32_37 k0_t6
  let c256_i32_49 : BitVec 32 := 256#32
  let v89 : BitVec 32 := Scalar.muli arg16 c256_i32_49
  let v90 : BitVec 32 := v89
  let c0_i32_50 : BitVec 32 := 0#32
  ![arg14.toNat, v90.toNat, 0]

def k0_chk2 (k0_t4 : Fin k0_t4_loop.trips) (v46 : BitVec 32) (v49 : BitVec 32) : Prop :=
  ((k0_t5_loop v46 v49).OK) ∧
  (∀ k0_t5 : Fin (k0_t5_loop v46 v49).trips, 256 ∣ (k0_mult4 v46 v49 k0_t5).toNat) ∧
  (∀ k0_t5 : Fin (k0_t5_loop v46 v49).trips, ∀ a, (k0_off11 v46 v49 k0_t5) a + S256x256.size a ≤ S2048x256.size a) ∧
  (∀ k0_t5 : Fin (k0_t5_loop v46 v49).trips, 256 ∣ (k0_mult5 v46 v49 k0_t5).toNat) ∧
  (∀ k0_t5 : Fin (k0_t5_loop v46 v49).trips, ∀ a, (k0_off14 k0_t4 v46 v49 k0_t5) a + S1x256x2048.size a ≤ S16x2048x2048.size a) ∧
  ((k0_t6_loop v46 v49).OK) ∧
  (∀ k0_t6 : Fin (k0_t6_loop v46 v49).trips, 256 ∣ (k0_mult7 v46 v49 k0_t6).toNat) ∧
  (∀ k0_t6 : Fin (k0_t6_loop v46 v49).trips, ∀ a, (k0_off19 v46 v49 k0_t6) a + S256x256.size a ≤ S2048x256.size a) ∧
  (∀ k0_t6 : Fin (k0_t6_loop v46 v49).trips, 256 ∣ (k0_mult8 v46 v49 k0_t6).toNat) ∧
  (∀ k0_t6 : Fin (k0_t6_loop v46 v49).trips, ∀ a, (k0_off22 k0_t4 v46 v49 k0_t6) a + S1x256x2048.size a ≤ S16x2048x2048.size a)
theorem k0_t5_ok : ∀ (k0_t4 : Fin k0_t4_loop.trips) (v46 : BitVec 32) (v49 : BitVec 32) (k0_hw2 : k0_chk2 k0_t4 v46 v49), (k0_t5_loop v46 v49).OK := fun k0_t4 v46 v49 k0_hw2 => k0_hw2.1
theorem k0_mult4_dvd : ∀ (k0_t4 : Fin k0_t4_loop.trips) (v46 : BitVec 32) (v49 : BitVec 32) (k0_hw2 : k0_chk2 k0_t4 v46 v49) (k0_t5 : Fin (k0_t5_loop v46 v49).trips), 256 ∣ (k0_mult4 v46 v49 k0_t5).toNat := fun k0_t4 v46 v49 k0_hw2 k0_t5 => k0_hw2.2.1 k0_t5
theorem k0_off11_inb : ∀ (k0_t4 : Fin k0_t4_loop.trips) (v46 : BitVec 32) (v49 : BitVec 32) (k0_hw2 : k0_chk2 k0_t4 v46 v49) (k0_t5 : Fin (k0_t5_loop v46 v49).trips), ∀ a, (k0_off11 v46 v49 k0_t5) a + S256x256.size a ≤ S2048x256.size a := fun k0_t4 v46 v49 k0_hw2 k0_t5 => k0_hw2.2.2.1 k0_t5
theorem k0_mult5_dvd : ∀ (k0_t4 : Fin k0_t4_loop.trips) (v46 : BitVec 32) (v49 : BitVec 32) (k0_hw2 : k0_chk2 k0_t4 v46 v49) (k0_t5 : Fin (k0_t5_loop v46 v49).trips), 256 ∣ (k0_mult5 v46 v49 k0_t5).toNat := fun k0_t4 v46 v49 k0_hw2 k0_t5 => k0_hw2.2.2.2.1 k0_t5
theorem k0_off14_inb : ∀ (k0_t4 : Fin k0_t4_loop.trips) (v46 : BitVec 32) (v49 : BitVec 32) (k0_hw2 : k0_chk2 k0_t4 v46 v49) (k0_t5 : Fin (k0_t5_loop v46 v49).trips), ∀ a, (k0_off14 k0_t4 v46 v49 k0_t5) a + S1x256x2048.size a ≤ S16x2048x2048.size a := fun k0_t4 v46 v49 k0_hw2 k0_t5 => k0_hw2.2.2.2.2.1 k0_t5
theorem k0_t6_ok : ∀ (k0_t4 : Fin k0_t4_loop.trips) (v46 : BitVec 32) (v49 : BitVec 32) (k0_hw2 : k0_chk2 k0_t4 v46 v49), (k0_t6_loop v46 v49).OK := fun k0_t4 v46 v49 k0_hw2 => k0_hw2.2.2.2.2.2.1
theorem k0_mult7_dvd : ∀ (k0_t4 : Fin k0_t4_loop.trips) (v46 : BitVec 32) (v49 : BitVec 32) (k0_hw2 : k0_chk2 k0_t4 v46 v49) (k0_t6 : Fin (k0_t6_loop v46 v49).trips), 256 ∣ (k0_mult7 v46 v49 k0_t6).toNat := fun k0_t4 v46 v49 k0_hw2 k0_t6 => k0_hw2.2.2.2.2.2.2.1 k0_t6
theorem k0_off19_inb : ∀ (k0_t4 : Fin k0_t4_loop.trips) (v46 : BitVec 32) (v49 : BitVec 32) (k0_hw2 : k0_chk2 k0_t4 v46 v49) (k0_t6 : Fin (k0_t6_loop v46 v49).trips), ∀ a, (k0_off19 v46 v49 k0_t6) a + S256x256.size a ≤ S2048x256.size a := fun k0_t4 v46 v49 k0_hw2 k0_t6 => k0_hw2.2.2.2.2.2.2.2.1 k0_t6
theorem k0_mult8_dvd : ∀ (k0_t4 : Fin k0_t4_loop.trips) (v46 : BitVec 32) (v49 : BitVec 32) (k0_hw2 : k0_chk2 k0_t4 v46 v49) (k0_t6 : Fin (k0_t6_loop v46 v49).trips), 256 ∣ (k0_mult8 v46 v49 k0_t6).toNat := fun k0_t4 v46 v49 k0_hw2 k0_t6 => k0_hw2.2.2.2.2.2.2.2.2.1 k0_t6
theorem k0_off22_inb : ∀ (k0_t4 : Fin k0_t4_loop.trips) (v46 : BitVec 32) (v49 : BitVec 32) (k0_hw2 : k0_chk2 k0_t4 v46 v49) (k0_t6 : Fin (k0_t6_loop v46 v49).trips), ∀ a, (k0_off22 k0_t4 v46 v49 k0_t6) a + S1x256x2048.size a ≤ S16x2048x2048.size a := fun k0_t4 v46 v49 k0_hw2 k0_t6 => k0_hw2.2.2.2.2.2.2.2.2.2 k0_t6

def k0_off23 (arg17 : BitVec 32) : Fin 3 → Nat :=
  let c8_i32_38 : BitVec 32 := 8#32
  let v67 : BitVec 32 := Scalar.remsi arg17 c8_i32_38
  let c0_i32_51 : BitVec 32 := 0#32
  let c0_i32_52 : BitVec 32 := 0#32
  ![v67.toNat, 0, 0]

def k0_chk4 (k0_t4 : Fin k0_t4_loop.trips) (v46 : BitVec 32) (v49 : BitVec 32) (k0_t6 : Fin (k0_t6_loop v46 v49).trips) (arg17 : BitVec 32) : Prop :=
  (∀ (k0_h2 : k0_cond2 arg17 = 1#1), 256 ∣ (k0_mult6 v46 v49 k0_t6).toNat) ∧
  (∀ (k0_h2 : k0_cond2 arg17 = 1#1), ∀ a, (k0_off16 arg17) a + S1.size a ≤ S8.size a) ∧
  (∀ (k0_h2 : k0_cond2 arg17 = 1#1), ∀ a, (k0_off17 k0_t4 v46 v49 k0_t6) a + S1x256x2048.size a ≤ S16x2048x2048.size a) ∧
  (∀ (k0_h2 : k0_cond2 arg17 = 1#1), ∀ a, (k0_off18 arg17) a + S1x256x2048.size a ≤ S8x256x2048.size a) ∧
  (∀ a, (k0_off20 arg17) a + S1x256x2048.size a ≤ S8x256x2048.size a) ∧
  (∀ a, (k0_off21 arg17) a + S1.size a ≤ S8.size a) ∧
  (∀ a, (k0_off23 arg17) a + S1x256x2048.size a ≤ S8x256x2048.size a)
theorem k0_mult6_dvd : ∀ (k0_t4 : Fin k0_t4_loop.trips) (v46 : BitVec 32) (v49 : BitVec 32) (k0_t6 : Fin (k0_t6_loop v46 v49).trips) (arg17 : BitVec 32) (k0_hw4 : k0_chk4 k0_t4 v46 v49 k0_t6 arg17), ∀ (k0_h2 : k0_cond2 arg17 = 1#1), 256 ∣ (k0_mult6 v46 v49 k0_t6).toNat := fun k0_t4 v46 v49 k0_t6 arg17 k0_hw4 k0_h2 => k0_hw4.1 k0_h2
theorem k0_off16_inb : ∀ (k0_t4 : Fin k0_t4_loop.trips) (v46 : BitVec 32) (v49 : BitVec 32) (k0_t6 : Fin (k0_t6_loop v46 v49).trips) (arg17 : BitVec 32) (k0_hw4 : k0_chk4 k0_t4 v46 v49 k0_t6 arg17), ∀ (k0_h2 : k0_cond2 arg17 = 1#1), ∀ a, (k0_off16 arg17) a + S1.size a ≤ S8.size a := fun k0_t4 v46 v49 k0_t6 arg17 k0_hw4 k0_h2 => k0_hw4.2.1 k0_h2
theorem k0_off17_inb : ∀ (k0_t4 : Fin k0_t4_loop.trips) (v46 : BitVec 32) (v49 : BitVec 32) (k0_t6 : Fin (k0_t6_loop v46 v49).trips) (arg17 : BitVec 32) (k0_hw4 : k0_chk4 k0_t4 v46 v49 k0_t6 arg17), ∀ (k0_h2 : k0_cond2 arg17 = 1#1), ∀ a, (k0_off17 k0_t4 v46 v49 k0_t6) a + S1x256x2048.size a ≤ S16x2048x2048.size a := fun k0_t4 v46 v49 k0_t6 arg17 k0_hw4 k0_h2 => k0_hw4.2.2.1 k0_h2
theorem k0_off18_inb : ∀ (k0_t4 : Fin k0_t4_loop.trips) (v46 : BitVec 32) (v49 : BitVec 32) (k0_t6 : Fin (k0_t6_loop v46 v49).trips) (arg17 : BitVec 32) (k0_hw4 : k0_chk4 k0_t4 v46 v49 k0_t6 arg17), ∀ (k0_h2 : k0_cond2 arg17 = 1#1), ∀ a, (k0_off18 arg17) a + S1x256x2048.size a ≤ S8x256x2048.size a := fun k0_t4 v46 v49 k0_t6 arg17 k0_hw4 k0_h2 => k0_hw4.2.2.2.1 k0_h2
theorem k0_off20_inb : ∀ (k0_t4 : Fin k0_t4_loop.trips) (v46 : BitVec 32) (v49 : BitVec 32) (k0_t6 : Fin (k0_t6_loop v46 v49).trips) (arg17 : BitVec 32) (k0_hw4 : k0_chk4 k0_t4 v46 v49 k0_t6 arg17), ∀ a, (k0_off20 arg17) a + S1x256x2048.size a ≤ S8x256x2048.size a := fun k0_t4 v46 v49 k0_t6 arg17 k0_hw4 => k0_hw4.2.2.2.2.1
theorem k0_off21_inb : ∀ (k0_t4 : Fin k0_t4_loop.trips) (v46 : BitVec 32) (v49 : BitVec 32) (k0_t6 : Fin (k0_t6_loop v46 v49).trips) (arg17 : BitVec 32) (k0_hw4 : k0_chk4 k0_t4 v46 v49 k0_t6 arg17), ∀ a, (k0_off21 arg17) a + S1.size a ≤ S8.size a := fun k0_t4 v46 v49 k0_t6 arg17 k0_hw4 => k0_hw4.2.2.2.2.2.1
theorem k0_off23_inb : ∀ (k0_t4 : Fin k0_t4_loop.trips) (v46 : BitVec 32) (v49 : BitVec 32) (k0_t6 : Fin (k0_t6_loop v46 v49).trips) (arg17 : BitVec 32) (k0_hw4 : k0_chk4 k0_t4 v46 v49 k0_t6 arg17), ∀ a, (k0_off23 arg17) a + S1x256x2048.size a ≤ S8x256x2048.size a := fun k0_t4 v46 v49 k0_t6 arg17 k0_hw4 => k0_hw4.2.2.2.2.2.2

@[reducible] def k0_t7_loop (v9 : BitVec 32) : Scf.Loop 32 :=
  let c0_i32_21 : BitVec 32 := 0#32
  let v34 : BitVec 32 := Scalar.subi v9 c0_i32_21
  let c1_i32_22 : BitVec 32 := 1#32
  let v36 : BitVec 32 := Scalar.divsi v34 c1_i32_22
  let v37 : BitVec 32 := Scalar.muli v36 c1_i32_22
  let v38 : BitVec 32 := Scalar.addi c0_i32_21 v37
  let c1_i32_23 : BitVec 32 := 1#32
  ⟨c0_i32_21, v38, c1_i32_23⟩

def k0_mult9 : BitVec 32 :=
  let c0_i32_30 : BitVec 32 := 0#32
  c0_i32_30
@[reducible] def k0_t8_loop (v9 : BitVec 32) : Scf.Loop 32 :=
  let c0_i32_21 : BitVec 32 := 0#32
  let v34 : BitVec 32 := Scalar.subi v9 c0_i32_21
  let c1_i32_22 : BitVec 32 := 1#32
  let v36 : BitVec 32 := Scalar.divsi v34 c1_i32_22
  let v37 : BitVec 32 := Scalar.muli v36 c1_i32_22
  let v38 : BitVec 32 := Scalar.addi c0_i32_21 v37
  let v35 : BitVec 32 := Scalar.addi c0_i32_21 v34
  let c1_i32_24 : BitVec 32 := 1#32
  ⟨v38, v35, c1_i32_24⟩

def k0_chk5 (v9 : BitVec 32) : Prop :=
  ((k0_t7_loop v9).OK) ∧
  ((k0_t8_loop v9).OK)
theorem k0_t7_ok : ∀ (v9 : BitVec 32) (k0_hw5 : k0_chk5 v9), (k0_t7_loop v9).OK := fun v9 k0_hw5 => k0_hw5.1
theorem k0_t8_ok : ∀ (v9 : BitVec 32) (k0_hw5 : k0_chk5 v9), (k0_t8_loop v9).OK := fun v9 k0_hw5 => k0_hw5.2

def k0_mult10 : BitVec 32 :=
  let c0_i32_30 : BitVec 32 := 0#32
  c0_i32_30
@[reducible] def k0_t9_loop (v33 : BitVec 32) : Scf.Loop 32 :=
  let c0_i32_26 : BitVec 32 := 0#32
  let c8_i32 : BitVec 32 := 8#32
  let v39 : BitVec 32 := Scalar.minsi v33 c8_i32
  let v40 : BitVec 32 := Scalar.subi v39 c0_i32_26
  let c1_i32_27 : BitVec 32 := 1#32
  let v42 : BitVec 32 := Scalar.divsi v40 c1_i32_27
  let v43 : BitVec 32 := Scalar.muli v42 c1_i32_27
  let v44 : BitVec 32 := Scalar.addi c0_i32_26 v43
  let c1_i32_28 : BitVec 32 := 1#32
  ⟨c0_i32_26, v44, c1_i32_28⟩

def k0_mult11 : BitVec 32 :=
  let c0_i32_30 : BitVec 32 := 0#32
  c0_i32_30
def k0_off24 (v33 : BitVec 32) (k0_t9 : Fin (k0_t9_loop v33).trips) : Fin 1 → Nat :=
  let c0_i32_26 : BitVec 32 := 0#32
  let c1_i32_28 : BitVec 32 := 1#32
  let arg14 : BitVec 32 := Scf.iv c0_i32_26 c1_i32_28 k0_t9
  ![arg14.toNat]
def k0_off25 (v33 : BitVec 32) (k0_t9 : Fin (k0_t9_loop v33).trips) : Fin 3 → Nat :=
  let c0_i32_26 : BitVec 32 := 0#32
  let c1_i32_28 : BitVec 32 := 1#32
  let arg14 : BitVec 32 := Scf.iv c0_i32_26 c1_i32_28 k0_t9
  let c0_i32_33 : BitVec 32 := 0#32
  let c0_i32_34 : BitVec 32 := 0#32
  ![arg14.toNat, 0, 0]
@[reducible] def k0_t10_loop (v33 : BitVec 32) : Scf.Loop 32 :=
  let c0_i32_26 : BitVec 32 := 0#32
  let c8_i32 : BitVec 32 := 8#32
  let v39 : BitVec 32 := Scalar.minsi v33 c8_i32
  let v40 : BitVec 32 := Scalar.subi v39 c0_i32_26
  let c1_i32_27 : BitVec 32 := 1#32
  let v42 : BitVec 32 := Scalar.divsi v40 c1_i32_27
  let v43 : BitVec 32 := Scalar.muli v42 c1_i32_27
  let v44 : BitVec 32 := Scalar.addi c0_i32_26 v43
  let v41 : BitVec 32 := Scalar.addi c0_i32_26 v40
  let c1_i32_29 : BitVec 32 := 1#32
  ⟨v44, v41, c1_i32_29⟩
def k0_mult12 : BitVec 32 :=
  let c0_i32_30 : BitVec 32 := 0#32
  c0_i32_30
def k0_off26 (v33 : BitVec 32) (k0_t10 : Fin (k0_t10_loop v33).trips) : Fin 1 → Nat :=
  let c0_i32_26 : BitVec 32 := 0#32
  let c8_i32 : BitVec 32 := 8#32
  let v39 : BitVec 32 := Scalar.minsi v33 c8_i32
  let v40 : BitVec 32 := Scalar.subi v39 c0_i32_26
  let c1_i32_27 : BitVec 32 := 1#32
  let v42 : BitVec 32 := Scalar.divsi v40 c1_i32_27
  let v43 : BitVec 32 := Scalar.muli v42 c1_i32_27
  let v44 : BitVec 32 := Scalar.addi c0_i32_26 v43
  let c1_i32_29 : BitVec 32 := 1#32
  let arg14 : BitVec 32 := Scf.iv v44 c1_i32_29 k0_t10
  ![arg14.toNat]
def k0_off27 (v33 : BitVec 32) (k0_t10 : Fin (k0_t10_loop v33).trips) : Fin 3 → Nat :=
  let c0_i32_26 : BitVec 32 := 0#32
  let c8_i32 : BitVec 32 := 8#32
  let v39 : BitVec 32 := Scalar.minsi v33 c8_i32
  let v40 : BitVec 32 := Scalar.subi v39 c0_i32_26
  let c1_i32_27 : BitVec 32 := 1#32
  let v42 : BitVec 32 := Scalar.divsi v40 c1_i32_27
  let v43 : BitVec 32 := Scalar.muli v42 c1_i32_27
  let v44 : BitVec 32 := Scalar.addi c0_i32_26 v43
  let c1_i32_29 : BitVec 32 := 1#32
  let arg14 : BitVec 32 := Scf.iv v44 c1_i32_29 k0_t10
  let c0_i32_33 : BitVec 32 := 0#32
  let c0_i32_34 : BitVec 32 := 0#32
  ![arg14.toNat, 0, 0]

def k0_chk6 (v33 : BitVec 32) : Prop :=
  ((k0_t9_loop v33).OK) ∧
  (∀ k0_t9 : Fin (k0_t9_loop v33).trips, ∀ a, (k0_off24 v33 k0_t9) a + S1.size a ≤ S8.size a) ∧
  (∀ k0_t9 : Fin (k0_t9_loop v33).trips, ∀ a, (k0_off25 v33 k0_t9) a + S1x256x2048.size a ≤ S8x256x2048.size a) ∧
  ((k0_t10_loop v33).OK) ∧
  (∀ k0_t10 : Fin (k0_t10_loop v33).trips, ∀ a, (k0_off26 v33 k0_t10) a + S1.size a ≤ S8.size a) ∧
  (∀ k0_t10 : Fin (k0_t10_loop v33).trips, ∀ a, (k0_off27 v33 k0_t10) a + S1x256x2048.size a ≤ S8x256x2048.size a)
theorem k0_t9_ok : ∀ (v33 : BitVec 32) (k0_hw6 : k0_chk6 v33), (k0_t9_loop v33).OK := fun v33 k0_hw6 => k0_hw6.1
theorem k0_off24_inb : ∀ (v33 : BitVec 32) (k0_hw6 : k0_chk6 v33) (k0_t9 : Fin (k0_t9_loop v33).trips), ∀ a, (k0_off24 v33 k0_t9) a + S1.size a ≤ S8.size a := fun v33 k0_hw6 k0_t9 => k0_hw6.2.1 k0_t9
theorem k0_off25_inb : ∀ (v33 : BitVec 32) (k0_hw6 : k0_chk6 v33) (k0_t9 : Fin (k0_t9_loop v33).trips), ∀ a, (k0_off25 v33 k0_t9) a + S1x256x2048.size a ≤ S8x256x2048.size a := fun v33 k0_hw6 k0_t9 => k0_hw6.2.2.1 k0_t9
theorem k0_t10_ok : ∀ (v33 : BitVec 32) (k0_hw6 : k0_chk6 v33), (k0_t10_loop v33).OK := fun v33 k0_hw6 => k0_hw6.2.2.2.1
theorem k0_off26_inb : ∀ (v33 : BitVec 32) (k0_hw6 : k0_chk6 v33) (k0_t10 : Fin (k0_t10_loop v33).trips), ∀ a, (k0_off26 v33 k0_t10) a + S1.size a ≤ S8.size a := fun v33 k0_hw6 k0_t10 => k0_hw6.2.2.2.2.1 k0_t10
theorem k0_off27_inb : ∀ (v33 : BitVec 32) (k0_hw6 : k0_chk6 v33) (k0_t10 : Fin (k0_t10_loop v33).trips), ∀ a, (k0_off27 v33 k0_t10) a + S1x256x2048.size a ≤ S8x256x2048.size a := fun v33 k0_hw6 k0_t10 => k0_hw6.2.2.2.2.2 k0_t10

abbrev stage0_0 : Fin 1 → Memref sig .tc .smem S17 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F]
-- ==== ReferenceIdeal.lean ====
abbrev S256x2048 : Shape := ⟨2, ![256, 2048]⟩
abbrev S256 : Shape := ⟨1, ![256]⟩
abbrev S17 : Shape := ⟨1, ![17]⟩
abbrev S256x1 : Shape := ⟨2, ![256, 1]⟩
abbrev S16 : Shape := ⟨1, ![16]⟩
abbrev S1x256 : Shape := ⟨2, ![1, 256]⟩
abbrev S16x1 : Shape := ⟨2, ![16, 1]⟩
abbrev S16x256 : Shape := ⟨2, ![16, 256]⟩
abbrev S16x256x1 : Shape := ⟨3, ![16, 256, 1]⟩
abbrev S1x256x2048 : Shape := ⟨3, ![1, 256, 2048]⟩
abbrev S_ : Shape := ⟨0, ![]⟩
abbrev S16x256x2048 : Shape := ⟨3, ![16, 256, 2048]⟩
abbrev S16x2048x2048 : Shape := ⟨3, ![16, 2048, 2048]⟩

abbrev nBuf : Space → Nat
  | .hbm => 28
  | .vmem => 3
  | .smem => 0
  | _ => 0

abbrev bufTy : (tb : Table) → Fin (tcTables nBuf tb) → BufTy
  | .hbm, ⟨0, _⟩ => ⟨S256x2048, .fp8e4m3⟩
  | .hbm, ⟨1, _⟩ => ⟨S256, .f32⟩
  | .hbm, ⟨2, _⟩ => ⟨S17, .i32⟩
  | .hbm, ⟨3, _⟩ => ⟨S256x1, .f32⟩
  | .hbm, ⟨4, _⟩ => ⟨S256x2048, .bf16⟩
  | .hbm, ⟨5, _⟩ => ⟨S256, .i32⟩
  | .hbm, ⟨6, _⟩ => ⟨S16, .i32⟩
  | .hbm, ⟨7, _⟩ => ⟨S16, .i32⟩
  | .hbm, ⟨8, _⟩ => ⟨S1x256, .i32⟩
  | .hbm, ⟨9, _⟩ => ⟨S16x1, .i32⟩
  | .hbm, ⟨10, _⟩ => ⟨S16x256, .i32⟩
  | .hbm, ⟨11, _⟩ => ⟨S16x256, .i32⟩
  | .hbm, ⟨12, _⟩ => ⟨S16x256, .i1⟩
  | .hbm, ⟨13, _⟩ => ⟨S1x256, .i32⟩
  | .hbm, ⟨14, _⟩ => ⟨S16x1, .i32⟩
  | .hbm, ⟨15, _⟩ => ⟨S16x256, .i32⟩
  | .hbm, ⟨16, _⟩ => ⟨S16x256, .i32⟩
  | .hbm, ⟨17, _⟩ => ⟨S16x256, .i1⟩
  | .hbm, ⟨18, _⟩ => ⟨S16x256, .i1⟩
  | .hbm, ⟨19, _⟩ => ⟨S16x256x1, .i1⟩
  | .hbm, ⟨20, _⟩ => ⟨S1x256x2048, .bf16⟩
  | .hbm, ⟨21, _⟩ => ⟨S_, .bf16⟩
  | .hbm, ⟨22, _⟩ => ⟨S16x256x2048, .i1⟩
  | .hbm, ⟨23, _⟩ => ⟨S16x256x2048, .bf16⟩
  | .hbm, ⟨24, _⟩ => ⟨S16x256x2048, .bf16⟩
  | .hbm, ⟨25, _⟩ => ⟨S16x256x2048, .bf16⟩
  | .hbm, ⟨26, _⟩ => ⟨S16x2048x2048, .f32⟩
  | .hbm, ⟨27, _⟩ => ⟨S16, .i32⟩
  | .local _ .vmem, ⟨0, _⟩ => ⟨S256x2048, .fp8e4m3⟩
  | .local _ .vmem, ⟨1, _⟩ => ⟨S256x1, .f32⟩
  | .local _ .vmem, ⟨2, _⟩ => ⟨S256x2048, .bf16⟩
  | _, _ => ⟨S256x2048, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S256x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Bits.Words.lean ====
/-
  The kernel's word arithmetic in closed form: how many trips each counted loop makes, where each slice starts, and that
  the side conditions the body assumes hold of every word the offsets can hold.
-/
module

public import proofs.«01_k».proof.Proof.Gen.Kernel.Skeleton

@[expose] public section

namespace Cert.Kernel.Hand

open Cert.Kernel Cert.Kernel.Gen Idealize.ShloMosaic

/-- The induction variable of a loop from 0 by 1. -/
theorem iv_toNat {k : ℕ} (hk : k < 4096) : (Scf.iv 0#32 1#32 k).toNat = k := by
  unfold Scf.iv
  rw [BitVec.zero_add, BitVec.mul_one, BitVec.toNat_ofNat]
  exact Nat.mod_eq_of_lt (by omega)

theorem iv256_toNat {k : ℕ} (hk : k < 16) : (Scalar.muli (Scf.iv 0#32 1#32 k) 256#32).toNat = 256 * k := by
  revert k; decide

theorem iv1_toNat {k : ℕ} (hk : k < 16) : (Scalar.addi (Scf.iv 0#32 1#32 k) 1#32).toNat = k + 1 := by
  revert k; decide

theorem cmp_cases (p : CmpIPredicate) (x y : BitVec 32) : Scalar.cmpi p x y = 1#1 ∨ Scalar.cmpi p x y = 0#1 := by
  generalize Scalar.cmpi p x y = b; revert b; decide

/-! ## The two halves of a row of blocks: eight trips or none -/

theorem t1_trips : k0_t1_loop.trips = 16 := by decide
theorem t4_trips : k0_t4_loop.trips = 16 := by decide

/-- The bounds of `t2`'s loop: eight blocks when the expert has as many rows as zero, none otherwise. -/
theorem t2_loop_eq (v47 v49 : BitVec 32) :
    k0_t2_loop v47 v49 = if Scalar.cmpi .eq (Scalar.subi v47 v49) 0#32 = 1#1 then ⟨0#32, 8#32, 1#32⟩ else ⟨0#32, 0#32, 1#32⟩ := by
  unfold k0_t2_loop; dsimp only
  rcases cmp_cases .eq (Scalar.subi v47 v49) 0#32 with h | h <;> rw [h] <;> rfl

theorem t3_loop_eq (v47 v49 : BitVec 32) :
    k0_t3_loop v47 v49 = if Scalar.cmpi .eq (Scalar.subi v47 v49) 0#32 = 1#1 then ⟨8#32, 8#32, 1#32⟩ else ⟨0#32, 0#32, 1#32⟩ := by
  unfold k0_t3_loop; dsimp only
  rcases cmp_cases .eq (Scalar.subi v47 v49) 0#32 with h | h <;> rw [h] <;> rfl

theorem t5_loop_eq (v46 v49 : BitVec 32) :
    k0_t5_loop v46 v49 = if Scalar.cmpi .sgt v49 v46 = 1#1 then ⟨0#32, 8#32, 1#32⟩ else ⟨0#32, 0#32, 1#32⟩ := by
  unfold k0_t5_loop; dsimp only
  rcases cmp_cases .sgt v49 v46 with h | h <;> rw [h] <;> rfl

theorem t6_loop_eq (v46 v49 : BitVec 32) :
    k0_t6_loop v46 v49 = if Scalar.cmpi .sgt v49 v46 = 1#1 then ⟨8#32, 8#32, 1#32⟩ else ⟨0#32, 0#32, 1#32⟩ := by
  unfold k0_t6_loop; dsimp only
  rcases cmp_cases .sgt v49 v46 with h | h <;> rw [h] <;> rfl

theorem t2_trips (v47 v49 : BitVec 32) : (k0_t2_loop v47 v49).trips = if Scalar.cmpi .eq (Scalar.subi v47 v49) 0#32 = 1#1 then 8 else 0 := by
  rw [t2_loop_eq]; split <;> decide
theorem t3_trips (v47 v49 : BitVec 32) : (k0_t3_loop v47 v49).trips = 0 := by
  rw [t3_loop_eq]; split <;> decide
theorem t5_trips (v46 v49 : BitVec 32) : (k0_t5_loop v46 v49).trips = if Scalar.cmpi .sgt v49 v46 = 1#1 then 8 else 0 := by
  rw [t5_loop_eq]; split <;> decide
theorem t6_trips (v46 v49 : BitVec 32) : (k0_t6_loop v46 v49).trips = 0 := by
  rw [t6_loop_eq]; split <;> decide

theorem t2_lt {v47 v49 : BitVec 32} (j : Fin (k0_t2_loop v47 v49).trips) : j.val < 8 := by
  have := lt_of_lt_of_eq j.isLt (t2_trips _ _); split at this <;> omega
theorem t5_lt {v46 v49 : BitVec 32} (j : Fin (k0_t5_loop v46 v49).trips) : j.val < 8 := by
  have := lt_of_lt_of_eq j.isLt (t5_trips _ _); split at this <;> omega
theorem t1_lt (k : Fin k0_t1_loop.trips) : k.val < 16 := by exact lt_of_lt_of_eq k.isLt t1_trips
theorem t4_lt (k : Fin k0_t4_loop.trips) : k.val < 16 := by exact lt_of_lt_of_eq k.isLt t4_trips

/-! ## Where each slice starts -/

theorem off1_eq (k : Fin k0_t1_loop.trips) : k0_off1 k = ![k.val + 1] := by
  unfold k0_off1; dsimp only; rw [show ∀ w : BitVec 32, (Scalar.indexCast w : Index).toNat = w.toNat from fun w => rfl, iv1_toNat (t1_lt k)]
theorem off2_eq (k : Fin k0_t1_loop.trips) : k0_off2 k = ![k.val] := by
  unfold k0_off2; dsimp only; rw [show ∀ w : BitVec 32, (Scalar.indexCast w : Index).toNat = w.toNat from fun w => rfl, iv_toNat (by have := t1_lt k; omega)]
theorem off3_eq (k : Fin k0_t1_loop.trips) : k0_off3 k = ![k.val] := by
  unfold k0_off3; dsimp only; rw [show ∀ w : BitVec 32, (Scalar.indexCast w : Index).toNat = w.toNat from fun w => rfl, iv_toNat (by have := t1_lt k; omega)]
theorem off6_eq (k : Fin k0_t4_loop.trips) : k0_off6 k = ![k.val] := by
  unfold k0_off6; dsimp only; rw [show ∀ w : BitVec 32, (Scalar.indexCast w : Index).toNat = w.toNat from fun w => rfl, iv_toNat (by have := t4_lt k; omega)]
theorem off7_eq (k : Fin k0_t4_loop.trips) : k0_off7 k = ![k.val + 1] := by
  unfold k0_off7; dsimp only; rw [show ∀ w : BitVec 32, (Scalar.indexCast w : Index).toNat = w.toNat from fun w => rfl, iv1_toNat (t4_lt k)]

theorem off4_eq (k : Fin k0_t1_loop.trips) (v47 v49 : BitVec 32) (j : Fin (k0_t2_loop v47 v49).trips) :
    k0_off4 k v47 v49 j = ![k.val, 256 * j.val, 0] := by
  unfold k0_off4
  dsimp only
  rw [iv_toNat (by have := t1_lt k; omega), iv256_toNat (by have := t2_lt j; omega)]
theorem off9_eq (k : Fin k0_t4_loop.trips) (v46 v49 : BitVec 32) (j : Fin (k0_t5_loop v46 v49).trips) :
    k0_off9 k v46 v49 j = ![k.val, 256 * j.val, 0] := by
  unfold k0_off9
  dsimp only
  rw [iv_toNat (by have := t4_lt k; omega), iv256_toNat (by have := t5_lt j; omega)]
theorem off14_eq (k : Fin k0_t4_loop.trips) (v46 v49 : BitVec 32) (j : Fin (k0_t5_loop v46 v49).trips) :
    k0_off14 k v46 v49 j = ![k.val, 256 * j.val, 0] := by
  unfold k0_off14
  dsimp only
  rw [iv_toNat (by have := t4_lt k; omega), iv256_toNat (by have := t5_lt j; omega)]
theorem off11_eq (v46 v49 : BitVec 32) (j : Fin (k0_t5_loop v46 v49).trips) :
    k0_off11 v46 v49 j = ![256 * j.val, 0] := by
  unfold k0_off11
  dsimp only
  rw [show ∀ w : BitVec 32, (Scalar.indexCast w : Index).toNat = w.toNat from fun w => rfl, iv256_toNat (by have := t5_lt j; omega)]

/-! ## The ring's slot and its guard, at the running block number `8 q + j` -/

theorem slot_toNat {q j : ℕ} (hq : q < 16) (hj : j < 8) : (Scalar.remsi (BitVec.ofNat 32 (8 * q + j)) 8#32).toNat = j := by
  have h : ∀ q, q < 16 → ∀ j, j < 8 → (Scalar.remsi (BitVec.ofNat 32 (8 * q + j)) 8#32).toNat = j := by decide +kernel
  exact h q hq j hj
theorem cond1_iff {q j : ℕ} (hq : q < 16) (hj : j < 8) : k0_cond1 (BitVec.ofNat 32 (8 * q + j)) = 1#1 ↔ 0 < q := by
  have h : ∀ q, q < 16 → ∀ j, j < 8 → (k0_cond1 (BitVec.ofNat 32 (8 * q + j)) = 1#1 ↔ 0 < q) := by decide +kernel
  exact h q hq j hj

theorem off8_eq {q j : ℕ} (hq : q < 16) (hj : j < 8) : k0_off8 (BitVec.ofNat 32 (8 * q + j)) = ![j] := by
  unfold k0_off8; dsimp only; rw [slot_toNat hq hj]
theorem off13_eq {q j : ℕ} (hq : q < 16) (hj : j < 8) : k0_off13 (BitVec.ofNat 32 (8 * q + j)) = ![j] := by
  unfold k0_off13; dsimp only; rw [slot_toNat hq hj]
theorem off10_eq {q j : ℕ} (hq : q < 16) (hj : j < 8) : k0_off10 (BitVec.ofNat 32 (8 * q + j)) = ![j, 0, 0] := by
  unfold k0_off10; dsimp only; rw [slot_toNat hq hj]
theorem off15_eq {q j : ℕ} (hq : q < 16) (hj : j < 8) : k0_off15 (BitVec.ofNat 32 (8 * q + j)) = ![j, 0, 0] := by
  unfold k0_off15; dsimp only; rw [slot_toNat hq hj]
theorem off12_eq {q j : ℕ} (hq : q < 16) (hj : j < 8) : k0_off12 (BitVec.ofNat 32 (8 * q + j)) = ![j, 0, 0] := by
  unfold k0_off12; dsimp only
  rw [show ∀ w : BitVec 32, (Scalar.indexCast w : Index).toNat = w.toNat from fun w => rfl, slot_toNat hq hj]

/-! ## Bounds, and the side conditions the body assumes -/

theorem inbH {e m : ℕ} (he : e < 16) (hm : m < 8) : ∀ a, (![e, 256 * m, 0] : Fin 3 → ℕ) a + S1x256x2048.size a ≤ S16x2048x2048.size a := by
  intro a; fin_cases a
  · show e + 1 ≤ 16; omega
  · show 256 * m + 256 ≤ 2048; omega
  · show 0 + 2048 ≤ 2048; omega
theorem inbR {j : ℕ} (hj : j < 8) : ∀ a, (![j, 0, 0] : Fin 3 → ℕ) a + S1x256x2048.size a ≤ S8x256x2048.size a := by
  intro a; fin_cases a
  · show j + 1 ≤ 8; omega
  · show 0 + 256 ≤ 256; omega
  · show 0 + 2048 ≤ 2048; omega
theorem inbS {j : ℕ} (hj : j < 8) : ∀ a, (![j] : Fin 1 → ℕ) a + S1.size a ≤ S8.size a := by
  intro a; fin_cases a
  show j + 1 ≤ 8; omega
theorem inbXt {m : ℕ} (hm : m < 8) : ∀ a, (![256 * m, 0] : Fin 2 → ℕ) a + S256x256.size a ≤ S2048x256.size a := by
  intro a; fin_cases a
  · show 256 * m + 256 ≤ 2048; omega
  · show 0 + 256 ≤ 256; omega

theorem dvd_iv256 {j : ℕ} (hj : j < 16) : 256 ∣ (Scalar.muli (Scf.iv 0#32 1#32 j) 256#32).toNat := by
  rw [iv256_toNat hj]; exact ⟨j, rfl⟩

theorem no_t3 {P : Prop} {v47 v49 : BitVec 32} (j : Fin (k0_t3_loop v47 v49).trips) : P := by
  have := lt_of_lt_of_eq j.isLt (t3_trips _ _); omega
theorem no_t6 {P : Prop} {v46 v49 : BitVec 32} (j : Fin (k0_t6_loop v46 v49).trips) : P := by
  have := lt_of_lt_of_eq j.isLt (t6_trips _ _); omega

theorem chk1_all (k : Fin k0_t1_loop.trips) (v47 v49 : BitVec 32) : k0_chk1 k v47 v49 := by
  refine ⟨?_, fun j => dvd_iv256 (by have := t2_lt j; omega), fun j => ?_, ?_, fun j => no_t3 j, fun j => no_t3 j⟩
  · rw [t2_loop_eq]; split <;> decide
  · rw [off4_eq]; exact inbH (t1_lt k) (t2_lt j)
  · rw [t3_loop_eq]; split <;> decide

theorem chk2_all (k : Fin k0_t4_loop.trips) (v46 v49 : BitVec 32) : k0_chk2 k v46 v49 := by
  refine ⟨?_, fun j => dvd_iv256 (by have := t5_lt j; omega), fun j => ?_, fun j => dvd_iv256 (by have := t5_lt j; omega), fun j => ?_, ?_,
    fun j => no_t6 j, fun j => no_t6 j, fun j => no_t6 j, fun j => no_t6 j⟩
  · rw [t5_loop_eq]; split <;> decide
  · rw [off11_eq]; exact inbXt (t5_lt j)
  · rw [off14_eq]; exact inbH (t4_lt k) (t5_lt j)
  · rw [t6_loop_eq]; split <;> decide

theorem chk3_all (k : Fin k0_t4_loop.trips) (v46 v49 : BitVec 32) (j : Fin (k0_t5_loop v46 v49).trips) {q : ℕ} (hq : q < 16) :
    k0_chk3 k v46 v49 j (BitVec.ofNat 32 (8 * q + j.val)) := by
  have hj := t5_lt j
  refine ⟨fun _ => dvd_iv256 (by omega), fun _ => ?_, fun _ => ?_, fun _ => ?_, ?_, ?_, ?_⟩
  · rw [off8_eq hq hj]; exact inbS hj
  · rw [off9_eq]; exact inbH (t4_lt k) hj
  · rw [off10_eq hq hj]; exact inbR hj
  · rw [off12_eq hq hj]; exact inbR hj
  · rw [off13_eq hq hj]; exact inbS hj
  · rw [off15_eq hq hj]; exact inbR hj

/-! ## The draining loops -/

theorem t7_facts {n : ℕ} (hn : n < 129) : (k0_t7_loop (BitVec.ofNat 32 n)).trips = n ∧ (k0_t8_loop (BitVec.ofNat 32 n)).trips = 0
    ∧ k0_chk5 (BitVec.ofNat 32 n) := by
  have h : ∀ n, n < 129 → (k0_t7_loop (BitVec.ofNat 32 n)).trips = n ∧ (k0_t8_loop (BitVec.ofNat 32 n)).trips = 0
    ∧ k0_chk5 (BitVec.ofNat 32 n) := by decide +kernel
  exact h n hn

theorem t9_facts {q : ℕ} (hq : q < 17) : (k0_t9_loop (BitVec.ofNat 32 (8 * q))).trips = min (8 * q) 8 ∧ (k0_t10_loop (BitVec.ofNat 32 (8 * q))).trips = 0
    ∧ (k0_t9_loop (BitVec.ofNat 32 (8 * q))).OK ∧ (k0_t10_loop (BitVec.ofNat 32 (8 * q))).OK := by
  have h : ∀ q, q < 17 → (k0_t9_loop (BitVec.ofNat 32 (8 * q))).trips = min (8 * q) 8 ∧ (k0_t10_loop (BitVec.ofNat 32 (8 * q))).trips = 0
    ∧ (k0_t9_loop (BitVec.ofNat 32 (8 * q))).OK ∧ (k0_t10_loop (BitVec.ofNat 32 (8 * q))).OK := by decide +kernel
  exact h q hq

theorem t9_lt {q : ℕ} (hq : q < 17) (s : Fin (k0_t9_loop (BitVec.ofNat 32 (8 * q))).trips) : s.val < 8 := by
  have := lt_of_lt_of_eq s.isLt ((t9_facts hq).1); omega

theorem off24_eq (v33 : BitVec 32) (s : Fin (k0_t9_loop v33).trips) (hs : s.val < 8) : k0_off24 v33 s = ![s.val] := by
  unfold k0_off24; dsimp only; rw [iv_toNat (by omega)]
theorem off25_eq (v33 : BitVec 32) (s : Fin (k0_t9_loop v33).trips) (hs : s.val < 8) : k0_off25 v33 s = ![s.val, 0, 0] := by
  unfold k0_off25; dsimp only; rw [iv_toNat (by omega)]

theorem chk6_all {q : ℕ} (hq : q < 17) : k0_chk6 (BitVec.ofNat 32 (8 * q)) := by
  obtain ⟨h9, h10, o9, o10⟩ := t9_facts hq
  refine ⟨o9, fun s => ?_, fun s => ?_, o10, fun s => ?_, fun s => ?_⟩
  · rw [off24_eq _ _ (t9_lt hq s)]; exact inbS (t9_lt hq s)
  · rw [off25_eq _ _ (t9_lt hq s)]; exact inbR (t9_lt hq s)
  · have := lt_of_lt_of_eq s.isLt (h10); omega
  · have := lt_of_lt_of_eq s.isLt (h10); omega

end Cert.Kernel.Hand
-- ==== Proof.Bits.Blocks.lean ====
/-
  The blocks the kernel's transfers move, named by expert and block number: block `m` of expert `e`'s Hessian, slot `m` of
  the ring buffer, cell `m` of the ring's semaphores. The body's own slices are these, at the offsets' closed forms.
-/
module

public import proofs.«01_k».proof.Proof.Bits.Words
public import proofs.«01_k».proof.Proof.Gen.Kernel.Launch
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.VecWindow

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The body's operands -/

/-- The staged offsets and the counts' buffer. -/
abbrev mO : Memref sig .tc .smem S17 .i32 := Memref.whole cc0_stg0_0
abbrev mC : Memref sig .tc .smem S16 .i32 := Memref.whole cc0_stg1_0
/-- The codes, the scales and the Hessian, left in HBM. -/
abbrev mA1 : Memref sig .tc .hbm S256x2048 .fp8e4m3 := Memref.whole main_arg0
abbrev mA2 : Memref sig .tc .hbm S1x256 .f32 := Memref.whole main_v0
abbrev mH : Memref sig .tc .hbm S16x2048x2048 .f32 := Memref.whole main_v1_0
/-- The scratch: the codes, the scales, the rows, their transpose, the zeros, the ring. -/
abbrev mCd : Memref sig .tc .vmem S256x2048 .fp8e4m3 := Memref.whole cc0_scratch0
abbrev mSc : Memref sig .tc .vmem S1x256 .f32 := Memref.whole cc0_scratch1
abbrev mX : Memref sig .tc .vmem S256x2048 .bf16 := Memref.whole cc0_scratch2
abbrev mXt : Memref sig .tc .vmem S2048x256 .bf16 := Memref.whole cc0_scratch3
abbrev mZ : Memref sig .tc .vmem S256x2048 .f32 := Memref.whole cc0_scratch4
abbrev mR : Memref sig .tc .vmem S8x256x2048 .f32 := Memref.whole cc0_scratch5

/-! ## The blocks -/

/-- Block `m` of expert `e`'s Hessian. -/
def hBlk (e : Fin 16) (m : Fin 8) : Memref sig .tc .hbm S256x2048 .f32 :=
  (mH.slice (Rect.unit (s := S16x2048x2048) ![e.val, 256 * m.val, 0] S1x256x2048.size (inbH e.isLt m.isLt)) (fun _ => rfl)).squeeze S256x2048 squeezes_S1x256x2048_S256x2048
/-- Slot `m` of the ring. -/
def rSlot (m : Fin 8) : Memref sig .tc .vmem S256x2048 .f32 :=
  (mR.slice (Rect.unit (s := S8x256x2048) ![m.val, 0, 0] S1x256x2048.size (inbR m.isLt)) (fun _ => rfl)).squeeze S256x2048 squeezes_S1x256x2048_S256x2048
/-- Cell `m` of the ring's semaphores. -/
def rSem (m : Fin 8) : DmaSem sig :=
  ((cc0_scratch8.slice (Rect.unit (s := S8) ![m.val] S1.size (inbS m.isLt))).squeeze S_ squeezes_S1_S_).sem

theorem hBlk_of {off : Fin 3 → ℕ} (h : ∀ a, off a + S1x256x2048.size a ≤ S16x2048x2048.size a) (e : Fin 16) (m : Fin 8)
    (ho : off = ![e.val, 256 * m.val, 0]) :
    (mH.slice (Rect.unit (s := S16x2048x2048) off S1x256x2048.size h) (fun _ => rfl)).squeeze S256x2048 squeezes_S1x256x2048_S256x2048 = hBlk e m := by
  subst ho; rfl
theorem rSlot_of {off : Fin 3 → ℕ} (h : ∀ a, off a + S1x256x2048.size a ≤ S8x256x2048.size a) (m : Fin 8) (ho : off = ![m.val, 0, 0]) :
    (mR.slice (Rect.unit (s := S8x256x2048) off S1x256x2048.size h) (fun _ => rfl)).squeeze S256x2048 squeezes_S1x256x2048_S256x2048 = rSlot m := by
  subst ho; rfl
theorem rSem_of {off : Fin 1 → ℕ} (h : ∀ a, off a + S1.size a ≤ S8.size a) (m : Fin 8) (ho : off = ![m.val]) :
    ((cc0_scratch8.slice (Rect.unit (s := S8) off S1.size h)).squeeze S_ squeezes_S1_S_).sem = rSem m := by
  subst ho; rfl

theorem rSem_eq (m : Fin 8) : rSem m = ⟨m.val + 5, by have := m.isLt; show _ < 13; omega⟩ := by
  fin_cases m <;> rfl

/-! ## Their elements -/

abbrev HIdx : Type := S16x2048x2048.Idx
abbrev hset (e : Fin 16) (m : Fin 8) : Finset HIdx := (hBlk e m).view.set
abbrev rset (m : Fin 8) : Finset S8x256x2048.Idx := (rSlot m).view.set

theorem hset_eq (e : Fin 16) (m : Fin 8) :
    hset e m = (Rect.unit (s := S16x2048x2048) ![e.val, 256 * m.val, 0] S1x256x2048.size (inbH e.isLt m.isLt)).set := by
  exact ((mH.slice (Rect.unit (s := S16x2048x2048) ![e.val, 256 * m.val, 0] S1x256x2048.size (inbH e.isLt m.isLt)) (fun _ => rfl)).view.set_reshape _).trans
    (View.set_slice_whole _ _)
theorem rset_eq (m : Fin 8) :
    rset m = (Rect.unit (s := S8x256x2048) ![m.val, 0, 0] S1x256x2048.size (inbR m.isLt)).set := by
  exact ((mR.slice (Rect.unit (s := S8x256x2048) ![m.val, 0, 0] S1x256x2048.size (inbR m.isLt)) (fun _ => rfl)).view.set_reshape _).trans
    (View.set_slice_whole _ _)

theorem mem_hset {e : Fin 16} {m : Fin 8} {i : HIdx} : i ∈ hset e m ↔ (i 0).val = e.val ∧ (i 1).val / 256 = m.val := by
  rw [hset_eq, Rect.mem_set_unit]
  constructor
  · intro h
    have h0 := h 0; have h1 := h 1
    change e.val ≤ (i 0).val ∧ (i 0).val < e.val + 1 at h0
    change 256 * m.val ≤ (i 1).val ∧ (i 1).val < 256 * m.val + 256 at h1
    omega
  · rintro ⟨h0, h1⟩ a
    fin_cases a
    · show e.val ≤ (i 0).val ∧ (i 0).val < e.val + 1; omega
    · show 256 * m.val ≤ (i 1).val ∧ (i 1).val < 256 * m.val + 256; omega
    · show 0 ≤ (i 2).val ∧ (i 2).val < 0 + 2048
      exact ⟨Nat.zero_le _, by have := (i 2).isLt; change (i 2).val < 2048 at this; omega⟩
theorem mem_rset {m : Fin 8} {i : S8x256x2048.Idx} : i ∈ rset m ↔ (i 0).val = m.val := by
  rw [rset_eq, Rect.mem_set_unit]
  constructor
  · intro h
    have h0 := h 0
    change m.val ≤ (i 0).val ∧ (i 0).val < m.val + 1 at h0
    omega
  · intro h0 a
    fin_cases a
    · show m.val ≤ (i 0).val ∧ (i 0).val < m.val + 1; omega
    · show 0 ≤ (i 1).val ∧ (i 1).val < 0 + 256
      exact ⟨Nat.zero_le _, by have := (i 1).isLt; change (i 1).val < 256 at this; omega⟩
    · show 0 ≤ (i 2).val ∧ (i 2).val < 0 + 2048
      exact ⟨Nat.zero_le _, by have := (i 2).isLt; change (i 2).val < 2048 at this; omega⟩

theorem hset_disj (p p' : Fin 16 × Fin 8) (h : p ≠ p') : Disjoint (hset p.1 p.2) (hset p'.1 p'.2) :=
  Finset.disjoint_left.mpr fun i hi hi' => h (by
    have a := mem_hset.mp hi; have b := mem_hset.mp hi'
    exact Prod.ext (Fin.ext (a.1.symm.trans b.1)) (Fin.ext (a.2.symm.trans b.2)))
theorem hset_cover : Finset.univ.biUnion (fun p : Fin 16 × Fin 8 => hset p.1 p.2) = (Finset.univ : Finset HIdx) := by
  ext i
  simp only [Finset.mem_biUnion, Finset.mem_univ, true_and, iff_true]
  have h1 := (i 1).isLt; change (i 1).val < 2048 at h1
  exact ⟨(⟨(i 0).val, (i 0).isLt⟩, ⟨(i 1).val / 256, by omega⟩), mem_hset.mpr ⟨rfl, rfl⟩⟩
theorem rset_disj (p p' : Fin 8) (h : p ≠ p') : Disjoint (rset p) (rset p') :=
  Finset.disjoint_left.mpr fun i hi hi' => h (Fin.ext ((mem_rset.mp hi).symm.trans (mem_rset.mp hi')))
theorem rset_cover : Finset.univ.biUnion rset = (Finset.univ : Finset S8x256x2048.Idx) := by
  ext i
  simp only [Finset.mem_biUnion, Finset.mem_univ, true_and, iff_true]
  exact ⟨⟨(i 0).val, (i 0).isLt⟩, mem_rset.mpr rfl⟩

/-- One block's credit on its cell. -/
abbrev NN : ℕ := 65536
theorem hBlk_amount (e : Fin 16) (m : Fin 8) (s : DmaSem sig) : (hBlk e m).view.amount (.dma s) = NN := by
  show RefSig.tileCredit S256x2048 .f32 = NN; decide
theorem hBlk_credit (e : Fin 16) (m : Fin 8) : (hBlk e m).view.dmaCredit = NN := hBlk_amount e m 0

/-- The index of a one-expert block at an element's place in its block. -/
def inBlk (i : HIdx) : S1x256x2048.Idx
  | ⟨0, _⟩ => (⟨0, Nat.one_pos⟩ : Fin 1)
  | ⟨1, _⟩ => (⟨(i 1).val % 256, Nat.mod_lt _ (by decide)⟩ : Fin 256)
  | ⟨2, _⟩ => (⟨(i 2).val, (i 2).isLt⟩ : Fin 2048)

theorem inBlk_emb (e : Fin 16) (m : Fin 8) (y : S256x2048.Idx) :
    inBlk ((hBlk e m).view.emb y) = Shape.reshapeEquiv squeezes_S1x256x2048_S256x2048.numel_eq y := by
  generalize hx : (Shape.reshapeEquiv squeezes_S1x256x2048_S256x2048.numel_eq y : S1x256x2048.Idx) = x
  have he : (hBlk e m).view.emb y = (Rect.unit (s := S16x2048x2048) ![e.val, 256 * m.val, 0] S1x256x2048.size (inbH e.isLt m.isLt)).emb x := by
    subst hx; rfl
  rw [he]
  have h0 : (x 0).val < 1 := (x 0).isLt
  have h1 : (x 1).val < 256 := (x 1).isLt
  funext a
  fin_cases a
  · refine Fin.ext ?_; show 0 = (x 0).val; omega
  · refine Fin.ext ?_
    have : ((Rect.unit (s := S16x2048x2048) ![e.val, 256 * m.val, 0] S1x256x2048.size (inbH e.isLt m.isLt)).emb x 1).val = 256 * m.val + 1 * (x 1).val := rfl
    show ((Rect.unit (s := S16x2048x2048) ![e.val, 256 * m.val, 0] S1x256x2048.size (inbH e.isLt m.isLt)).emb x 1).val % 256 = (x 1).val
    rw [this]; omega
  · refine Fin.ext ?_
    have : ((Rect.unit (s := S16x2048x2048) ![e.val, 256 * m.val, 0] S1x256x2048.size (inbH e.isLt m.isLt)).emb x 2).val = 0 + 1 * (x 2).val := rfl
    show ((Rect.unit (s := S16x2048x2048) ![e.val, 256 * m.val, 0] S1x256x2048.size (inbH e.isLt m.isLt)).emb x 2).val = (x 2).val
    rw [this]; omega

end Cert.Kernel.Hand

end
-- ==== Proof.Bits.Spec.lean ====
/-
  What the kernel leaves: the count of every expert, and block `m` of expert `e`'s Hessian — the masked product if the
  expert has rows, zeros if it has none, and what was there before if its range of rows ends before it starts.
-/
module

public import proofs.«01_k».proof.Proof.Bits.Blocks
public import Mathlib.Data.Nat.Count

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-! ## The offsets, read by number -/

/-- Where offset `n` is. -/
def at17 (n : ℕ) : S17.Idx
  | ⟨0, _⟩ => (⟨n % 17, Nat.mod_lt _ (by decide)⟩ : Fin 17)
/-- Where count `n` is. -/
def at16 (n : ℕ) : S16.Idx
  | ⟨0, _⟩ => (⟨n % 16, Nat.mod_lt _ (by decide)⟩ : Fin 16)
abbrev loW (fo : S17.Idx → BitVec 32) (e : ℕ) : BitVec 32 := fo (at17 e)
abbrev hiW (fo : S17.Idx → BitVec 32) (e : ℕ) : BitVec 32 := fo (at17 (e + 1))
/-- The expert's count. -/
abbrev cntW (fo : S17.Idx → BitVec 32) (e : ℕ) : BitVec 32 := Scalar.subi (hiW fo e) (loW fo e)
/-- The expert has as many rows as zero. -/
def isEmp (fo : S17.Idx → BitVec 32) (e : ℕ) : Prop := Scalar.cmpi .eq (cntW fo e) 0#32 = 1#1
/-- The expert's range of rows is not empty. -/
def isNe (fo : S17.Idx → BitVec 32) (e : ℕ) : Prop := Scalar.cmpi .sgt (hiW fo e) (loW fo e) = 1#1
instance (fo : S17.Idx → BitVec 32) : DecidablePred (isEmp fo) := fun e => inferInstanceAs (Decidable (_ = _))
instance (fo : S17.Idx → BitVec 32) : DecidablePred (isNe fo) := fun e => inferInstanceAs (Decidable (_ = _))

theorem one_of (b : Bool) (h : BitVec.ofBool b = 1#1) : b = true := by cases b <;> simp_all

theorem not_ne_of_emp {fo : S17.Idx → BitVec 32} {e : ℕ} (h : isEmp fo e) : ¬ isNe fo e := by
  have key : ∀ a b : BitVec 32, Scalar.cmpi .eq (Scalar.subi a b) 0#32 = 1#1 → ¬ Scalar.cmpi .sgt a b = 1#1 := by
    intro a b h1 h2
    have h3 : (a - b == 0#32) = true := one_of _ h1
    have h4 : b.slt a = true := one_of _ h2
    have h5 : a - b = 0#32 := by simpa using h3
    have h6 : a = b := by bv_omega
    subst h6
    simp [BitVec.slt] at h4
  exact key _ _ h

/-- Expert `e`, block `m`, by number. -/
abbrev fE (e : ℕ) : Fin 16 := Fin.ofNat 16 e
abbrev fM (m : ℕ) : Fin 8 := Fin.ofNat 8 m
theorem fE_val {e : ℕ} (h : e < 16) : (fE e).val = e := Nat.mod_eq_of_lt h
theorem fM_val {m : ℕ} (h : m < 8) : (fM m).val = m := Nat.mod_eq_of_lt h

/-- The expert that is number `q` among those of a class. -/
def expOf (p : ℕ → Prop) [DecidablePred p] (q : ℕ) : ℕ := Classical.epsilon fun e => p e ∧ Nat.count p e = q
theorem expOf_count {p : ℕ → Prop} [DecidablePred p] {e : ℕ} (h : p e) : expOf p (Nat.count p e) = e := by
  have := Classical.epsilon_spec (p := fun e' => p e' ∧ Nat.count p e' = Nat.count p e) ⟨e, h, rfl⟩
  exact Nat.count_injective this.1 h this.2

/-! ## The words the body reads and writes -/

theorem read_off17 (fo : S17.Idx → BitVec 32) {off : Fin 1 → ℕ} (h : ∀ a, off a + S1.size a ≤ S17.size a) (n : ℕ) (hn : n < 17) (ho : off = ![n])
    (x : (Rect.unit (s := S17) off S1.size h).shape.Idx) :
    (mO.access (Rect.unit (s := S17) off S1.size h)).read (Elt F) fo x = fo (at17 n) := by
  subst ho
  show fo _ = fo _
  congr 1
  funext a
  refine Fin.ext ?_
  have hx : (x 0).val < 1 := (x 0).isLt
  fin_cases a
  show n + 1 * (x 0).val = n % 17
  omega

/-- The counts' buffer once the counts of the experts below `k` are stored. -/
def cntC (fo : S17.Idx → BitVec 32) (fc : S16.Idx → BitVec 32) (k : ℕ) : S16.Idx → BitVec 32 :=
  fun i => if (i 0).val < k then cntW fo (i 0).val else fc i

theorem write_cnt (fo : S17.Idx → BitVec 32) (fc : S16.Idx → BitVec 32) {off : Fin 1 → ℕ} (h : ∀ a, off a + S1.size a ≤ S16.size a) (k : ℕ) (ho : off = ![k]) :
    (mC.access (Rect.unit (s := S16) off S1.size h)).write (Elt F) (cntC fo fc k) (fun _ => cntW fo k) Finset.univ = cntC fo fc (k + 1) := by
  subst ho
  have hk : k < 16 := by have := h 0; change k + 1 ≤ 16 at this; omega
  funext i
  by_cases hi : (i 0).val = k
  · have : i = (mC.access (Rect.unit (s := S16) ![k] S1.size h)).emb (fun a => match a with | ⟨0, _⟩ => (⟨0, Nat.one_pos⟩ : Fin 1)) := by
      funext a; refine Fin.ext ?_; fin_cases a
      show (i 0).val = k + 1 * 0; omega
    have e1 : cntC fo fc (k + 1) i = cntW fo k := by unfold cntC; rw [if_pos (by omega), hi]
    rw [e1, this]
    exact View.write_emb_of_mem _ _ (Finset.mem_univ _)
  · rw [View.write_of_not_mem]
    · unfold cntC
      by_cases h' : (i 0).val < k
      · rw [if_pos h', if_pos (by omega)]
      · rw [if_neg h', if_neg (by omega)]
    · intro hm
      rw [View.setOn_univ] at hm
      have hm2 : i ∈ (Rect.unit (s := S16) ![k] S1.size h).set := by
        rw [← View.set_slice_whole cc0_stg1_0 (Rect.unit (s := S16) ![k] S1.size h)]; exact hm
      have := Rect.mem_set_unit.mp hm2 0
      change k ≤ (i 0).val ∧ (i 0).val < k + 1 at this
      omega

theorem read_cnt (fo : S17.Idx → BitVec 32) (fc : S16.Idx → BitVec 32) (k : ℕ) (hk : k < 16) {off : Fin 1 → ℕ} (h : ∀ a, off a + S1.size a ≤ S16.size a) (ho : off = ![k])
    (x : (Rect.unit (s := S16) off S1.size h).shape.Idx) :
    (mC.access (Rect.unit (s := S16) off S1.size h)).read (Elt F) (cntC fo fc k) x = cntC fo fc k (at16 k) := by
  subst ho
  show cntC fo fc k _ = cntC fo fc k _
  congr 1
  funext a
  refine Fin.ext ?_
  have hx : (x 0).val < 1 := (x 0).isLt
  fin_cases a
  show k + 1 * (x 0).val = k % 16
  omega

/-! ## The Hessian -/

/-- The iota over the rows' numbers. -/
abbrev rowIota : IVec S1x256 32 := iota .tc S1x256 32 [1] iota_S1x256_d1_w32
/-- Block `m` of the transposed rows. -/
def xtBlk (fXt : S2048x256.Idx → Elt F .bf16) (m : Fin 8) : Vec F S256x256 .bf16 :=
  (mXt.access (Rect.unit (s := S2048x256) ![256 * m.val, 0] S256x256.size (inbXt m.isLt))).read (Elt F) fXt
/-- Block `m` of expert `e`'s product, as it is stored in a slot of the ring. -/
def blkV (fo : S17.Idx → BitVec 32) (fX : S256x2048.Idx → Elt F .bf16) (fXt : S2048x256.Idx → Elt F .bf16) (e : ℕ) (m : Fin 8) : FVec F S1x256x2048 .f32 :=
  k0_pay2 rowIota (loW fo e) (hiW fo e) (xtBlk fXt m) fX
/-- The Hessian at the end, `f0` its contents at the launch. -/
def hFin (fo : S17.Idx → BitVec 32) (fX : S256x2048.Idx → Elt F .bf16) (fXt : S2048x256.Idx → Elt F .bf16) (f0 : HIdx → Elt F .f32) : HIdx → Elt F .f32 :=
  fun i => if isNe fo (i 0).val then blkV fo fX fXt (i 0).val (fM ((i 1).val / 256)) (inBlk i)
    else if isEmp fo (i 0).val then (k0_pay4 (F := F)) (fun a => match a with
      | ⟨0, _⟩ => (⟨0, by decide⟩ : Fin 256)
      | ⟨1, _⟩ => (⟨0, by decide⟩ : Fin 2048))
    else f0 i

theorem pay4_const (x y : S256x2048.Idx) : k0_pay4 (F := F) x = k0_pay4 (F := F) y := rfl

/-- Where element `y` of a block is in the Hessian. -/
abbrev hEmb (e : Fin 16) (m : Fin 8) (y : S256x2048.Idx) : HIdx := (hBlk e m).view.emb y
theorem emb_coords (e : Fin 16) (m : Fin 8) (y : S256x2048.Idx) :
    (hEmb e m y 0).val = e.val ∧ (hEmb e m y 1).val / 256 = m.val :=
  mem_hset.mp ((hBlk e m).view.emb_mem_set y)

section
variable {fo : S17.Idx → BitVec 32} {fX : S256x2048.Idx → Elt F .bf16} {fXt : S2048x256.Idx → Elt F .bf16} {f0 : HIdx → Elt F .f32}

/-- A zero block delivered is the Hessian's block of an empty expert. -/
theorem hFin_emp {e : ℕ} (he : e < 16) (h : isEmp fo e) (m : Fin 8) (g : HIdx → Elt F .f32) (w : S256x2048.Idx → Elt F .f32) (hw : w = k0_pay4 (F := F)) :
    ∀ i ∈ hset (fE e) m, (hBlk (fE e) m).view.write (Elt F) g w Finset.univ i = hFin fo fX fXt f0 i := by
  intro i hi
  obtain ⟨y, -, hy⟩ := Finset.mem_map.mp hi
  change hEmb (fE e) m y = i at hy
  subst hy
  refine (View.write_emb_of_mem _ _ (Finset.mem_univ _)).trans ?_
  have hc := emb_coords (fE e) m y
  unfold hFin
  rw [hc.1, fE_val he, if_neg (not_ne_of_emp h), if_pos h]
  subst hw
  exact pay4_const _ _

/-- A slot of the ring delivered is the Hessian's block of an expert that has rows. -/
theorem hFin_ne {e : ℕ} (he : e < 16) (h : isNe fo e) {j : ℕ} (hj : j < 8) (g : HIdx → Elt F .f32) (w : S256x2048.Idx → Elt F .f32)
    (hw : ∀ y, w y = blkV fo fX fXt e (fM j) (Shape.reshapeEquiv squeezes_S1x256x2048_S256x2048.numel_eq y)) :
    ∀ i ∈ hset (fE e) (fM j), (hBlk (fE e) (fM j)).view.write (Elt F) g w Finset.univ i = hFin fo fX fXt f0 i := by
  intro i hi
  obtain ⟨y, -, hy⟩ := Finset.mem_map.mp hi
  change hEmb (fE e) (fM j) y = i at hy
  subst hy
  refine (View.write_emb_of_mem _ _ (Finset.mem_univ _)).trans ?_
  have hc := emb_coords (fE e) (fM j) y
  unfold hFin
  rw [hc.1, fE_val he, if_pos h, hc.2, show inBlk (hEmb (fE e) (fM j) y) = _ from inBlk_emb _ _ y]
  rw [show fM (fM j).val = fM j from Fin.ext (by rw [fM_val (fM j).isLt])]
  exact hw y
end

end Cert.Kernel.Hand

end
-- ==== Proof.Bits.ZeroLoop.lean ====
/-
  The loop over the experts that stores the counts and starts, for an expert without rows, the eight transfers of zeros
  into its Hessian: one batch of transfers on one cell, eight for each such expert.
-/
module

public import proofs.«01_k».proof.Proof.Bits.Spec
public import proofs.«01_k».proof.Proof.Gen.Kernel.Skeleton

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The proof's user algebra: the pipeline library's beside the transfers' counters. -/
local notation "𝕄" => MT nD τ sig Unit (Elt F) ℕ (Pipeline.UD sig nD τ) ℕ
/-- Where the transfers' counters are in it. -/
abbrev EC : UEmb Counters 𝕄 := countersEmb (U := Pipeline.UD sig nD τ)

/-- A hand rule leaves its continuation applied: the next statement is `k a`. -/
theorem ret_bind' {E : Type → Type} {α β : Type} (a : α) (k : α → Prog E β) : (Prog.ret a).bind k = k a := rfl

/-! ## Products over numbers -/

theorem bigSep_Ico_head {M : Type _} [URA M] {a b : ℕ} (h : a < b) (Φ : ℕ → sProp M) :
    bigSep (Finset.Ico a b) Φ = iprop(Φ a ∗ bigSep (Finset.Ico (a + 1) b) Φ) := by
  rw [show Finset.Ico a b = insert a (Finset.Ico (a + 1) b) by ext x; simp only [Finset.mem_insert, Finset.mem_Ico]; omega,
    bigSep_insert (by simp)]; rfl
theorem bigSep_Ico_nil {M : Type _} [URA M] {a b : ℕ} (h : b ≤ a) (Φ : ℕ → sProp M) : bigSep (Finset.Ico a b) Φ = iprop(emp) := by
  rw [Finset.Ico_eq_empty (by omega), bigSep_empty]; rfl
theorem bigSep_range_succ {M : Type _} [URA M] (k : ℕ) (Φ : ℕ → sProp M) :
    bigSep (Finset.range (k + 1)) Φ = iprop(Φ k ∗ bigSep (Finset.range k) Φ) := by
  rw [Finset.range_add_one, bigSep_insert (by simp)]; rfl

/-! ## What is held -/

section
variable (c : Dev nD)

/-- Block `m` of expert `e`'s Hessian, at `f`. -/
abbrev hPt (e : Fin 16) (m : Fin 8) (f : HIdx → Elt F .f32) : sProp 𝕄 :=
  (hBlk e m).view.loc (c : Thread nD τ) ↦[(hBlk e m).view.set]{fullShare} f
instance hPt_storable (e : Fin 16) (m : Fin 8) (f : HIdx → Elt F .f32) : BI.Storable (upEmb : UEmb _ 𝕄) (hPt (F := F) c e m f) := by
  have key : ∀ (S : Finset HIdx) (g : Buf (Elt F) (mH.view.loc (c : Thread nD τ))),
      BI.Storable (upEmb : UEmb _ 𝕄) (mH.view.loc (c : Thread nD τ) ↦[S]{fullShare} g) := fun _ _ => inferInstance
  exact key _ _
/-- The eight blocks of an expert's Hessian. -/
abbrev row (f : HIdx → Elt F .f32) (e : ℕ) : sProp 𝕄 := bigSep (Finset.Ico 0 8) fun m => hPt c (fE e) (fM m) f
/-- The zeros, under the read token of one transfer. -/
abbrev zTok (t : ℕ) : sProp 𝕄 :=
  mZ.view.loc (c : Thread nD τ) ↦[mZ.view.set]{Transfers.shareTokN fullShare t} (k0_pay4 (F := F))

/-- What the batch's transfer `t` delivers: its block of zeros, and its token back. -/
def zD (fo : S17.Idx → BitVec 32) (hf : HIdx → Elt F .f32) (n : ℕ) (t : Fin n) : sProp 𝕄 :=
  iprop(hPt c (fE (expOf (isEmp fo) (t.val / 8))) (fM (t.val % 8)) hf ∗ zTok (F := F) c t.val)
instance zD_storable (fo : S17.Idx → BitVec 32) (hf : HIdx → Elt F .f32) (n : ℕ) (t : Fin n) :
    BI.Storable (upEmb : UEmb _ 𝕄) (zD c fo hf n t) := by
  have h1 : BI.Storable (upEmb : UEmb _ 𝕄) (zTok (F := F) c t.val) := inferInstance
  have h2 := hPt_storable (F := F) c (fE (expOf (isEmp fo) (t.val / 8))) (fM (t.val % 8)) hf
  unfold zD; infer_instance

abbrev zBatch (fo : S17.Idx → BitVec 32) (hf : HIdx → Elt F .f32) (n j u : ℕ) : sProp 𝕄 :=
  Transfers.Batch (EC (F := F)) (c : Thread nD τ) (.dma cc0_scratch7.sem) () NN (zD c fo hf n) j u

/-- A run of the core. -/
abbrev run {α : Type} (p : Prog (TpuEff nD τ sig (Elt F) Λ₀ .tc) α) (Q : α → sProp 𝕄) : sProp 𝕄 :=
  wp frame (wpE (defs₀ (F := F)) Variants.none (c : Thread nD τ) none) Set.univ p Q

/-! ## One trip of the inner loop -/

/-- Before trip `j` of expert `e`'s eight: the batch so far, the tokens and the expert's blocks from there on. -/
def inv2 (fo : S17.Idx → BitVec 32) (hf f0 : HIdx → Elt F .f32) (n q e j : ℕ) (_ : Unit) : sProp 𝕄 :=
  iprop(zBatch c fo hf n (8 * q + j) 0 ∗ bigSep (Finset.Ico (8 * q + j) n) (zTok c) ∗ bigSep (Finset.Ico j 8) fun m => hPt c (fE e) (fM m) f0)

def t2At (off : Fin 3 → ℕ) (h : ∀ a, off a + S1x256x2048.size a ≤ S16x2048x2048.size a) : Prog (TpuEff nD τ sig (Elt F) Λ₀ .tc) Unit := do
  Prog.lift (.enqueueDma mZ (.here ((mH.slice (Rect.unit (s := S16x2048x2048) off S1x256x2048.size h) (fun _ => rfl)).squeeze S256x2048 squeezes_S1x256x2048_S256x2048))
    (.dma cc0_scratch7.sem) (Memref.isWhole_whole _).wordExact ((View.wordExact_bits rfl).reshape _ _) ⟨Or.inl rfl, trivial⟩)
  pure ⟨⟩

theorem t2_run (fo : S17.Idx → BitVec 32) (fX : S256x2048.Idx → Elt F .bf16) (fXt : S2048x256.Idx → Elt F .bf16) (f0 : HIdx → Elt F .f32)
    (n e j : ℕ) (he : e < 16) (hemp : isEmp fo e) (hj : j < 8) (hn : 8 * Nat.count (isEmp fo) e + 8 ≤ n)
    (off : Fin 3 → ℕ) (h : ∀ a, off a + S1x256x2048.size a ≤ S16x2048x2048.size a) (ho : off = ![e, 256 * j, 0]) :
    inv2 c fo (hFin fo fX fXt f0) f0 n (Nat.count (isEmp fo) e) e j ⟨⟩
      ⊢ run c (t2At (F := F) off h) (inv2 c fo (hFin fo fX fXt f0) f0 n (Nat.count (isEmp fo) e) e (j + 1)) := by
  have ho' : off = ![(fE e).val, 256 * (fM j).val, 0] := by rw [fE_val he, fM_val hj]; exact ho
  subst ho'
  unfold inv2
  rw [bigSep_Ico_head (a := 8 * _ + j) (by omega), bigSep_Ico_head (a := j) hj]
  iintro ⟨HB, ⟨HT, HTs⟩, ⟨HH, HHs⟩⟩
  unfold t2At
  iapply (Transfers.wp_dmaBatch (EC (F := F)) Variants.none (c : Thread nD τ) none (src := mZ) (dst := hBlk (fE e) (fM j)) () NN (hBlk_amount _ _ _) subset_rfl
    (D := zD c fo (hFin fo fX fXt f0) n) (j := 8 * Nat.count (isEmp fo) e + j) (u := 0) (by omega) (Nat.zero_le _) (by
      unfold zD
      dsimp only
      rw [show (8 * Nat.count (isEmp fo) e + j) / 8 = Nat.count (isEmp fo) e by omega, show (8 * Nat.count (isEmp fo) e + j) % 8 = j by omega,
        expOf_count hemp]
      exact sep_mono_l (Entails.of_eq (pointsTo_congr (hFin_emp he hemp (fM j) f0 _ (by rfl)))))) $$ [HT HH HB]
  · isplitl [HT]; · iexact HT
    isplitl [HH]; · iexact HH
    iexact HB
  iintro HB
  simp only [ret_bind']
  sl_step
  rw [show 8 * Nat.count (isEmp fo) e + (j + 1) = 8 * Nat.count (isEmp fo) e + j + 1 by omega]
  isplitl [HB]; · iexact HB
  isplitl [HTs]; · iexact HTs
  iexact HHs

/-! ## The loops on the body's operands -/

abbrev t2B (k : Fin k0_t1_loop.trips) (v47 v49 : BitVec 32) (hw : k0_chk1 k v47 v49) :=
  k0_t2_body (F := F) mO (Memref.isWhole_whole _) mA1 (Memref.isWhole_whole _) mA2 (Memref.isWhole_whole _) mH (Memref.isWhole_whole _) mC (Memref.isWhole_whole _)
    mCd (Memref.isWhole_whole _) mSc (Memref.isWhole_whole _) mX (Memref.isWhole_whole _) mXt (Memref.isWhole_whole _) mZ (Memref.isWhole_whole _) mR (Memref.isWhole_whole _)
    cc0_scratch6 cc0_scratch7 cc0_scratch8 k v47 v49 hw
abbrev t3B (k : Fin k0_t1_loop.trips) (v47 v49 : BitVec 32) (hw : k0_chk1 k v47 v49) :=
  k0_t3_body (F := F) mO (Memref.isWhole_whole _) mA1 (Memref.isWhole_whole _) mA2 (Memref.isWhole_whole _) mH (Memref.isWhole_whole _) mC (Memref.isWhole_whole _)
    mCd (Memref.isWhole_whole _) mSc (Memref.isWhole_whole _) mX (Memref.isWhole_whole _) mXt (Memref.isWhole_whole _) mZ (Memref.isWhole_whole _) mR (Memref.isWhole_whole _)
    cc0_scratch6 cc0_scratch7 cc0_scratch8 k v47 v49 hw
abbrev t1B := k0_t1_body (F := F) mO (Memref.isWhole_whole _) mA1 (Memref.isWhole_whole _) mA2 (Memref.isWhole_whole _) mH (Memref.isWhole_whole _) mC (Memref.isWhole_whole _)
    mCd (Memref.isWhole_whole _) mSc (Memref.isWhole_whole _) mX (Memref.isWhole_whole _) mXt (Memref.isWhole_whole _) mZ (Memref.isWhole_whole _) mR (Memref.isWhole_whole _)
    cc0_scratch6 cc0_scratch7 cc0_scratch8

/-- The eight transfers of an expert without rows, or no trip at all. -/
theorem t2_loop (fo : S17.Idx → BitVec 32) (fX : S256x2048.Idx → Elt F .bf16) (fXt : S2048x256.Idx → Elt F .bf16) (f0 : HIdx → Elt F .f32)
    (n : ℕ) (k : Fin k0_t1_loop.trips) (hw : k0_chk1 k (hiW fo k.val) (loW fo k.val))
    (hn : isEmp fo k.val → 8 * Nat.count (isEmp fo) k.val + 8 ≤ n)
    {β : Type} (kk : Unit → Prog (TpuEff nD τ sig (Elt F) Λ₀ .tc) β) (Q : β → sProp 𝕄) :
    iprop(zBatch c fo (hFin fo fX fXt f0) n (8 * Nat.count (isEmp fo) k.val) 0 ∗ bigSep (Finset.Ico (8 * Nat.count (isEmp fo) k.val) n) (zTok c)
        ∗ (if isEmp fo k.val then row c f0 k.val else iprop(emp)))
      ⊢ iprop((iprop(zBatch c fo (hFin fo fX fXt f0) n (8 * Nat.count (isEmp fo) (k.val + 1)) 0 ∗ bigSep (Finset.Ico (8 * Nat.count (isEmp fo) (k.val + 1)) n) (zTok c))
            -∗ run c (kk ⟨⟩) Q)
          -∗ run c (Scf.Loop.for (k0_t2_loop (hiW fo k.val) (loW fo k.val)) (k0_t2_ok k _ _ hw) ⟨⟩ (t2B (F := F) k _ _ hw) >>= kk) Q) := by
  have hk := t1_lt k
  by_cases he : isEmp fo k.val
  · rw [if_pos he, Nat.count_succ, if_pos he]
    have ht : (k0_t2_loop (hiW fo k.val) (loW fo k.val)).trips = 8 := by rw [t2_trips]; exact if_pos he
    iintro ⟨HB, HT, HR⟩ HK
    iapply (Scf.wp_for_bind frame (wpE (defs₀ (F := F)) Variants.none (c : Thread nD τ) none) Set.univ _ _ _ (k0_t2_ok k _ _ hw) ⟨⟩
      (t2B (F := F) k _ _ hw) (inv2 c fo (hFin fo fX fXt f0) f0 n (Nat.count (isEmp fo) k.val) k.val)
      (fun j acc => t2_run c fo fX fXt f0 n k.val j.val hk he (t2_lt j) (hn he) _ _ (off4_eq k _ _ j)) (kk := kk)) $$ [HB HT HR] [HK]
    · unfold inv2
      isplitl [HB]; · iexact HB
      isplitl [HT]; · iexact HT
      iexact HR
    rw [show Scf.trips _ _ _ = 8 from ht]
    unfold inv2
    iintro %acc ⟨HB, HT, -⟩
    rw [show 8 * Nat.count (isEmp fo) k.val + 8 = 8 * (Nat.count (isEmp fo) k.val + 1) by omega]
    iapply HK
    isplitl [HB]; · iexact HB
    iexact HT
  · rw [if_neg he, Nat.count_succ, if_neg he]
    have ht : (k0_t2_loop (hiW fo k.val) (loW fo k.val)).trips = 0 := by rw [t2_trips]; exact if_neg he
    iintro ⟨HB, HT, -⟩ HK
    iapply (Scf.wp_for_bind frame (wpE (defs₀ (F := F)) Variants.none (c : Thread nD τ) none) Set.univ _ _ _ (k0_t2_ok k _ _ hw) ⟨⟩
      (t2B (F := F) k _ _ hw) (fun _ _ => iprop(emp)) (fun j acc => absurd (lt_of_lt_of_eq j.isLt ht) (Nat.not_lt_zero _)) (kk := kk)) $$ [] [HB HT HK]
    · iempintro
    iintro %acc -
    iapply HK
    isplitl [HB]; · iexact HB
    iexact HT

/-- A loop without trips. -/
theorem no_trips {w : ℕ} {σ β : Type} (lb ub st : BitVec w) (hok : Scf.OK lb ub st) (init : σ) (body : Fin (Scf.trips lb ub st) → σ → Prog (TpuEff nD τ sig (Elt F) Λ₀ .tc) σ)
    (h : Scf.trips lb ub st = 0) (kk : σ → Prog (TpuEff nD τ sig (Elt F) Λ₀ .tc) β) (Q : β → sProp 𝕄) :
    run c (kk init) Q ⊢ run c (Scf.for lb ub st hok init body >>= kk) Q := by
  iintro HK
  iapply (Scf.wp_for_bind frame (wpE (defs₀ (F := F)) Variants.none (c : Thread nD τ) none) Set.univ lb ub st hok init body
    (fun _ a => iprop(⌜a = init⌝)) (fun j acc => absurd (lt_of_lt_of_eq j.isLt h) (Nat.not_lt_zero _)) (kk := kk)) $$ [] [HK]
  · ipureintro; rfl
  iintro %acc %ha
  subst ha
  iexact HK

/-! ## The scalars -/

abbrev oPt (fo : S17.Idx → BitVec 32) : sProp 𝕄 := mO.view.loc (c : Thread nD τ) ↦{fullShare} fo
abbrev cPt (fc : S16.Idx → BitVec 32) : sProp 𝕄 := mC.view.loc (c : Thread nD τ) ↦{fullShare} fc

theorem wp_word {s : Shape} (m : Memref sig .tc .smem s .i32) (r : Rect s) (h1 : r.shape.numel = 1) (hp : EltTy.packing .i32 = 1)
    (f : Buf (Elt F) (m.view.loc (c : Thread nD τ)))
    {β : Type} (kk : Elt F .i32 → Prog (TpuEff nD τ sig (Elt F) Λ₀ .tc) β) (Q : β → sProp 𝕄) (w : Elt F .i32)
    (hw : ∀ x, (m.access r).read (Elt F) f x = w) :
    (m.view.loc (c : Thread nD τ) ↦{fullShare} f) ⊢ iprop(((m.view.loc (c : Thread nD τ) ↦{fullShare} f) -∗ run c (kk w) Q)
      -∗ run c (smemLoad m r h1 hp >>= kk) Q) := by
  have := wp_smemLoadElt (Name := ℕ) (Lvl := ℕ) (Ix := Unit) (U := Pipeline.UD sig nD τ) (defs := defs₀ (F := F)) (Γ := .empty) Variants.none (c : Thread nD τ) none Set.univ (m := m) (r := r) (hw := View.loads_smem_one hp h1)
    (x := Shape.Idx.first (h1.symm ▸ Nat.one_pos)) (k := kk) (f := f) (S := Finset.univ) (q := fullShare) (Q := Q) (Finset.subset_univ _)
  rw [hw] at this
  exact this

theorem wp_st {cs : CoreSpace} {s : Shape} {e : EltTy} (m : Memref sig .tc cs s e) (r : Rect s) (w : r.shape.Idx → Elt F e) (hx : (m.access r).Stores Finset.univ)
    (hm : Finset.univ = (Finset.univ : Finset r.shape.Idx) ∨ ∀ a, r.stride a = 1)
    (S : Finset (Idx (m.view.loc (c : Thread nD τ)))) (f : Buf (Elt F) (m.view.loc (c : Thread nD τ))) (hS : (m.access r).setOn Finset.univ ⊆ S)
    {β : Type} (kk : PUnit → Prog (TpuEff nD τ sig (Elt F) Λ₀ .tc) β) (Q : β → sProp 𝕄) :
    (m.view.loc (c : Thread nD τ) ↦[S]{fullShare} f)
      ⊢ iprop(((m.view.loc (c : Thread nD τ) ↦[S]{fullShare} (m.access r).write (Elt F) f w Finset.univ) -∗ run c (kk ⟨⟩) Q)
      -∗ run c (Prog.lift (.store m r w Finset.univ hx hm) >>= kk) Q) :=
  wp_store (Name := ℕ) (Lvl := ℕ) (Ix := Unit) (U := Pipeline.UD sig nD τ) (defs := defs₀ (F := F)) (Γ := .empty) Variants.none (c : Thread nD τ) none Set.univ (m := m) (r := r)
    (k := kk) (f := f) (S := S) (Q := Q) hS

theorem wp_ld {cs : CoreSpace} {s : Shape} {e : EltTy} (m : Memref sig .tc cs s e) (r : Rect s) (hl : m.view.LoadsAt r.toLoadRect)
    (S : Finset (Idx (m.view.loc (c : Thread nD τ)))) (q : PosShare TreeShare) (f : Buf (Elt F) (m.view.loc (c : Thread nD τ))) (hS : (m.access r).set ⊆ S)
    {β : Type} (kk : (r.shape.Idx → Elt F e) → Prog (TpuEff nD τ sig (Elt F) Λ₀ .tc) β) (Q : β → sProp 𝕄) :
    (m.view.loc (c : Thread nD τ) ↦[S]{q} f)
      ⊢ iprop(((m.view.loc (c : Thread nD τ) ↦[S]{q} f) -∗ run c (kk ((m.access r).read (Elt F) f)) Q)
      -∗ run c (Prog.lift (.load m r.toLoadRect hl) >>= kk) Q) :=
  wp_load_rect (Name := ℕ) (Lvl := ℕ) (Ix := Unit) (U := Pipeline.UD sig nD τ) (defs := defs₀ (F := F)) (Γ := .empty) Variants.none (c : Thread nD τ) none Set.univ (m := m) (r := r)
    (k := kk) (f := f) (S := S) (Q := Q) hS

theorem wp_ldU {cs : CoreSpace} {s : Shape} {e : EltTy} (m : Memref sig .tc cs s e) (r : Rect s) (hl : m.view.LoadsAt r.toLoadRect)
    (q : PosShare TreeShare) (f : Buf (Elt F) (m.view.loc (c : Thread nD τ)))
    {β : Type} (kk : (r.shape.Idx → Elt F e) → Prog (TpuEff nD τ sig (Elt F) Λ₀ .tc) β) (Q : β → sProp 𝕄) :
    (m.view.loc (c : Thread nD τ) ↦{q} f)
      ⊢ iprop(((m.view.loc (c : Thread nD τ) ↦{q} f) -∗ run c (kk ((m.access r).read (Elt F) f)) Q)
      -∗ run c (Prog.lift (.load m r.toLoadRect hl) >>= kk) Q) :=
  wp_ld c m r hl Finset.univ q f (Finset.subset_univ _) kk Q

theorem wp_stU {cs : CoreSpace} {s : Shape} {e : EltTy} (m : Memref sig .tc cs s e) (r : Rect s) (w : r.shape.Idx → Elt F e) (hx : (m.access r).Stores Finset.univ)
    (hm : Finset.univ = (Finset.univ : Finset r.shape.Idx) ∨ ∀ a, r.stride a = 1)
    (f : Buf (Elt F) (m.view.loc (c : Thread nD τ)))
    {β : Type} (kk : PUnit → Prog (TpuEff nD τ sig (Elt F) Λ₀ .tc) β) (Q : β → sProp 𝕄) :
    (m.view.loc (c : Thread nD τ) ↦{fullShare} f)
      ⊢ iprop(((m.view.loc (c : Thread nD τ) ↦{fullShare} (m.access r).write (Elt F) f w Finset.univ) -∗ run c (kk ⟨⟩) Q)
      -∗ run c (Prog.lift (.store m r w Finset.univ hx hm) >>= kk) Q) :=
  wp_st c m r w hx hm Finset.univ f (Finset.subset_univ _) kk Q

theorem wp_offs (fo : S17.Idx → BitVec 32) {off : Fin 1 → ℕ} (h : ∀ a, off a + S1.size a ≤ S17.size a) (n : ℕ) (hn : n < 17) (ho : off = ![n])
    {β : Type} (kk : Elt F .i32 → Prog (TpuEff nD τ sig (Elt F) Λ₀ .tc) β) (Q : β → sProp 𝕄) :
    oPt (F := F) c fo ⊢ iprop((oPt (F := F) c fo -∗ run c (kk (fo (at17 n))) Q)
      -∗ run c (smemLoad mO (Rect.unit (s := S17) off S1.size h) numel1_S1 rfl >>= kk) Q) :=
  wp_word c mO _ _ _ fo kk Q _ (fun x => read_off17 (F := F) fo h n hn ho x)

/-! ## One trip of the outer loop -/

/-- Before expert `k`: the units counted so far, the offsets, the counts stored so far, the batch so far, the tokens from
    there on, and the rows of the empty experts from `k` on. -/
def inv1 (fo : S17.Idx → BitVec 32) (fc : S16.Idx → BitVec 32) (hf f0 : HIdx → Elt F .f32) (n k : ℕ) (acc : BitVec 32) : sProp 𝕄 :=
  iprop(⌜acc = BitVec.ofNat 32 (8 * Nat.count (isEmp fo) k)⌝ ∗ oPt c fo ∗ cPt c (cntC fo fc k)
    ∗ zBatch c fo hf n (8 * Nat.count (isEmp fo) k) 0 ∗ bigSep (Finset.Ico (8 * Nat.count (isEmp fo) k) n) (zTok c)
    ∗ bigSep (Finset.Ico k 16) fun e => if isEmp fo e then row c f0 e else iprop(emp))

theorem ofNat_add8 (q : ℕ) : Scalar.addi (BitVec.ofNat 32 (8 * q)) 8#32 = BitVec.ofNat 32 (8 * (q + 1)) := by
  show BitVec.ofNat 32 (8 * q) + 8#32 = _
  apply BitVec.eq_of_toNat_eq
  rw [BitVec.toNat_add, BitVec.toNat_ofNat, BitVec.toNat_ofNat, BitVec.toNat_ofNat]
  omega

theorem add_units (fo : S17.Idx → BitVec 32) (k : ℕ) :
    Scalar.addi (BitVec.ofNat 32 (8 * Nat.count (isEmp fo) k)) (Scalar.select (Scalar.cmpi .eq (Scalar.subi (hiW fo k) (loW fo k)) 0#32) 8#32 0#32)
      = BitVec.ofNat 32 (8 * Nat.count (isEmp fo) (k + 1)) := by
  rw [Nat.count_succ]
  by_cases h : isEmp fo k
  · rw [if_pos h, show Scalar.cmpi .eq (Scalar.subi (hiW fo k) (loW fo k)) 0#32 = 1#1 from h]
    exact ofNat_add8 _
  · rw [if_neg h, show Scalar.cmpi .eq (Scalar.subi (hiW fo k) (loW fo k)) 0#32 = 0#1 from (cmp_cases _ _ _).resolve_left h]
    exact BitVec.add_zero _

theorem t1_step (fo : S17.Idx → BitVec 32) (fc : S16.Idx → BitVec 32) (fX : S256x2048.Idx → Elt F .bf16) (fXt : S2048x256.Idx → Elt F .bf16) (f0 : HIdx → Elt F .f32)
    (k : Fin k0_t1_loop.trips) (acc : BitVec 32) :
    inv1 c fo fc (hFin fo fX fXt f0) f0 (8 * Nat.count (isEmp fo) 16) k.val acc
      ⊢ run c (t1B (F := F) k acc) (inv1 c fo fc (hFin fo fX fXt f0) f0 (8 * Nat.count (isEmp fo) 16) (k.val + 1)) := by
  have hk := t1_lt k
  unfold inv1
  rw [bigSep_Ico_head hk]
  iintro ⟨%hacc, HO, HC, HB, HT, HR, HRs⟩
  subst hacc
  unfold t1B k0_t1_body
  dsimp only
  iapply (wp_offs c fo _ (k.val + 1) (by omega) (off1_eq k)) $$ HO
  iintro HO
  iapply (wp_offs c fo _ k.val (by omega) (off2_eq k)) $$ HO
  iintro HO
  iapply (wp_assume (defs := defs₀ (F := F)) Variants.none (c : Thread nD τ) none Set.univ (chk1_all k _ _))
  simp only [ret_bind']
  iapply (wp_word c mC (Rect.unit (s := S16) (k0_off3 k) S1.size (k0_off3_inb k)) _ _ (cntC fo fc k.val) _ _
    (cntC fo fc k.val (at16 k.val)) (read_cnt fo fc k.val hk _ (off3_eq k))) $$ HC
  iintro HC
  iapply (wp_st c mC (Rect.unit (s := S16) (k0_off3 k) S1.size (k0_off3_inb k)) _ _ _ Finset.univ (cntC fo fc k.val) (Finset.subset_univ _)) $$ HC
  rw [write_cnt fo fc _ k.val (off3_eq k)]
  iintro HC
  simp only [ret_bind']
  iapply (t2_loop c fo fX fXt f0 (8 * Nat.count (isEmp fo) 16) k (chk1_all k _ _) (fun h => by
    have h1 : Nat.count (isEmp fo) (k.val + 1) ≤ Nat.count (isEmp fo) 16 := Nat.count_monotone _ (by omega)
    rw [Nat.count_succ, if_pos h] at h1; omega)) $$ [HB HT HR]
  · isplitl [HB]; · iexact HB
    isplitl [HT]; · iexact HT
    iexact HR
  iintro ⟨HB, HT⟩
  iapply (no_trips c _ _ _ (k0_t3_ok k _ _ (chk1_all k _ _)) _ (t3B (F := F) k _ _ (chk1_all k _ _)) (t3_trips _ _))
  unfold run
  sl_step
  isplitr
  · ipureintro
    exact add_units fo k.val
  isplitl [HO]; · iexact HO
  isplitl [HC]; · iexact HC
  isplitl [HB]; · iexact HB
  isplitl [HT]; · iexact HT
  iexact HRs

end

end Cert.Kernel.Hand

end
-- ==== Proof.Bits.RingLoop.lean ====
/-
  The loop over the experts that writes the products: block `m` of an expert with rows is computed into slot `m` of the
  ring and sent to the Hessian on cell `m`; the slot's transfer of the last expert with rows is waited for before.
-/
module

public import proofs.«01_k».proof.Proof.Bits.ZeroLoop

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

section
variable (c : Dev nD)

/-! ## What is held -/

/-- Slot `m` of the ring, at `f`. -/
abbrev rPt (m : Fin 8) (f : S8x256x2048.Idx → Elt F .f32) : sProp 𝕄 :=
  (rSlot m).view.loc (c : Thread nD τ) ↦[(rSlot m).view.set]{fullShare} f
theorem rPt_eq (m : Fin 8) (f : S8x256x2048.Idx → Elt F .f32) :
    rPt c m f = (mR.view.loc (c : Thread nD τ) ↦[rset m]{fullShare} f : sProp 𝕄) := rfl
/-- Slot `m` of the ring, at anything. -/
def rAny (m : Fin 8) : sProp 𝕄 := iprop(∃ f, rPt (F := F) c m f)
/-- The rows, and their transpose. -/
abbrev xPt (fX : S256x2048.Idx → Elt F .bf16) : sProp 𝕄 := mX.view.loc (c : Thread nD τ) ↦{fullShare} fX
abbrev xtPt (fXt : S2048x256.Idx → Elt F .bf16) : sProp 𝕄 := mXt.view.loc (c : Thread nD τ) ↦{fullShare} fXt

/-- The last expert with rows below `k`. -/
def last (fo : S17.Idx → BitVec 32) : ℕ → Option ℕ
  | 0 => none
  | k + 1 => if isNe fo k then some k else last fo k

theorem last_iff (fo : S17.Idx → BitVec 32) (k : ℕ) : last fo k ≠ none ↔ 0 < Nat.count (isNe fo) k := by
  induction k with
  | zero => simp [last]
  | succ k ih =>
    rw [Nat.count_succ]
    by_cases h : isNe fo k
    · simp [last, h]
    · simp only [last, if_neg h, ih]; omega

/-- Slot `m` and its cell: free, or in flight to an expert's block `m`. -/
def slotSt (hf : HIdx → Elt F .f32) (o : Option ℕ) (m : Fin 8) : sProp 𝕄 :=
  match o with
  | none => iprop(rAny (F := F) c m ∗ semVal ((c : Thread nD τ), SemLoc.dma (rSem m)) 0)
  | some e => Transfers.Flight (EC (F := F)) (c : Thread nD τ) (.dma (rSem m)) () NN iprop(hPt c (fE e) m hf ∗ rAny c m)
/-- Block `m` of the expert whose transfers were in the ring, delivered. -/
def retB (hf : HIdx → Elt F .f32) (o : Option ℕ) (m : ℕ) : sProp 𝕄 :=
  match o with
  | none => iprop(emp)
  | some e => hPt c (fE e) (fM m) hf

/-! ## One block -/

theorem read_x (fX : S256x2048.Idx → Elt F .bf16) :
    (mX.access (Rect.unit (s := S256x2048) ![0, 0] S256x2048.size inb_S256x2048_S256x2048_0_0)).read (Elt F) fX = fX := by
  funext y
  show fX _ = fX y
  congr 1
  funext a
  refine Fin.ext ?_
  fin_cases a
  · show 0 + 1 * (y 0).val = (y 0).val; omega
  · show 0 + 1 * (y 1).val = (y 1).val; omega

theorem write_at {κ : Kind} {sp : Space} {s : Shape} {e : EltTy} (v : View sig κ sp s e) (f : v.ref.ty.Contents (Elt F)) (w : s.Idx → Elt F e) (x : s.Idx) :
    v.read (Elt F) (v.write (Elt F) f w Finset.univ) x = w x := by rw [View.read_write_univ]

theorem slot_read (m : Fin 8) (h : ∀ a, (![m.val, 0, 0] : Fin 3 → ℕ) a + S1x256x2048.size a ≤ S8x256x2048.size a) (f : S8x256x2048.Idx → Elt F .f32)
    (w : S1x256x2048.Idx → Elt F .f32) (y : S256x2048.Idx) :
    (rSlot m).view.read (Elt F) ((mR.access (Rect.unit (s := S8x256x2048) ![m.val, 0, 0] S1x256x2048.size h)).write (Elt F) f w Finset.univ) y
      = w (Shape.reshapeEquiv squeezes_S1x256x2048_S256x2048.numel_eq y) := by
  exact write_at (mR.access (Rect.unit (s := S8x256x2048) ![m.val, 0, 0] S1x256x2048.size h)) f w (Shape.reshapeEquiv squeezes_S1x256x2048_S256x2048.numel_eq y)

abbrev hAt (off : Fin 3 → ℕ) (h : ∀ a, off a + S1x256x2048.size a ≤ S16x2048x2048.size a) : Memref sig .tc .hbm S256x2048 .f32 :=
  (mH.slice (Rect.unit (s := S16x2048x2048) off S1x256x2048.size h) (fun _ => rfl)).squeeze S256x2048 squeezes_S1x256x2048_S256x2048
abbrev rAt (off : Fin 3 → ℕ) (h : ∀ a, off a + S1x256x2048.size a ≤ S8x256x2048.size a) : Memref sig .tc .vmem S256x2048 .f32 :=
  (mR.slice (Rect.unit (s := S8x256x2048) off S1x256x2048.size h) (fun _ => rfl)).squeeze S256x2048 squeezes_S1x256x2048_S256x2048
abbrev sAt (off : Fin 1 → ℕ) (h : ∀ a, off a + S1.size a ≤ S8.size a) : DmaSem sig :=
  ((cc0_scratch8.slice (Rect.unit (s := S8) off S1.size h)).squeeze S_ squeezes_S1_S_).sem

/-- The wait for a slot's transfer. -/
theorem wait_run (hf : HIdx → Elt F .f32) (e j : ℕ) (hj : j < 8) (W : Waits sig Unit)
    {o8 : Fin 1 → ℕ} (h8 : ∀ a, o8 a + S1.size a ≤ S8.size a) (ho8 : o8 = ![j])
    {o9 : Fin 3 → ℕ} (h9 : ∀ a, o9 a + S1x256x2048.size a ≤ S16x2048x2048.size a)
    {o10 : Fin 3 → ℕ} (h10 : ∀ a, o10 a + S1x256x2048.size a ≤ S8x256x2048.size a)
    (hs : (rAt o10 h10).view.WordExact) (hd : (hAt o9 h9).view.WordExact)
    {β : Type} (kk : PUnit → Prog (TpuEff nD τ sig (Elt F) Λ₀ .tc) β) (Q : β → sProp 𝕄) :
    iprop(slotSt c hf (some e) (fM j) ∗ owes (c : Thread nD τ) 0 W)
      ⊢ iprop((iprop((hPt c (fE e) (fM j) hf ∗ rAny c (fM j)) ∗ semVal ((c : Thread nD τ), SemLoc.dma (rSem (fM j))) 0
            ∗ owes (c : Thread nD τ) 0 (insert (SemLoc.dma (rSem (fM j)), ()) W)) -∗ run c (kk ⟨⟩) Q)
        -∗ run c (Prog.lift (.waitDma2 (sAt o8 h8) (rAt o10 h10) (hAt o9 h9) hs hd) >>= kk) Q) := by
  have ho8' : o8 = ![(fM j).val] := by rw [fM_val hj]; exact ho8
  subst ho8'
  exact Transfers.wp_waitLocal (EC (F := F)) Variants.none (c : Thread nD τ) none (sem := rSem (fM j)) (srcw := rAt o10 h10) (dstw := hAt o9 h9)
    (k := kk) () (N := NN) (by show RefSig.tileCredit S256x2048 .f32 = NN; decide)

/-- The rest of a trip: the product into the slot, and its transfer. -/
def t5Tail (v46 v49 acc : BitVec 32) (o11 : Fin 2 → ℕ) (h11 : ∀ a, o11 a + S256x256.size a ≤ S2048x256.size a)
    (o12 : Fin 3 → ℕ) (h12 : ∀ a, o12 a + S1x256x2048.size a ≤ S8x256x2048.size a)
    (o13 : Fin 1 → ℕ) (h13 : ∀ a, o13 a + S1.size a ≤ S8.size a)
    (o14 : Fin 3 → ℕ) (h14 : ∀ a, o14 a + S1x256x2048.size a ≤ S16x2048x2048.size a)
    (o15 : Fin 3 → ℕ) (h15 : ∀ a, o15 a + S1x256x2048.size a ≤ S8x256x2048.size a) : Prog (TpuEff nD τ sig (Elt F) Λ₀ .tc) (BitVec 32) := do
  let v74 : Vec F S256x256 .bf16 ← Prog.lift (.load mXt (Rect.unit (s := S2048x256) o11 S256x256.size h11).toLoadRect (View.loadsAt_vmem h_S256x256))
  let v83 : Vec F S256x2048 .bf16 ← Prog.lift (.load mX (Rect.unit (s := S256x2048) ![0, 0] S256x2048.size inb_S256x2048_S256x2048_0_0).toLoadRect (View.loadsAt_vmem h_S256x2048))
  let v86 : Vec F S1x256x2048 .f32 ← Prog.lift (.load mR (Rect.unit (s := S8x256x2048) o12 S1x256x2048.size h12).toLoadRect (View.loadsAt_vmem h_S1x256x2048))
  Prog.lift (.store mR (Rect.unit (s := S8x256x2048) o12 S1x256x2048.size h12) (k0_pay2 rowIota v46 v49 v74 v83) Finset.univ (View.stores_vmem_bits_univ h_S1x256x2048 rfl) (.inl rfl))
  Prog.lift (.enqueueDma (rAt o15 h15) (.here (hAt o14 h14)) (.dma (sAt o13 h13)) ((View.wordExact_bits rfl).reshape _ _) ((View.wordExact_bits rfl).reshape _ _) ⟨Or.inl rfl, trivial⟩)
  pure (Scalar.addi acc 1#32)

theorem tail_run (fo : S17.Idx → BitVec 32) (fX : S256x2048.Idx → Elt F .bf16) (fXt : S2048x256.Idx → Elt F .bf16) (f0 : HIdx → Elt F .f32)
    (e j : ℕ) (he : e < 16) (hne : isNe fo e) (hj : j < 8) (acc : BitVec 32)
    {o11 : Fin 2 → ℕ} (h11 : ∀ a, o11 a + S256x256.size a ≤ S2048x256.size a) (ho11 : o11 = ![256 * j, 0])
    {o12 : Fin 3 → ℕ} (h12 : ∀ a, o12 a + S1x256x2048.size a ≤ S8x256x2048.size a) (ho12 : o12 = ![j, 0, 0])
    {o13 : Fin 1 → ℕ} (h13 : ∀ a, o13 a + S1.size a ≤ S8.size a) (ho13 : o13 = ![j])
    {o14 : Fin 3 → ℕ} (h14 : ∀ a, o14 a + S1x256x2048.size a ≤ S16x2048x2048.size a) (ho14 : o14 = ![e, 256 * j, 0])
    {o15 : Fin 3 → ℕ} (h15 : ∀ a, o15 a + S1x256x2048.size a ≤ S8x256x2048.size a) (ho15 : o15 = ![j, 0, 0])
    (Q : BitVec 32 → sProp 𝕄) :
    iprop(xPt c fX ∗ xtPt c fXt ∗ rAny (F := F) c (fM j) ∗ semVal ((c : Thread nD τ), SemLoc.dma (rSem (fM j))) 0 ∗ hPt c (fE e) (fM j) f0)
      ⊢ iprop((iprop(xPt c fX ∗ xtPt c fXt ∗ slotSt c (hFin fo fX fXt f0) (some e) (fM j)) -∗ Q (Scalar.addi acc 1#32))
        -∗ run c (t5Tail (F := F) (loW fo e) (hiW fo e) acc o11 h11 o12 h12 o13 h13 o14 h14 o15 h15) Q) := by
  have ho11' : o11 = ![256 * (fM j).val, 0] := by rw [fM_val hj]; exact ho11
  have ho12' : o12 = ![(fM j).val, 0, 0] := by rw [fM_val hj]; exact ho12
  have ho13' : o13 = ![(fM j).val] := by rw [fM_val hj]; exact ho13
  have ho14' : o14 = ![(fE e).val, 256 * (fM j).val, 0] := by rw [fM_val hj, fE_val he]; exact ho14
  have ho15' : o15 = ![(fM j).val, 0, 0] := by rw [fM_val hj]; exact ho15
  subst ho11' ho12' ho13' ho14' ho15'
  have hset : (mR.access (Rect.unit (s := S8x256x2048) ![(fM j).val, 0, 0] S1x256x2048.size h12)).set = rset (fM j) :=
    (View.set_slice_whole _ _).trans (rset_eq _).symm
  have hsetOn : (mR.access (Rect.unit (s := S8x256x2048) ![(fM j).val, 0, 0] S1x256x2048.size h12)).setOn Finset.univ ⊆ rset (fM j) := by
    rw [View.setOn_univ, hset]
  unfold rAny
  iintro ⟨HX, HXt, ⟨%fr, HR⟩, HS, HH⟩ HK
  unfold t5Tail
  iapply (wp_ldU c mXt _ _ fullShare fXt) $$ HXt
  iintro HXt
  iapply (wp_ldU c mX _ _ fullShare fX) $$ HX
  iintro HX
  rw [read_x]
  ihave HR := (Entails.of_eq (rPt_eq c (fM j) fr)) $$ HR
  iapply (wp_ld c mR _ _ (rset (fM j)) fullShare fr (by rw [hset])) $$ HR
  iintro HR
  iapply (wp_st c mR _ _ _ _ (rset (fM j)) fr hsetOn) $$ HR
  iintro HR
  ihave HR := (Entails.of_eq (rPt_eq c (fM j) _).symm) $$ HR
  iapply (Transfers.wp_dmaLocal (EC (F := F)) Variants.none (c : Thread nD τ) none (src := rSlot (fM j)) (dst := hBlk (fE e) (fM j)) () NN (hBlk_amount _ _ _) (by decide) subset_rfl)
    $$ [HR HH HS]
  · isplitl [HR]; · iexact HR
    isplitl [HH]; · iexact HH
    iexact HS
  iintro HF
  simp only [ret_bind']
  sl_step
  iapply HK
  isplitl [HX]; · iexact HX
  isplitl [HXt]; · iexact HXt
  unfold slotSt
  dsimp only
  iapply (Transfers.Flight_mono (EC (F := F)) (c : Thread nD τ) (sep_mono
    (Entails.of_eq (pointsTo_congr (hFin_ne (fo := fo) (fX := fX) (fXt := fXt) (f0 := f0) he hne hj f0 _ (fun y => slot_read (fM j) h12 fr _ y))))
    (exists_intro (Φ := fun f => rPt (F := F) c (fM j) f) _))) $$ HF

/-! ## One trip of the inner loop -/

abbrev t5B (k : Fin k0_t4_loop.trips) (v46 v49 : BitVec 32) (hw : k0_chk2 k v46 v49) :=
  k0_t5_body (F := F) mO (Memref.isWhole_whole _) mA1 (Memref.isWhole_whole _) mA2 (Memref.isWhole_whole _) mH (Memref.isWhole_whole _) mC (Memref.isWhole_whole _)
    mCd (Memref.isWhole_whole _) mSc (Memref.isWhole_whole _) mX (Memref.isWhole_whole _) mXt (Memref.isWhole_whole _) mZ (Memref.isWhole_whole _) mR (Memref.isWhole_whole _)
    cc0_scratch6 cc0_scratch7 cc0_scratch8 rowIota k v46 v49 hw
abbrev t6B (k : Fin k0_t4_loop.trips) (v46 v49 : BitVec 32) (hw : k0_chk2 k v46 v49) :=
  k0_t6_body (F := F) mO (Memref.isWhole_whole _) mA1 (Memref.isWhole_whole _) mA2 (Memref.isWhole_whole _) mH (Memref.isWhole_whole _) mC (Memref.isWhole_whole _)
    mCd (Memref.isWhole_whole _) mSc (Memref.isWhole_whole _) mX (Memref.isWhole_whole _) mXt (Memref.isWhole_whole _) mZ (Memref.isWhole_whole _) mR (Memref.isWhole_whole _)
    cc0_scratch6 cc0_scratch7 cc0_scratch8 rowIota k v46 v49 hw
abbrev t4B := k0_t4_body (F := F) mO (Memref.isWhole_whole _) mA1 (Memref.isWhole_whole _) mA2 (Memref.isWhole_whole _) mH (Memref.isWhole_whole _) mC (Memref.isWhole_whole _)
    mCd (Memref.isWhole_whole _) mSc (Memref.isWhole_whole _) mX (Memref.isWhole_whole _) mXt (Memref.isWhole_whole _) mZ (Memref.isWhole_whole _) mR (Memref.isWhole_whole _)
    cc0_scratch6 cc0_scratch7 cc0_scratch8 rowIota

/-- Before trip `j` of expert `k`'s eight: slots below `j` are in flight to its blocks, those from `j` on are as the last
    expert with rows, `o`, left them; the blocks of `o` below `j` are back. -/
def inv5 (fX : S256x2048.Idx → Elt F .bf16) (fXt : S2048x256.Idx → Elt F .bf16) (hf f0 : HIdx → Elt F .f32) (q k : ℕ) (o : Option ℕ) (j : ℕ) (acc : BitVec 32) : sProp 𝕄 :=
  iprop(⌜acc = BitVec.ofNat 32 (8 * q + j)⌝ ∗ xPt c fX ∗ xtPt c fXt ∗ (∃ W, owes (c : Thread nD τ) 0 W)
    ∗ bigSep (Finset.range j) (fun m => slotSt c hf (some k) (fM m)) ∗ bigSep (Finset.Ico j 8) (fun m => slotSt c hf o (fM m))
    ∗ bigSep (Finset.range j) (retB c hf o) ∗ bigSep (Finset.Ico j 8) fun m => hPt c (fE k) (fM m) f0)

theorem ofNat_add1 (n : ℕ) : Scalar.addi (BitVec.ofNat 32 n) 1#32 = BitVec.ofNat 32 (n + 1) := by
  show BitVec.ofNat 32 n + 1#32 = _
  apply BitVec.eq_of_toNat_eq
  rw [BitVec.toNat_add, BitVec.toNat_ofNat, BitVec.toNat_ofNat, BitVec.toNat_ofNat]
  omega

theorem t5_step (fo : S17.Idx → BitVec 32) (fX : S256x2048.Idx → Elt F .bf16) (fXt : S2048x256.Idx → Elt F .bf16) (f0 : HIdx → Elt F .f32)
    (k : Fin k0_t4_loop.trips) (hne : isNe fo k.val) (q : ℕ) (hq : q < 16) (o : Option ℕ) (ho : o ≠ none ↔ 0 < q)
    (hw : k0_chk2 k (loW fo k.val) (hiW fo k.val)) (j : Fin (k0_t5_loop (loW fo k.val) (hiW fo k.val)).trips) (acc : BitVec 32) :
    inv5 c fX fXt (hFin fo fX fXt f0) f0 q k.val o j.val acc
      ⊢ run c (t5B (F := F) k _ _ hw j acc) (inv5 c fX fXt (hFin fo fX fXt f0) f0 q k.val o (j.val + 1)) := by
  have hk := t4_lt k
  have hj := t5_lt j
  unfold inv5
  rw [bigSep_Ico_head hj, bigSep_Ico_head hj, bigSep_range_succ, bigSep_range_succ]
  iintro ⟨%hacc, HX, HXt, ⟨%W, HO⟩, HS1, ⟨HS, HS2⟩, HR1, ⟨HH, HH2⟩⟩
  subst hacc
  unfold t5B k0_t5_body
  dsimp only
  iapply (wp_assume (defs := defs₀ (F := F)) Variants.none (c : Thread nD τ) none Set.univ (chk3_all k _ _ j hq))
  simp only [ret_bind']
  have tail := tail_run c fo fX fXt f0 k.val j.val hk hne hj (BitVec.ofNat 32 (8 * q + j.val)) (k0_off11_inb k _ _ hw j) (off11_eq _ _ j)
    (k0_off12_inb k _ _ j _ (chk3_all k _ _ j hq)) (off12_eq hq hj) (k0_off13_inb k _ _ j _ (chk3_all k _ _ j hq)) (off13_eq hq hj)
    (k0_off14_inb k _ _ hw j) (off14_eq k _ _ j) (k0_off15_inb k _ _ j _ (chk3_all k _ _ j hq)) (off15_eq hq hj)
    (inv5 c fX fXt (hFin fo fX fXt f0) f0 q k.val o (j.val + 1))
  unfold t5Tail at tail
  unfold inv5 at tail
  rw [bigSep_range_succ, bigSep_range_succ] at tail
  cases o with
  | none =>
    have h1 : ¬ k0_cond1 (BitVec.ofNat 32 (8 * q + j.val)) = 1#1 := fun h => (ho.mpr ((cond1_iff hq hj).mp h)) rfl
    rw [dif_neg h1]
    ihave HS := (show slotSt c (hFin fo fX fXt f0) none (fM j.val) ⊢ iprop(rAny (F := F) c (fM j.val) ∗ semVal ((c : Thread nD τ), SemLoc.dma (rSem (fM j.val))) 0) from .rfl) $$ HS
    icases HS with ⟨HR, HS⟩
    iapply tail $$ [HX HXt HR HS HH]
    · isplitl [HX]; · iexact HX
      isplitl [HXt]; · iexact HXt
      isplitl [HR]; · iexact HR
      isplitl [HS]; · iexact HS
      iexact HH
    iintro ⟨HX, HXt, HS⟩
    rw [← Nat.add_assoc]
    isplitr; · ipureintro; exact ofNat_add1 _
    isplitl [HX]; · iexact HX
    isplitl [HXt]; · iexact HXt
    isplitl [HO]; · iexists _; iexact HO
    isplitl [HS HS1]
    · isplitl [HS]; · iexact HS
      iexact HS1
    isplitl [HS2]; · iexact HS2
    isplitl [HR1]
    · isplitl []; · unfold retB; iempintro
      iexact HR1
    iexact HH2
  | some e =>
    have h1 : k0_cond1 (BitVec.ofNat 32 (8 * q + j.val)) = 1#1 := (cond1_iff hq hj).mpr (ho.mp (by simp))
    rw [dif_pos h1]
    iapply (wait_run c (hFin fo fX fXt f0) e j.val hj W (k0_off8_inb k _ _ j _ (chk3_all k _ _ j hq) h1) (off8_eq hq hj)
      (k0_off9_inb k _ _ j _ (chk3_all k _ _ j hq) h1) (k0_off10_inb k _ _ j _ (chk3_all k _ _ j hq) h1)) $$ [HS HO]
    · isplitl [HS]; · iexact HS
      iexact HO
    iintro ⟨⟨HE, HR⟩, HS, HO⟩
    iapply tail $$ [HX HXt HR HS HH]
    · isplitl [HX]; · iexact HX
      isplitl [HXt]; · iexact HXt
      isplitl [HR]; · iexact HR
      isplitl [HS]; · iexact HS
      iexact HH
    iintro ⟨HX, HXt, HS⟩
    rw [← Nat.add_assoc]
    isplitr; · ipureintro; exact ofNat_add1 _
    isplitl [HX]; · iexact HX
    isplitl [HXt]; · iexact HXt
    isplitl [HO]; · iexists _; iexact HO
    isplitl [HS HS1]
    · isplitl [HS]; · iexact HS
      iexact HS1
    isplitl [HS2]; · iexact HS2
    isplitl [HE HR1]
    · isplitl [HE]
      · ihave HE := (show hPt c (fE e) (fM j.val) (hFin fo fX fXt f0) ⊢ retB c (hFin fo fX fXt f0) (some e) j.val from .rfl) $$ HE
        iexact HE
      iexact HR1
    iexact HH2

/-! ## The outer loop -/

/-- The eight slots. -/
abbrev slots (hf : HIdx → Elt F .f32) (o : Option ℕ) : sProp 𝕄 := bigSep (Finset.range 8) fun m => slotSt c hf o (fM m)
abbrev ret8 (hf : HIdx → Elt F .f32) (o : Option ℕ) : sProp 𝕄 := bigSep (Finset.range 8) (retB c hf o)
/-- What the experts below `k` but the last with rows have got back. -/
def retd (fo : S17.Idx → BitVec 32) (hf : HIdx → Elt F .f32) : ℕ → sProp 𝕄
  | 0 => iprop(emp)
  | k + 1 => if isNe fo k then iprop(retd fo hf k ∗ ret8 c hf (last fo k)) else retd fo hf k

theorem retd_all (fo : S17.Idx → BitVec 32) (hf : HIdx → Elt F .f32) (k : ℕ) :
    iprop(retd c fo hf k ∗ ret8 c hf (last fo k)) ⊢ bigSep (Finset.range k) fun e => if isNe fo e then row c hf e else iprop(emp) := by
  induction k with
  | zero =>
    rw [Finset.range_zero, bigSep_empty]
    iintro -
    iempintro
  | succ k ih =>
    rw [bigSep_range_succ]
    by_cases h : isNe fo k
    · rw [if_pos h]
      simp only [retd, last, if_pos h]
      iintro ⟨H1, H2⟩
      isplitl [H2]
      · ihave H2 := (show ret8 c hf (some k) ⊢ row c hf k from by rw [ret8, row, Finset.range_eq_Ico]; exact .rfl) $$ H2
        iexact H2
      iapply ih; iexact H1
    · rw [if_neg h]
      simp only [retd, last, if_neg h]
      iintro H
      isplitr; · iempintro
      iapply ih; iexact H

theorem t5_loop (fo : S17.Idx → BitVec 32) (fX : S256x2048.Idx → Elt F .bf16) (fXt : S2048x256.Idx → Elt F .bf16) (f0 : HIdx → Elt F .f32)
    (k : Fin k0_t4_loop.trips) (hw : k0_chk2 k (loW fo k.val) (hiW fo k.val))
    {β : Type} (kk : BitVec 32 → Prog (TpuEff nD τ sig (Elt F) Λ₀ .tc) β) (Q : β → sProp 𝕄) :
    iprop(xPt c fX ∗ xtPt c fXt ∗ (∃ W, owes (c : Thread nD τ) 0 W) ∗ slots c (hFin fo fX fXt f0) (last fo k.val) ∗ retd c fo (hFin fo fX fXt f0) k.val
        ∗ (if isNe fo k.val then row c f0 k.val else iprop(emp)))
      ⊢ iprop((iprop(xPt c fX ∗ xtPt c fXt ∗ (∃ W, owes (c : Thread nD τ) 0 W) ∗ slots c (hFin fo fX fXt f0) (last fo (k.val + 1)) ∗ retd c fo (hFin fo fX fXt f0) (k.val + 1))
            -∗ run c (kk (BitVec.ofNat 32 (8 * Nat.count (isNe fo) (k.val + 1)))) Q)
          -∗ run c (Scf.Loop.for (k0_t5_loop (loW fo k.val) (hiW fo k.val)) (k0_t5_ok k _ _ hw) (BitVec.ofNat 32 (8 * Nat.count (isNe fo) k.val)) (t5B (F := F) k _ _ hw) >>= kk) Q) := by
  have hk := t4_lt k
  by_cases he : isNe fo k.val
  · have hq : Nat.count (isNe fo) k.val < 16 := lt_of_le_of_lt (Nat.count_le (isNe fo)) hk
    simp only [retd, last, if_pos he]
    rw [Nat.count_succ, if_pos he]
    have ht : (k0_t5_loop (loW fo k.val) (hiW fo k.val)).trips = 8 := by rw [t5_trips]; exact if_pos he
    iintro ⟨HX, HXt, HO, HS, HD, HR⟩ HK
    iapply (Scf.wp_for_bind frame (wpE (defs₀ (F := F)) Variants.none (c : Thread nD τ) none) Set.univ _ _ _ (k0_t5_ok k _ _ hw) _
      (t5B (F := F) k _ _ hw) (inv5 c fX fXt (hFin fo fX fXt f0) f0 (Nat.count (isNe fo) k.val) k.val (last fo k.val))
      (fun j acc => t5_step c fo fX fXt f0 k he _ hq _ (last_iff fo k.val) hw j acc) (kk := kk)) $$ [HX HXt HO HS HR] [HK HD]
    · unfold inv5
      rw [Finset.range_zero, bigSep_empty, bigSep_empty]
      isplitr; · ipureintro; rfl
      isplitl [HX]; · iexact HX
      isplitl [HXt]; · iexact HXt
      isplitl [HO]; · iexact HO
      isplitr; · iempintro
      isplitl [HS]
      · ihave HS := (show slots c (hFin fo fX fXt f0) (last fo k.val) ⊢ bigSep (Finset.Ico 0 8) (fun m => slotSt c (hFin fo fX fXt f0) (last fo k.val) (fM m)) from by
          rw [slots, Finset.range_eq_Ico]) $$ HS
        iexact HS
      isplitr; · iempintro
      iexact HR
    rw [show Scf.trips _ _ _ = 8 from ht]
    unfold inv5
    iintro %acc ⟨%hacc, HX, HXt, HO, HS, -, HR, -⟩
    subst hacc
    rw [show 8 * Nat.count (isNe fo) k.val + 8 = 8 * (Nat.count (isNe fo) k.val + 1) by omega]
    iapply HK
    isplitl [HX]; · iexact HX
    isplitl [HXt]; · iexact HXt
    isplitl [HO]; · iexact HO
    isplitl [HS]; · iexact HS
    isplitl [HD]; · iexact HD
    iexact HR
  · simp only [retd, last, if_neg he]
    rw [Nat.count_succ, if_neg he]
    have ht : (k0_t5_loop (loW fo k.val) (hiW fo k.val)).trips = 0 := by rw [t5_trips]; exact if_neg he
    iintro ⟨HX, HXt, HO, HS, HD, -⟩ HK
    iapply (no_trips c _ _ _ (k0_t5_ok k _ _ hw) _ (t5B (F := F) k _ _ hw) ht)
    iapply HK
    isplitl [HX]; · iexact HX
    isplitl [HXt]; · iexact HXt
    isplitl [HO]; · iexact HO
    isplitl [HS]; · iexact HS
    iexact HD

theorem no_trips' {w : ℕ} {σ : Type} (lb ub st : BitVec w) (hok : Scf.OK lb ub st) (init : σ) (body : Fin (Scf.trips lb ub st) → σ → Prog (TpuEff nD τ sig (Elt F) Λ₀ .tc) σ)
    (h : Scf.trips lb ub st = 0) (Q : σ → sProp 𝕄) :
    Q init ⊢ run c (Scf.for lb ub st hok init body) Q := by
  iintro HK
  iapply (Scf.wp_for frame (wpE (defs₀ (F := F)) Variants.none (c : Thread nD τ) none) Set.univ lb ub st hok init body
    (fun _ a => iprop(⌜a = init⌝)) (fun j acc => absurd (lt_of_lt_of_eq j.isLt h) (Nat.not_lt_zero _)))
  isplitr; · ipureintro; rfl
  iintro %acc %ha
  subst ha
  iexact HK

/-- Before expert `k`: the units counted so far, the scalars and the rows, the eight slots as the last expert with rows left
    them, what the others got back, and the rows of the experts with rows from `k` on. -/
def inv4 (fo : S17.Idx → BitVec 32) (fX : S256x2048.Idx → Elt F .bf16) (fXt : S2048x256.Idx → Elt F .bf16) (hf f0 : HIdx → Elt F .f32) (k : ℕ) (acc : BitVec 32) : sProp 𝕄 :=
  iprop(⌜acc = BitVec.ofNat 32 (8 * Nat.count (isNe fo) k)⌝ ∗ oPt c fo ∗ xPt c fX ∗ xtPt c fXt ∗ (∃ W, owes (c : Thread nD τ) 0 W)
    ∗ slots c hf (last fo k) ∗ retd c fo hf k ∗ bigSep (Finset.Ico k 16) fun e => if isNe fo e then row c f0 e else iprop(emp))

theorem t4_step (fo : S17.Idx → BitVec 32) (fX : S256x2048.Idx → Elt F .bf16) (fXt : S2048x256.Idx → Elt F .bf16) (f0 : HIdx → Elt F .f32)
    (k : Fin k0_t4_loop.trips) (acc : BitVec 32) :
    inv4 c fo fX fXt (hFin fo fX fXt f0) f0 k.val acc
      ⊢ run c (t4B (F := F) k acc) (inv4 c fo fX fXt (hFin fo fX fXt f0) f0 (k.val + 1)) := by
  have hk := t4_lt k
  unfold inv4
  rw [bigSep_Ico_head hk]
  iintro ⟨%hacc, HF, HX, HXt, HO, HS, HD, HR, HRs⟩
  subst hacc
  unfold t4B k0_t4_body
  dsimp only
  iapply (wp_offs c fo _ k.val (by omega) (off6_eq k)) $$ HF
  iintro HF
  iapply (wp_offs c fo _ (k.val + 1) (by omega) (off7_eq k)) $$ HF
  iintro HF
  iapply (wp_assume (defs := defs₀ (F := F)) Variants.none (c : Thread nD τ) none Set.univ (chk2_all k _ _))
  simp only [ret_bind']
  iapply (t5_loop c fo fX fXt f0 k (chk2_all k _ _)) $$ [HX HXt HO HS HD HR]
  · isplitl [HX]; · iexact HX
    isplitl [HXt]; · iexact HXt
    isplitl [HO]; · iexact HO
    isplitl [HS]; · iexact HS
    isplitl [HD]; · iexact HD
    iexact HR
  iintro ⟨HX, HXt, HO, HS, HD⟩
  iapply (no_trips' c _ _ _ (k0_t6_ok k _ _ (chk2_all k _ _)) _ (t6B (F := F) k _ _ (chk2_all k _ _)) (t6_trips _ _))
  isplitr; · ipureintro; rfl
  isplitl [HF]; · iexact HF
  isplitl [HX]; · iexact HX
  isplitl [HXt]; · iexact HXt
  isplitl [HO]; · iexact HO
  isplitl [HS]; · iexact HS
  isplitl [HD]; · iexact HD
  iexact HRs

end

end Cert.Kernel.Hand

end
-- ==== Proof.Bits.Drain.lean ====
/-
  The waits at the end: one for every block of zeros, which gives back the empty experts' rows and the zeros themselves, and
  one for every slot of the ring still in flight.
-/
module

public import proofs.«01_k».proof.Proof.Bits.RingLoop

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

section
variable (c : Dev nD)

/-! ## The waits for the zeros -/

abbrev t7B (v9 : BitVec 32) (hw : k0_chk5 v9) :=
  k0_t7_body (F := F) mO (Memref.isWhole_whole _) mA1 (Memref.isWhole_whole _) mA2 (Memref.isWhole_whole _) mH (Memref.isWhole_whole _) mC (Memref.isWhole_whole _)
    mCd (Memref.isWhole_whole _) mSc (Memref.isWhole_whole _) mX (Memref.isWhole_whole _) mXt (Memref.isWhole_whole _) mZ (Memref.isWhole_whole _) mR (Memref.isWhole_whole _)
    cc0_scratch6 cc0_scratch7 cc0_scratch8 v9 hw
abbrev t8B (v9 : BitVec 32) (hw : k0_chk5 v9) :=
  k0_t8_body (F := F) mO (Memref.isWhole_whole _) mA1 (Memref.isWhole_whole _) mA2 (Memref.isWhole_whole _) mH (Memref.isWhole_whole _) mC (Memref.isWhole_whole _)
    mCd (Memref.isWhole_whole _) mSc (Memref.isWhole_whole _) mX (Memref.isWhole_whole _) mXt (Memref.isWhole_whole _) mZ (Memref.isWhole_whole _) mR (Memref.isWhole_whole _)
    cc0_scratch6 cc0_scratch7 cc0_scratch8 v9 hw
abbrev t9B (v33 : BitVec 32) (hw : k0_chk6 v33) :=
  k0_t9_body (F := F) mO (Memref.isWhole_whole _) mA1 (Memref.isWhole_whole _) mA2 (Memref.isWhole_whole _) mH (Memref.isWhole_whole _) mC (Memref.isWhole_whole _)
    mCd (Memref.isWhole_whole _) mSc (Memref.isWhole_whole _) mX (Memref.isWhole_whole _) mXt (Memref.isWhole_whole _) mZ (Memref.isWhole_whole _) mR (Memref.isWhole_whole _)
    cc0_scratch6 cc0_scratch7 cc0_scratch8 v33 hw
abbrev t10B (v33 : BitVec 32) (hw : k0_chk6 v33) :=
  k0_t10_body (F := F) mO (Memref.isWhole_whole _) mA1 (Memref.isWhole_whole _) mA2 (Memref.isWhole_whole _) mH (Memref.isWhole_whole _) mC (Memref.isWhole_whole _)
    mCd (Memref.isWhole_whole _) mSc (Memref.isWhole_whole _) mX (Memref.isWhole_whole _) mXt (Memref.isWhole_whole _) mZ (Memref.isWhole_whole _) mR (Memref.isWhole_whole _)
    cc0_scratch6 cc0_scratch7 cc0_scratch8 v33 hw

/-- After `k` waits: that many blocks' units are consumed. -/
def inv7 (fo : S17.Idx → BitVec 32) (hf : HIdx → Elt F .f32) (n k : ℕ) (_ : Unit) : sProp 𝕄 :=
  iprop(zBatch c fo hf n n (k * NN) ∗ ∃ W, owes (c : Thread nD τ) 0 W)

theorem t7_step (fo : S17.Idx → BitVec 32) (hf : HIdx → Elt F .f32) (n : ℕ) (v9 : BitVec 32) (hw : k0_chk5 v9)
    (k : Fin (k0_t7_loop v9).trips) (hk : k.val < n) (acc : Unit) :
    inv7 c fo hf n k.val acc ⊢ run c (t7B (F := F) v9 hw k acc) (inv7 c fo hf n (k.val + 1)) := by
  unfold inv7
  iintro ⟨HB, %W, HO⟩
  unfold t7B k0_t7_body
  dsimp only
  iapply (Transfers.wp_waitBatchMul (EC (F := F)) Variants.none (c : Thread nD τ) none (sem := cc0_scratch7.sem) (srcw := mZ)
    (dstw := hAt ![0, 0, 0] inb_S16x2048x2048_S1x256x2048_0_0_0) () (N := NN) 1 (by show RefSig.tileCredit S256x2048 .f32 = 1 * NN; decide)
    (D := zD c fo hf n) (j := n) (u := k.val * NN)
    (by have : (k.val + 1) * NN ≤ n * NN := Nat.mul_le_mul_right _ hk
        rw [Nat.mul_comm NN n]; rw [Nat.succ_mul] at this; omega)) $$ [HB HO]
  · isplitl [HB]; · iexact HB
    iexact HO
  iintro ⟨HB, HO⟩
  simp only [ret_bind']
  sl_step
  rw [show k.val * NN + 1 * NN = (k.val + 1) * NN by rw [Nat.one_mul, Nat.succ_mul]]
  isplitl [HB]; · iexact HB
  iexists _; iexact HO

theorem t7_loop (fo : S17.Idx → BitVec 32) (hf : HIdx → Elt F .f32) (n : ℕ) (hn : n < 129) (hw : k0_chk5 (BitVec.ofNat 32 n))
    {β : Type} (kk : Unit → Prog (TpuEff nD τ sig (Elt F) Λ₀ .tc) β) (Q : β → sProp 𝕄) :
    iprop(zBatch c fo hf n n 0 ∗ ∃ W, owes (c : Thread nD τ) 0 W)
      ⊢ iprop((iprop(zBatch c fo hf n n (NN * n) ∗ ∃ W, owes (c : Thread nD τ) 0 W) -∗ run c (kk ⟨⟩) Q)
        -∗ run c (Scf.Loop.for (k0_t7_loop (BitVec.ofNat 32 n)) (k0_t7_ok _ hw) ⟨⟩ (t7B (F := F) _ hw) >>= kk) Q) := by
  have ht : (k0_t7_loop (BitVec.ofNat 32 n)).trips = n := (t7_facts hn).1
  iintro ⟨HB, HO⟩ HK
  iapply (Scf.wp_for_bind frame (wpE (defs₀ (F := F)) Variants.none (c : Thread nD τ) none) Set.univ _ _ _ (k0_t7_ok _ hw) ()
    (t7B (F := F) _ hw) (inv7 c fo hf n)
    (fun k acc => t7_step c fo hf n _ hw k (lt_of_lt_of_eq k.isLt ht) acc) (kk := kk)) $$ [HB HO] [HK]
  · unfold inv7
    rw [Nat.zero_mul]
    isplitl [HB]; · iexact HB
    iexact HO
  rw [show Scf.trips _ _ _ = n from ht]
  unfold inv7
  rw [Nat.mul_comm n NN]
  iintro %acc H
  iapply HK
  iexact H

/-! ## The waits for the ring -/

/-- After `s` waits: slots below `s` are free and their blocks are back. -/
def inv9 (hf : HIdx → Elt F .f32) (e s : ℕ) (_ : Unit) : sProp 𝕄 :=
  iprop((∃ W, owes (c : Thread nD τ) 0 W) ∗ bigSep (Finset.range s) (fun m => slotSt c hf none (fM m)) ∗ bigSep (Finset.range s) (retB c hf (some e))
    ∗ bigSep (Finset.Ico s 8) fun m => slotSt c hf (some e) (fM m))

theorem t9_step (hf : HIdx → Elt F .f32) (e : ℕ) (v33 : BitVec 32) (hw : k0_chk6 v33)
    (s : Fin (k0_t9_loop v33).trips) (hs : s.val < 8) (acc : Unit) :
    inv9 c hf e s.val acc ⊢ run c (t9B (F := F) v33 hw s acc) (inv9 c hf e (s.val + 1)) := by
  unfold inv9
  rw [bigSep_Ico_head hs, bigSep_range_succ, bigSep_range_succ]
  iintro ⟨⟨%W, HO⟩, HN, HR, HS, HSs⟩
  unfold t9B k0_t9_body
  dsimp only
  iapply (wait_run c hf e s.val hs W (k0_off24_inb v33 hw s) (off24_eq v33 s hs) inb_S16x2048x2048_S1x256x2048_0_0_0 (k0_off25_inb v33 hw s) _ _) $$ [HS HO]
  · isplitl [HS]; · iexact HS
    iexact HO
  iintro ⟨⟨HB, HA⟩, Hv, HO⟩
  unfold run
  sl_step
  isplitl [HO]; · iexists _; iexact HO
  isplitl [HA Hv HN]
  · isplitl [HA Hv]
    · unfold slotSt
      dsimp only
      isplitl [HA]; · iexact HA
      iexact Hv
    iexact HN
  isplitl [HB HR]
  · isplitl [HB]
    · ihave HB := (show hPt c (fE e) (fM s.val) hf ⊢ retB c hf (some e) s.val from .rfl) $$ HB
      iexact HB
    iexact HR
  iexact HSs

theorem t9_loop (fo : S17.Idx → BitVec 32) (hf : HIdx → Elt F .f32) (q : ℕ) (hq : q < 17) (o : Option ℕ) (ho : o ≠ none ↔ 0 < q)
    (hw : k0_chk6 (BitVec.ofNat 32 (8 * q)))
    {β : Type} (kk : Unit → Prog (TpuEff nD τ sig (Elt F) Λ₀ .tc) β) (Q : β → sProp 𝕄) :
    iprop((∃ W, owes (c : Thread nD τ) 0 W) ∗ slots c hf o)
      ⊢ iprop((iprop((∃ W, owes (c : Thread nD τ) 0 W) ∗ slots c hf none ∗ ret8 c hf o) -∗ run c (kk ⟨⟩) Q)
        -∗ run c (Scf.Loop.for (k0_t9_loop (BitVec.ofNat 32 (8 * q))) (k0_t9_ok _ hw) ⟨⟩ (t9B (F := F) _ hw) >>= kk) Q) := by
  cases o with
  | none =>
    have h0 : q = 0 := by
      by_contra h
      exact (ho.mpr (Nat.pos_of_ne_zero h)) rfl
    subst h0
    iintro ⟨HO, HS⟩ HK
    iapply (no_trips c _ _ _ (k0_t9_ok _ hw) _ (t9B (F := F) _ hw) ((t9_facts hq).1))
    iapply HK
    isplitl [HO]; · iexact HO
    isplitl [HS]; · iexact HS
    iapply (show iprop(emp) ⊢ ret8 c hf none from Entails.of_eq (bigSep_emp_const _).symm)
    iempintro
  | some e =>
    have h0 : 0 < q := ho.mp (by simp)
    have ht : (k0_t9_loop (BitVec.ofNat 32 (8 * q))).trips = 8 := by rw [(t9_facts hq).1]; omega
    iintro ⟨HO, HS⟩ HK
    iapply (Scf.wp_for_bind frame (wpE (defs₀ (F := F)) Variants.none (c : Thread nD τ) none) Set.univ _ _ _ (k0_t9_ok _ hw) ()
      (t9B (F := F) _ hw) (inv9 c hf e)
      (fun k acc => t9_step c hf e _ hw k (lt_of_lt_of_eq k.isLt ht) acc) (kk := kk)) $$ [HO HS] [HK]
    · unfold inv9
      rw [Finset.range_zero, bigSep_empty, bigSep_empty]
      isplitl [HO]; · iexact HO
      isplitr; · iempintro
      isplitr; · iempintro
      ihave HS := (show slots c hf (some e) ⊢ bigSep (Finset.Ico 0 8) (fun m => slotSt c hf (some e) (fM m)) from by
        rw [slots, Finset.range_eq_Ico]) $$ HS
      iexact HS
    rw [show Scf.trips _ _ _ = 8 from ht]
    unfold inv9
    iintro %acc ⟨HO, HN, HR, -⟩
    iapply HK
    isplitl [HO]; · iexact HO
    isplitl [HN]; · iexact HN
    iexact HR

/-! ## What the zeros' batch delivered -/

theorem bigSep_sepi {M : Type _} [URA M] (s : Finset ℕ) (Φ Ψ : ℕ → sProp M) :
    bigSep s (fun i => iprop(Φ i ∗ Ψ i)) = iprop(bigSep s Φ ∗ bigSep s Ψ) := bigSep_sep s Φ Ψ

theorem bigSep_range_add {M : Type _} [URA M] (a b : ℕ) (Φ : ℕ → sProp M) :
    bigSep (Finset.range (a + b)) Φ ⊢ iprop(bigSep (Finset.range a) Φ ∗ bigSep (Finset.range b) fun j => Φ (a + j)) := by
  induction b with
  | zero =>
    rw [Finset.range_zero, bigSep_empty]
    iintro H
    isplitl [H]; · iexact H
    iempintro
  | succ b ih =>
    rw [← Nat.add_assoc, bigSep_range_succ, bigSep_range_succ]
    iintro ⟨H, Hs⟩
    ihave Hs := ih $$ Hs
    icases Hs with ⟨Ha, Hb⟩
    isplitl [Ha]; · iexact Ha
    isplitl [H]; · iexact H
    iexact Hb

theorem rows_of_blocks (fo : S17.Idx → BitVec 32) (hf : HIdx → Elt F .f32) (k : ℕ) :
    (bigSep (Finset.range (8 * Nat.count (isEmp fo) k)) fun t => hPt c (fE (expOf (isEmp fo) (t / 8))) (fM (t % 8)) hf)
      ⊢ bigSep (Finset.range k) fun e => if isEmp fo e then row c hf e else iprop(emp) := by
  induction k with
  | zero =>
    rw [Nat.count_zero, Nat.mul_zero, Finset.range_zero, bigSep_empty, bigSep_empty]
  | succ k ih =>
    rw [bigSep_range_succ, Nat.count_succ]
    by_cases h : isEmp fo k
    · rw [if_pos h, if_pos h, Nat.mul_add]
      iintro H
      ihave H := (bigSep_range_add _ _ _) $$ H
      icases H with ⟨Ha, Hb⟩
      isplitl [Hb]
      · ihave Hb := (show (bigSep (Finset.range (8 * 1)) fun j => hPt c (fE (expOf (isEmp fo) ((8 * Nat.count (isEmp fo) k + j) / 8))) (fM ((8 * Nat.count (isEmp fo) k + j) % 8)) hf) ⊢ row c hf k from by
          rw [row, ← Finset.range_eq_Ico, Nat.mul_one]
          refine Entails.of_eq (bigSep_congr fun j hj => ?_)
          have hj := Finset.mem_range.mp hj
          rw [show (8 * Nat.count (isEmp fo) k + j) / 8 = Nat.count (isEmp fo) k by omega, show (8 * Nat.count (isEmp fo) k + j) % 8 = j by omega, expOf_count h]) $$ Hb
        iexact Hb
      iapply ih; iexact Ha
    · rw [if_neg h, if_neg h, Nat.add_zero]
      iintro H
      isplitr; · iempintro
      iapply ih; iexact H

/-- The batch's deliveries: the empty experts' rows, and the zeros' tokens. -/
theorem zD_all (fo : S17.Idx → BitVec 32) (hf : HIdx → Elt F .f32) :
    bigSep Finset.univ (zD c fo hf (8 * Nat.count (isEmp fo) 16))
      ⊢ iprop((bigSep (Finset.range 16) fun e => if isEmp fo e then row c hf e else iprop(emp)) ∗ bigSep (Finset.range (8 * Nat.count (isEmp fo) 16)) (zTok (F := F) c)) := by
  rw [Ring.bigSep_fin_eq_range _ (zD c fo hf (8 * Nat.count (isEmp fo) 16))
    (fun t => iprop(hPt c (fE (expOf (isEmp fo) (t / 8))) (fM (t % 8)) hf ∗ zTok (F := F) c t)) (fun t h => rfl)]
  rw [bigSep_sepi]
  exact sep_mono (rows_of_blocks c fo hf 16) .rfl

/-! ## Splitting the Hessian and the ring -/

theorem h_rows (f : HIdx → Elt F .f32) :
    (mH.view.loc (c : Thread nD τ) ↦{fullShare} f : sProp 𝕄) = bigSep (Finset.range 16) (row c f) := by
  refine (Ring.pointsTo_blocks (ℓ := mH.view.loc (c : Thread nD τ)) (fun p : Fin 16 × Fin 8 => hset p.1 p.2) hset_disj hset_cover f).trans ?_
  rw [bigSep_univ_prod, Ring.bigSep_fin_eq_range 16 _ (row c f)]
  intro e he
  show row c f e = bigSep Finset.univ fun m : Fin 8 => hPt c ⟨e, he⟩ m f
  rw [row, ← Finset.range_eq_Ico, Ring.bigSep_fin_eq_range 8 (fun m : Fin 8 => hPt c ⟨e, he⟩ m f) (fun m => hPt c (fE e) (fM m) f)]
  intro m hm
  rw [show fE e = ⟨e, he⟩ from Fin.ext (fE_val he), show fM m = ⟨m, hm⟩ from Fin.ext (fM_val hm)]

/-- The rows of an expert that is neither empty nor has rows: they stay. -/
theorem row_other {fo : S17.Idx → BitVec 32} {fX : S256x2048.Idx → Elt F .bf16} {fXt : S2048x256.Idx → Elt F .bf16} {f0 : HIdx → Elt F .f32}
    {e : ℕ} (he : e < 16) (h1 : ¬ isNe fo e) (h2 : ¬ isEmp fo e) : row c f0 e = row c (hFin fo fX fXt f0) e := by
  refine bigSep_congr fun m _ => ?_
  refine pointsTo_congr fun i hi => ?_
  have h := (mem_hset.mp hi).1
  rw [fE_val he] at h
  unfold hFin
  rw [h, if_neg h1, if_neg h2]

theorem rows_split (fo : S17.Idx → BitVec 32) (f : HIdx → Elt F .f32) :
    bigSep (Finset.range 16) (row c f) ⊢ iprop((bigSep (Finset.range 16) fun e => if isEmp fo e then row c f e else iprop(emp))
      ∗ (bigSep (Finset.range 16) fun e => if isNe fo e then row c f e else iprop(emp))
      ∗ bigSep (Finset.range 16) fun e => if isNe fo e ∨ isEmp fo e then iprop(emp) else row c f e) := by
  rw [← bigSep_sepi, ← bigSep_sepi]
  refine bigSep_mono fun e _ => ?_
  by_cases h1 : isEmp fo e
  · rw [if_pos h1, if_neg (not_ne_of_emp h1), if_pos (Or.inr h1)]
    show (row c f e : sProp 𝕄) ⊢ iprop(row c f e ∗ emp ∗ emp)
    iintro H
    isplitl [H]; · iexact H
    isplitr <;> iempintro
  · by_cases h2 : isNe fo e
    · rw [if_neg h1, if_pos h2, if_pos (Or.inl h2)]
      show (row c f e : sProp 𝕄) ⊢ iprop(emp ∗ row c f e ∗ emp)
      iintro H
      isplitr; · iempintro
      isplitl [H]; · iexact H
      iempintro
    · rw [if_neg h1, if_neg h2, if_neg (by tauto)]
      show (row c f e : sProp 𝕄) ⊢ iprop(emp ∗ emp ∗ row c f e)
      iintro H
      isplitr; · iempintro
      isplitr; · iempintro
      iexact H

theorem rows_join (fo : S17.Idx → BitVec 32) (fX : S256x2048.Idx → Elt F .bf16) (fXt : S2048x256.Idx → Elt F .bf16) (f0 : HIdx → Elt F .f32) :
    iprop((bigSep (Finset.range 16) fun e => if isEmp fo e then row c (hFin fo fX fXt f0) e else iprop(emp))
      ∗ (bigSep (Finset.range 16) fun e => if isNe fo e then row c (hFin fo fX fXt f0) e else iprop(emp))
      ∗ bigSep (Finset.range 16) fun e => if isNe fo e ∨ isEmp fo e then iprop(emp) else row c f0 e) ⊢ bigSep (Finset.range 16) (row c (hFin fo fX fXt f0)) := by
  rw [← bigSep_sepi, ← bigSep_sepi]
  refine bigSep_mono fun e he => ?_
  have he := Finset.mem_range.mp he
  by_cases h1 : isEmp fo e
  · rw [if_pos h1, if_neg (not_ne_of_emp h1), if_pos (Or.inr h1)]
    show (iprop(row c (hFin fo fX fXt f0) e ∗ emp ∗ emp) : sProp 𝕄) ⊢ row c (hFin fo fX fXt f0) e
    iintro ⟨H, -, -⟩
    iexact H
  · by_cases h2 : isNe fo e
    · rw [if_neg h1, if_pos h2, if_pos (Or.inl h2)]
      show (iprop(emp ∗ row c (hFin fo fX fXt f0) e ∗ emp) : sProp 𝕄) ⊢ row c (hFin fo fX fXt f0) e
      iintro ⟨-, H, -⟩
      iexact H
    · rw [if_neg h1, if_neg h2, if_neg (by tauto)]
      show (iprop(emp ∗ emp ∗ row c f0 e) : sProp 𝕄) ⊢ row c (hFin fo fX fXt f0) e
      iintro ⟨-, -, H⟩
      ihave H := (Entails.of_eq (row_other c (fX := fX) (fXt := fXt) (f0 := f0) he h2 h1)) $$ H
      iexact H

theorem ring_split (f : S8x256x2048.Idx → Elt F .f32) :
    (mR.view.loc (c : Thread nD τ) ↦{fullShare} f : sProp 𝕄) ⊢ bigSep (Finset.range 8) fun m => rAny (F := F) c (fM m) := by
  refine (Entails.of_eq (Ring.pointsTo_blocks (ℓ := mR.view.loc (c : Thread nD τ)) rset rset_disj rset_cover f)).trans ?_
  refine (Entails.of_eq (Ring.bigSep_fin_eq_range 8 _ (fun m => rPt c (fM m) f) ?_)).trans (bigSep_mono fun m _ => exists_intro (Φ := fun f => rPt (F := F) c (fM m) f) _)
  intro m hm
  rw [show fM m = ⟨m, hm⟩ from Fin.ext (fM_val hm)]; rfl

theorem ring_join (f : S8x256x2048.Idx → Elt F .f32) :
    (bigSep (Finset.range 8) fun m => rAny (F := F) c (fM m)) ⊢ (iprop(∃ g, mR.view.loc (c : Thread nD τ) ↦{fullShare} g) : sProp 𝕄) := by
  refine (Entails.of_eq (Ring.bigSep_fin_eq_range 8 (fun m => rAny (F := F) c m) (fun m => rAny (F := F) c (fM m)) ?_).symm).trans
    (Ring.pointsTo_blocks_join_exists (ℓ := mR.view.loc (c : Thread nD τ)) rset rset_disj rset_cover f)
  intro m hm
  rw [show fM m = ⟨m, hm⟩ from Fin.ext (fM_val hm)]

end

end Cert.Kernel.Hand

end
-- ==== Proof.Bits.Body.lean ====
/-
  The body from start to end: the codes and the scales are brought in while the zeros go out, the rows and their transpose
  are stored, the products go out through the ring, and every transfer is waited for. What is held before is held after, the
  counts and the Hessian at their values.
-/
module

public import proofs.«01_k».proof.Proof.Bits.Drain

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-- A whole buffer is its memref's elements, whatever the signature. -/
theorem whole_gen {nD : ℕ} {τ : Topo} {sig : RefSig} {Ix : Type} [DecidableEq Ix] {Val : EltTy → Type} {Name : Type} [DecidableEq Name] {U : Type} [URA U] {Lvl : Type}
    (c : Thread nD τ) (b : Ref sig c.2.kind) (q : PosShare TreeShare) (f : b.ty.Contents Val) :
    ((Memref.whole b).view.loc c ↦{q} f : sProp (MT nD τ sig Ix Val Name U Lvl))
      = ((Memref.whole b).view.loc c ↦[(Memref.whole b).view.set]{q} f) :=
  congrArg (fun S => ((Memref.whole b).view.loc c ↦[S]{q} f : sProp (MT nD τ sig Ix Val Name U Lvl))) (View.set_whole b).symm

section
variable (c : Dev nD)

/-! ## The pieces -/

abbrev cdPt (f : S256x2048.Idx → Elt F .fp8e4m3) : sProp 𝕄 := mCd.view.loc (c : Thread nD τ) ↦{fullShare} f
abbrev scPt (f : S1x256.Idx → Elt F .f32) : sProp 𝕄 := mSc.view.loc (c : Thread nD τ) ↦{fullShare} f
abbrev zPt (f : S256x2048.Idx → Elt F .f32) : sProp 𝕄 := mZ.view.loc (c : Thread nD τ) ↦{fullShare} f
abbrev rgPt (f : S8x256x2048.Idx → Elt F .f32) : sProp 𝕄 := mR.view.loc (c : Thread nD τ) ↦{fullShare} f
abbrev a1Pt (f : S256x2048.Idx → Elt F .fp8e4m3) : sProp 𝕄 := mA1.view.loc (c : Thread nD τ) ↦{fullShare} f
abbrev a2Pt (f : S1x256.Idx → Elt F .f32) : sProp 𝕄 := mA2.view.loc (c : Thread nD τ) ↦{fullShare} f
abbrev hhPt (f : HIdx → Elt F .f32) : sProp 𝕄 := mH.view.loc (c : Thread nD τ) ↦{fullShare} f
abbrev sv (d : DmaSem sig) : sProp 𝕄 := semVal ((c : Thread nD τ), SemLoc.dma d) 0

theorem whole_pt (b : Ref sig .tc) (q : PosShare TreeShare) (f : b.ty.Contents (Elt F)) :
    ((Memref.whole b).view.loc (c : Thread nD τ) ↦{q} f : sProp 𝕄)
      = ((Memref.whole b).view.loc (c : Thread nD τ) ↦[(Memref.whole b).view.set]{q} f) :=
  whole_gen (c : Thread nD τ) b q f

theorem z_set (f : S256x2048.Idx → Elt F .f32) :
    (zPt c f : sProp 𝕄) = (mZ.view.loc (c : Thread nD τ) ↦[mZ.view.set]{fullShare} f) := whole_pt (F := F) c cc0_scratch4 fullShare f

/-- The zeros, held as the rest of the share and the transfers' tokens. -/
abbrev zRest (n : ℕ) : sProp 𝕄 := mZ.view.loc (c : Thread nD τ) ↦[mZ.view.set]{Transfers.shareDrop fullShare n} (k0_pay4 (F := F))
theorem zeros_split (n : ℕ) :
    (zPt c (k0_pay4 (F := F)) : sProp 𝕄) ⊢ iprop(zRest (F := F) c n ∗ bigSep (Finset.range n) (zTok (F := F) c)) := by
  rw [z_set]
  exact (Transfers.pointsTo_toks_range fullShare n).1
theorem zeros_join (n : ℕ) :
    iprop(zRest (F := F) c n ∗ bigSep (Finset.range n) (zTok (F := F) c)) ⊢ (zPt c (k0_pay4 (F := F)) : sProp 𝕄) := by
  rw [z_set]
  exact (Transfers.pointsTo_toks_range fullShare n).2

/-- The number of blocks of zeros. -/
abbrev nZ (fo : S17.Idx → BitVec 32) : ℕ := 8 * Nat.count (isEmp fo) 16
theorem nZ_lt (fo : S17.Idx → BitVec 32) : nZ fo < 129 := by
  have := Nat.count_le (isEmp fo) (n := 16); unfold nZ; omega

abbrev part1B := k0_part1 (F := F) mO (Memref.isWhole_whole _) mA1 (Memref.isWhole_whole _) mA2 (Memref.isWhole_whole _) mH (Memref.isWhole_whole _) mC (Memref.isWhole_whole _)
    mCd (Memref.isWhole_whole _) mSc (Memref.isWhole_whole _) mX (Memref.isWhole_whole _) mXt (Memref.isWhole_whole _) mZ (Memref.isWhole_whole _) mR (Memref.isWhole_whole _)
    cc0_scratch6 cc0_scratch7 cc0_scratch8
abbrev bodyB := cc0_moe_hessian (F := F) mO (Memref.isWhole_whole _) mA1 (Memref.isWhole_whole _) mA2 (Memref.isWhole_whole _) mH (Memref.isWhole_whole _) mC (Memref.isWhole_whole _)
    mCd (Memref.isWhole_whole _) mSc (Memref.isWhole_whole _) mX (Memref.isWhole_whole _) mXt (Memref.isWhole_whole _) mZ (Memref.isWhole_whole _) mR (Memref.isWhole_whole _)
    cc0_scratch6 cc0_scratch7 cc0_scratch8

theorem z_store (f : S256x2048.Idx → Elt F .f32) (w : S256x2048.Idx → Elt F .f32) :
    (mZ.access (Rect.unit (s := S256x2048) ![0, 0] S256x2048.size inb_S256x2048_S256x2048_0_0)).write (Elt F) f w Finset.univ = w :=
  Memref.write_access_unit_zero_univ (Elt F) cc0_scratch4 (by funext a; fin_cases a <;> rfl) _ f w
theorem x_store (f : S256x2048.Idx → Elt F .bf16) (w : S256x2048.Idx → Elt F .bf16) :
    (mX.access (Rect.unit (s := S256x2048) ![0, 0] S256x2048.size inb_S256x2048_S256x2048_0_0)).write (Elt F) f w Finset.univ = w :=
  Memref.write_access_unit_zero_univ (Elt F) cc0_scratch2 (by funext a; fin_cases a <;> rfl) _ f w
theorem xt_store (f : S2048x256.Idx → Elt F .bf16) (w : S2048x256.Idx → Elt F .bf16) :
    (mXt.access (Rect.unit (s := S2048x256) ![0, 0] S2048x256.size inb_S2048x256_S2048x256_0_0)).write (Elt F) f w Finset.univ = w :=
  Memref.write_access_unit_zero_univ (Elt F) cc0_scratch3 (by funext a; fin_cases a <;> rfl) _ f w
theorem cd_load (f : S256x2048.Idx → Elt F .fp8e4m3) :
    (mCd.access (Rect.unit (s := S256x2048) ![0, 0] S256x2048.size inb_S256x2048_S256x2048_0_0)).read (Elt F) f = f :=
  Memref.read_access_unit_zero (Elt F) cc0_scratch0 (by funext a; fin_cases a <;> rfl) _ f
theorem sc_load (f : S1x256.Idx → Elt F .f32) :
    (mSc.access (Rect.unit (s := S1x256) ![0, 0] S1x256.size inb_S1x256_S1x256_0_0)).read (Elt F) f = f :=
  Memref.read_access_unit_zero (Elt F) cc0_scratch1 (by funext a; fin_cases a <;> rfl) _ f

/-- The codes' transfer, in flight. -/
abbrev cdD (codes : S256x2048.Idx → Elt F .fp8e4m3) : sProp 𝕄 := iprop(cdPt c codes ∗ a1Pt c codes)
abbrev scD (scales : S1x256.Idx → Elt F .f32) : sProp 𝕄 := iprop(scPt c scales ∗ a2Pt c scales)

theorem cd_landed (codes f : S256x2048.Idx → Elt F .fp8e4m3) :
    iprop((mCd.view.loc (c : Thread nD τ) ↦[mCd.view.set]{fullShare} mCd.view.write (Elt F) f (mA1.view.read (Elt F) codes) Finset.univ)
      ∗ mA1.view.loc (c : Thread nD τ) ↦[mA1.view.set]{fullShare} codes) ⊢ cdD c codes := by
  refine sep_mono (Entails.of_eq ?_) (Entails.of_eq (whole_pt (F := F) c main_arg0 fullShare codes).symm)
  rw [show mCd.view.write (Elt F) f (mA1.view.read (Elt F) codes) Finset.univ = codes from View.write_whole_univ (Val := Elt F) cc0_scratch0 f codes]
  exact (whole_pt (F := F) c cc0_scratch0 fullShare codes).symm
theorem sc_landed (scales f : S1x256.Idx → Elt F .f32) :
    iprop((mSc.view.loc (c : Thread nD τ) ↦[mSc.view.set]{fullShare} mSc.view.write (Elt F) f (mA2.view.read (Elt F) scales) Finset.univ)
      ∗ mA2.view.loc (c : Thread nD τ) ↦[mA2.view.set]{fullShare} scales) ⊢ scD c scales := by
  refine sep_mono (Entails.of_eq ?_) (Entails.of_eq (whole_pt (F := F) c main_v0 fullShare scales).symm)
  rw [show mSc.view.write (Elt F) f (mA2.view.read (Elt F) scales) Finset.univ = scales from View.write_whole_univ (Val := Elt F) cc0_scratch1 f scales]
  exact (whole_pt (F := F) c cc0_scratch1 fullShare scales).symm

/-! ## Up to the products -/

theorem part1_run (fo : S17.Idx → BitVec 32) (fc : S16.Idx → BitVec 32) (codes : S256x2048.Idx → Elt F .fp8e4m3) (scales : S1x256.Idx → Elt F .f32)
    (fX : S256x2048.Idx → Elt F .bf16) (fXt : S2048x256.Idx → Elt F .bf16) (f0 : HIdx → Elt F .f32)
    {β : Type} (kk : (Σ' (v9 : BitVec 32) (_ : k0_chk5 v9), IVec S1x256 32) → Prog (TpuEff nD τ sig (Elt F) Λ₀ .tc) β) (Q : β → sProp 𝕄) :
    iprop(oPt c fo ∗ cPt c fc ∗ (∃ f, cdPt (F := F) c f) ∗ (∃ f, scPt (F := F) c f) ∗ (∃ f, xPt (F := F) c f) ∗ (∃ f, xtPt (F := F) c f) ∗ (∃ f, zPt (F := F) c f)
        ∗ sv (F := F) c 2 ∗ sv (F := F) c 3 ∗ sv (F := F) c 4 ∗ a1Pt c codes ∗ a2Pt c scales ∗ (∃ W, owes (c : Thread nD τ) 0 W)
        ∗ bigSep (Finset.range 16) fun e => if isEmp fo e then row c f0 e else iprop(emp))
      ⊢ iprop((∀ hw : k0_chk5 (BitVec.ofNat 32 (nZ fo)), iprop(oPt c fo ∗ cPt c (cntC fo fc 16) ∗ cdPt c codes ∗ scPt c scales ∗ xPt c (k0_pay6 scales codes) ∗ xtPt c (k0_pay7 scales codes)
            ∗ zRest (F := F) c (nZ fo)
            ∗ sv (F := F) c 2 ∗ sv (F := F) c 3 ∗ zBatch c fo (hFin fo fX fXt f0) (nZ fo) (nZ fo) 0 ∗ a1Pt c codes ∗ a2Pt c scales ∗ (∃ W, owes (c : Thread nD τ) 0 W))
          -∗ run c (kk ⟨BitVec.ofNat 32 (nZ fo), hw, rowIota⟩) Q)
        -∗ run c (part1B (F := F) >>= kk) Q) := by
  iintro ⟨HF, HC, ⟨%f5, HCd⟩, ⟨%f6, HSc⟩, ⟨%f7, HX⟩, ⟨%f8, HXt⟩, ⟨%f9, HZ⟩, Hs2, Hs3, Hs4, HA1, HA2, ⟨%W, HO⟩, HR⟩ HK
  unfold part1B
  rw [k0_part1_eq_skeleton]
  rw [show ∀ p : Prog (TpuEff nD τ sig (Elt F) Λ₀ .tc) (Σ' (v9 : BitVec 32) (_ : k0_chk5 v9), IVec S1x256 32), run c (p >>= kk) Q = run c p (fun r => run c (kk r) Q) from fun p => wp_bind ..]
  unfold k0_part1_skel
  dsimp only
  ihave HCd := (Entails.of_eq (whole_pt (F := F) c cc0_scratch0 fullShare f5)) $$ HCd
  ihave HA1 := (Entails.of_eq (whole_pt (F := F) c main_arg0 fullShare codes)) $$ HA1
  iapply (Transfers.wp_dmaLocal (EC (F := F)) Variants.none (c : Thread nD τ) none (src := mA1) (dst := mCd) (sm := .dma 2) () 16384 (by show RefSig.tileCredit S256x2048 .fp8e4m3 = 16384; decide) (by decide) subset_rfl)
    $$ [HCd HA1 Hs2]
  · isplitl [HA1]; · iexact HA1
    isplitl [HCd]; · iexact HCd
    iexact Hs2
  iintro HF1
  ihave HF1 := (Transfers.Flight_mono (EC (F := F)) (c : Thread nD τ) (cd_landed c codes f5)) $$ HF1
  ihave HSc := (Entails.of_eq (whole_pt (F := F) c cc0_scratch1 fullShare f6)) $$ HSc
  ihave HA2 := (Entails.of_eq (whole_pt (F := F) c main_v0 fullShare scales)) $$ HA2
  iapply (Transfers.wp_dmaLocal (EC (F := F)) Variants.none (c : Thread nD τ) none (src := mA2) (dst := mSc) (sm := .dma 3) () 32 (by show RefSig.tileCredit S1x256 .f32 = 32; decide) (by decide) subset_rfl)
    $$ [HSc HA2 Hs3]
  · isplitl [HA2]; · iexact HA2
    isplitl [HSc]; · iexact HSc
    iexact Hs3
  iintro HF2
  ihave HF2 := (Transfers.Flight_mono (EC (F := F)) (c : Thread nD τ) (sc_landed c scales f6)) $$ HF2
  iapply (wp_ldU c mZ _ _ fullShare f9) $$ HZ
  iintro HZ
  iapply (wp_stU c mZ _ _ _ _ f9) $$ HZ
  iintro HZ
  rw [z_store]
  ihave HZ := (zeros_split c (nZ fo)) $$ HZ
  icases HZ with ⟨HZr, HT⟩
  ihave Hs4 := (show sv (F := F) c 4 ⊢ semVal ((c : Thread nD τ), SemLoc.dma cc0_scratch7.sem) 0 from .rfl) $$ Hs4
  imod (Transfers.batch_alloc' (EC (F := F)) (c : Thread nD τ) () NN (zD c fo (hFin fo fX fXt f0) (nZ fo)) (sm := .dma cc0_scratch7.sem) (E := Set.univ)) $$ Hs4 with HB
  iapply (Scf.wp_for_bind frame (wpE (defs₀ (F := F)) Variants.none (c : Thread nD τ) none) Set.univ _ _ _ k0_t1_ok _
      (t1B (F := F)) (inv1 c fo fc (hFin fo fX fXt f0) f0 (nZ fo))
      (fun k acc => t1_step c fo fc fX fXt f0 k acc)) $$ [HF HC HB HT HR]
  · unfold inv1
    rw [Nat.count_zero, Nat.mul_zero, ← Finset.range_eq_Ico, ← Finset.range_eq_Ico]
    isplitr; · ipureintro; rfl
    isplitl [HF]; · iexact HF
    isplitl [HC]; · iexact HC
    isplitl [HB]; · iexact HB
    isplitl [HT]; · iexact HT
    iexact HR
  rw [show Scf.trips _ _ _ = 16 from t1_trips]
  unfold inv1
  iintro %acc ⟨%hacc, HF, HC, HB, -, -⟩
  subst hacc
  iapply (wp_assume (defs := defs₀ (F := F)) Variants.none (c : Thread nD τ) none Set.univ (t7_facts (nZ_lt fo)).2.2)
  simp only [ret_bind']
  iapply (Transfers.wp_waitLocal (EC (F := F)) Variants.none (c : Thread nD τ) none (sem := 3) (srcw := mA2) (dstw := mSc) () (N := 32) (by show RefSig.tileCredit S1x256 .f32 = 32; decide)) $$ [HF2 HO]
  · isplitl [HF2]; · iexact HF2
    iexact HO
  iintro ⟨⟨HSc, HA2⟩, Hs3, HO⟩
  iapply (Transfers.wp_waitLocal (EC (F := F)) Variants.none (c : Thread nD τ) none (sem := 2) (srcw := mA1) (dstw := mCd) () (N := 16384) (by show RefSig.tileCredit S256x2048 .fp8e4m3 = 16384; decide)) $$ [HF1 HO]
  · isplitl [HF1]; · iexact HF1
    iexact HO
  iintro ⟨⟨HCd, HA1⟩, Hs2, HO⟩
  iapply (wp_ldU c mSc _ _ fullShare scales) $$ HSc
  iintro HSc
  iapply (wp_ldU c mCd _ _ fullShare codes) $$ HCd
  iintro HCd
  rw [sc_load, cd_load]
  iapply (wp_ldU c mX _ _ fullShare f7) $$ HX
  iintro HX
  iapply (wp_stU c mX _ _ _ _ f7) $$ HX
  iintro HX
  rw [x_store]
  iapply (wp_ldU c mXt _ _ fullShare f8) $$ HXt
  iintro HXt
  iapply (wp_stU c mXt _ _ _ _ f8) $$ HXt
  iintro HXt
  rw [xt_store]
  unfold run
  sl_step
  iapply HK
  isplitl [HF]; · iexact HF
  isplitl [HC]; · iexact HC
  isplitl [HCd]; · iexact HCd
  isplitl [HSc]; · iexact HSc
  isplitl [HX]; · iexact HX
  isplitl [HXt]; · iexact HXt
  isplitl [HZr]; · iexact HZr
  isplitl [Hs2]; · iexact Hs2
  isplitl [Hs3]; · iexact Hs3
  isplitl [HB]; · iexact HB
  isplitl [HA1]; · iexact HA1
  isplitl [HA2]; · iexact HA2
  iexists _; iexact HO

end

end Cert.Kernel.Hand

end
-- ==== Proof.Bits.Whole.lean ====
/-
  The body, from what the launch hands it to what it hands back: every buffer of its own at something, the semaphores at
  zero, the codes and the scales as they were, the counts and the Hessian at their values.
-/
module

public import proofs.«01_k».proof.Proof.Bits.Body

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

section
variable (c : Dev nD)

/-- The body's own buffers, at anything, and its semaphores at zero. -/
abbrev ownAny : sProp 𝕄 :=
  iprop((∃ f, cdPt (F := F) c f) ∗ (∃ f, scPt (F := F) c f) ∗ (∃ f, xPt (F := F) c f) ∗ (∃ f, xtPt (F := F) c f) ∗ (∃ f, zPt (F := F) c f) ∗ (∃ f, rgPt (F := F) c f)
    ∗ sv (F := F) c 2 ∗ sv (F := F) c 3 ∗ sv (F := F) c 4 ∗ bigSep (Finset.range 8) fun m => sv (F := F) c (rSem (fM m)))

theorem slots_free (hf : HIdx → Elt F .f32) :
    (slots c hf none : sProp 𝕄) = iprop((bigSep (Finset.range 8) fun m => rAny (F := F) c (fM m)) ∗ bigSep (Finset.range 8) fun m => sv (F := F) c (rSem (fM m))) :=
  bigSep_sepi _ _ _

/-- The Hessian the body writes. -/
abbrev hOut (fo : S17.Idx → BitVec 32) (codes : S256x2048.Idx → Elt F .fp8e4m3) (scales : S1x256.Idx → Elt F .f32) (f0 : HIdx → Elt F .f32) : HIdx → Elt F .f32 :=
  hFin fo (k0_pay6 scales codes) (k0_pay7 scales codes) f0

theorem body_run (fo : S17.Idx → BitVec 32) (fc : S16.Idx → BitVec 32) (codes : S256x2048.Idx → Elt F .fp8e4m3) (scales : S1x256.Idx → Elt F .f32) (f0 : HIdx → Elt F .f32) :
    iprop(oPt c fo ∗ cPt c fc ∗ ownAny (F := F) c ∗ a1Pt c codes ∗ a2Pt c scales ∗ hhPt c f0 ∗ (∃ W, owes (c : Thread nD τ) 0 W))
      ⊢ run c (bodyB (F := F)) (fun _ => iprop(oPt c fo ∗ cPt c (cntC fo fc 16) ∗ ownAny (F := F) c ∗ a1Pt c codes ∗ a2Pt c scales ∗ hhPt c (hOut fo codes scales f0)
          ∗ (∃ W, owes (c : Thread nD τ) 0 W))) := by
  have hq : Nat.count (isNe fo) 16 < 17 := lt_of_le_of_lt (Nat.count_le (isNe fo)) (by decide)
  unfold ownAny
  iintro ⟨HF, HC, ⟨HCd, HSc, HX, HXt, HZ, ⟨%g, HRg⟩, Hs2, Hs3, Hs4, Hs8⟩, HA1, HA2, HH, HO⟩
  ihave HH := (Entails.of_eq (h_rows c f0)) $$ HH
  ihave HH := (rows_split c fo f0) $$ HH
  icases HH with ⟨HEm, HNe, HOt⟩
  ihave HRg := (ring_split c g) $$ HRg
  ihave HS := (Entails.of_eq (slots_free c (hOut fo codes scales f0)).symm) $$ [HRg Hs8]
  · isplitl [HRg]; · iexact HRg
    iexact Hs8
  unfold bodyB
  rw [cc0_moe_hessian_eq_skeleton]
  unfold cc0_moe_hessian_skel
  dsimp only
  iapply (part1_run c fo fc codes scales (k0_pay6 scales codes) (k0_pay7 scales codes) f0) $$ [HF HC HCd HSc HX HXt HZ Hs2 Hs3 Hs4 HA1 HA2 HO HEm]
  · isplitl [HF]; · iexact HF
    isplitl [HC]; · iexact HC
    isplitl [HCd]; · iexact HCd
    isplitl [HSc]; · iexact HSc
    isplitl [HX]; · iexact HX
    isplitl [HXt]; · iexact HXt
    isplitl [HZ]; · iexact HZ
    isplitl [Hs2]; · iexact Hs2
    isplitl [Hs3]; · iexact Hs3
    isplitl [Hs4]; · iexact Hs4
    isplitl [HA1]; · iexact HA1
    isplitl [HA2]; · iexact HA2
    isplitl [HO]; · iexact HO
    iexact HEm
  iintro %hw ⟨HF, HC, HCd, HSc, HX, HXt, HZr, Hs2, Hs3, HB, HA1, HA2, HO⟩
  dsimp only
  iapply (Scf.wp_for_bind frame (wpE (defs₀ (F := F)) Variants.none (c : Thread nD τ) none) Set.univ _ _ _ k0_t4_ok _
      (t4B (F := F)) (inv4 c fo (k0_pay6 scales codes) (k0_pay7 scales codes) (hOut fo codes scales f0) f0)
      (fun k acc => t4_step c fo (k0_pay6 scales codes) (k0_pay7 scales codes) f0 k acc)) $$ [HF HX HXt HO HS HNe]
  · unfold inv4
    rw [Nat.count_zero, Nat.mul_zero, ← Finset.range_eq_Ico]
    isplitr; · ipureintro; rfl
    isplitl [HF]; · iexact HF
    isplitl [HX]; · iexact HX
    isplitl [HXt]; · iexact HXt
    isplitl [HO]; · iexact HO
    isplitl [HS]; · iexact HS
    isplitr; · (unfold retd; iempintro)
    iexact HNe
  rw [show Scf.trips _ _ _ = 16 from t4_trips]
  unfold inv4
  iintro %acc ⟨%hacc, HF, HX, HXt, HO, HS, HD, -⟩
  subst hacc
  iapply (wp_assume (defs := defs₀ (F := F)) Variants.none (c : Thread nD τ) none Set.univ (chk6_all hq))
  simp only [ret_bind']
  iapply (t7_loop c fo (hOut fo codes scales f0) (nZ fo) (nZ_lt fo) hw) $$ [HB HO]
  · isplitl [HB]; · iexact HB
    iexact HO
  iintro ⟨HB, HO⟩
  iapply (no_trips c _ _ _ (k0_t8_ok _ hw) _ (t8B (F := F) _ hw) (t7_facts (nZ_lt fo)).2.1)
  iapply (t9_loop c fo (hOut fo codes scales f0) _ hq (last fo 16) (last_iff fo 16) (chk6_all hq)) $$ [HO HS]
  · isplitl [HO]; · iexact HO
    iexact HS
  iintro ⟨HO, HS, HRet⟩
  iapply (no_trips c _ _ _ (k0_t10_ok _ (chk6_all hq)) _ (t10B (F := F) _ (chk6_all hq)) (t9_facts hq).2.1)
  imod (Transfers.batch_collect' (EC (F := F)) (c : Thread nD τ) (N := NN) (by decide)) $$ HB with ⟨HB, Hs4⟩
  ihave HB := (zD_all c fo (hOut fo codes scales f0)) $$ HB
  icases HB with ⟨HEm, HT⟩
  ihave HZ := (zeros_join (F := F) c (nZ fo)) $$ [HZr HT]
  · isplitl [HZr]; · iexact HZr
    iexact HT
  ihave HNe := (retd_all c fo (hOut fo codes scales f0) 16) $$ [HD HRet]
  · isplitl [HD]; · iexact HD
    iexact HRet
  ihave HH := (rows_join c fo (k0_pay6 scales codes) (k0_pay7 scales codes) f0) $$ [HEm HNe HOt]
  · isplitl [HEm]; · iexact HEm
    isplitl [HNe]; · iexact HNe
    iexact HOt
  ihave HH := (Entails.of_eq (h_rows c (hOut fo codes scales f0)).symm) $$ HH
  ihave HS := (Entails.of_eq (slots_free c (hOut fo codes scales f0))) $$ HS
  icases HS with ⟨HRg, Hs8⟩
  ihave HRg := (ring_join c g) $$ HRg
  sl_step
  isplitl [HF]; · iexact HF
  isplitl [HC]; · iexact HC
  isplitl [HCd HSc HX HXt HZ HRg Hs2 Hs3 Hs4 Hs8]
  · isplitl [HCd]; · iexists _; iexact HCd
    isplitl [HSc]; · iexists _; iexact HSc
    isplitl [HX]; · iexists _; iexact HX
    isplitl [HXt]; · iexists _; iexact HXt
    isplitl [HZ]; · iexists _; iexact HZ
    isplitl [HRg]; · iexact HRg
    isplitl [Hs2]; · iexact Hs2
    isplitl [Hs3]; · iexact Hs3
    isplitl [Hs4]; · iexact Hs4
    iexact Hs8
  isplitl [HA1]; · iexact HA1
  isplitl [HA2]; · iexact HA2
  isplitl [HH]; · iexact HH
  iexact HO

end

end Cert.Kernel.Hand

end
-- ==== Proof.Bits.Run.lean ====
/-
  The program's run: the host's reshape of the scales, then the region, whose one point is the body. The arguments end as
  they were, the counts and the Hessian at their values, every semaphore at zero.
-/
module

public import proofs.«01_k».proof.Proof.Bits.Whole
public import proofs.«01_k».proof.Proof.Gen.Kernel.Launch
public import proofs.«01_k».proof.Proof.Gen.Kernel.Frame
public import proofs.«01_k».proof.Proof.Gen.Kernel.Points
public import Idealize.ShloMosaic.Lib.Pipeline.FrameBody
public import Idealize.ShloMosaic.Lib.Pipeline.FrameValue
public import Idealize.ShloMosaic.Lib.Pipeline.ValueKit.Geometry

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-! ## What is staged, read and written -/

/-- The buffer the body writes by transfers of its own: the Hessian. -/
def R0 : Finset (Ref sig .tc) := {main_v1_0}
/-- The buffers its transfers read: the codes and the scales. -/
def H0 : Finset (Ref sig .tc) := {main_arg0, main_v0}
theorem H0_sub : H0 ⊆ Pipeline.restRefs sig spec0 := by decide
theorem R0_sub : R0 ⊆ Pipeline.restRefs sig spec0 \ H0 := by decide

/-- The body's semaphores. -/
abbrev osem0 : Fin 11 → SemLoc sig := fun j =>
  (![SemLoc.dma 2, SemLoc.dma 3, SemLoc.dma 4, SemLoc.dma 5, SemLoc.dma 6, SemLoc.dma 7, SemLoc.dma 8, SemLoc.dma 9, SemLoc.dma 10, SemLoc.dma 11, SemLoc.dma 12] : Fin 11 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(sv c 2 ∗ sv c 3 ∗ sv c 4 ∗ sv c 5 ∗ sv c 6 ∗ sv c 7 ∗ sv c 8 ∗ sv c 9 ∗ sv c 10 ∗ sv c 11 ∗ sv c 12) := by
  rw [Pipeline.ownSems0_eq_of_list c osem0 [0, 1, 2, 3, 4, 5, 6, 7, 8, 9, 10] (by decide) (by decide)]; rfl

theorem ring_sems (c : Dev nD) :
    (bigSep (Finset.range 8) fun k => sv (F := F) c (rSem (fM k)))
      = iprop(sv (F := F) c 5 ∗ sv (F := F) c 6 ∗ sv (F := F) c 7 ∗ sv (F := F) c 8 ∗ sv (F := F) c 9 ∗ sv (F := F) c 10 ∗ sv (F := F) c 11 ∗ sv (F := F) c 12) := by
  rw [BI.bigSep_eq_bigSepL_of_eq [0, 1, 2, 3, 4, 5, 6, 7] (by decide) (by decide)]; rfl

/-! ## @main up to the region -/

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem hbmPts0_eq (c : Dev nD) :
    (bigSep H0 (fun b => ((c : Thread nD τ).loc b) ↦{fullShare} V m c b) : sProp 𝕄)
      = iprop(a1Pt c (V m c main_arg0) ∗ a2Pt c (V m c main_v0)) := by
  rw [BI.bigSep_eq_bigSepL_of_eq [main_arg0, main_v0] (by decide) (by decide)]; rfl
theorem routed0_eq (c : Dev nD) (G : (b : Ref sig .tc) → Buf (Elt F) ((c.tc : Thread nD τ).loc b)) :
    (Pipeline.routed R0 c G : sProp 𝕄) = hhPt c (G main_v1_0) := by
  unfold Pipeline.routed
  rw [BI.bigSep_eq_bigSepL_of_eq [main_v1_0] (by decide) (by decide)]; rfl

theorem PhiDRG0_eq (G : (c : Dev nD) → (b : Ref sig .tc) → Buf (Elt F) ((c.tc : Thread nD τ).loc b)) (c : Dev nD) :
    (Pipeline.ΦDRG osem0 spec0 H0 R0 (V m) G c : sProp 𝕄)
      = iprop(iprop((∃ f, cdPt (F := F) c f) ∗ (∃ f, scPt (F := F) c f) ∗ (∃ f, xPt (F := F) c f) ∗ (∃ f, xtPt (F := F) c f) ∗ (∃ f, zPt (F := F) c f) ∗ (∃ f, rgPt (F := F) c f))
          ∗ (∃ r, prngReg c r)
          ∗ iprop(sv c 2 ∗ sv c 3 ∗ sv c 4 ∗ sv c 5 ∗ sv c 6 ∗ sv c 7 ∗ sv c 8 ∗ sv c 9 ∗ sv c 10 ∗ sv c 11 ∗ sv c 12)
          ∗ iprop(a1Pt c (V m c main_arg0) ∗ a2Pt c (V m c main_v0))
          ∗ hhPt c (G c main_v1_0)) := by
  rw [Pipeline.ΦDRG_eq, hbmPts0_eq, routed0_eq, ownSems00_eq, scopedRest0_eq]; rfl

/-! ## The values -/

/-- The counts. -/
def cntOut (fo : S17.Idx → BitVec 32) : S16.Idx → BitVec 32 := fun i => cntW fo (i 0).val
theorem cntC_all (fo : S17.Idx → BitVec 32) (fc : S16.Idx → BitVec 32) : cntC fo fc 16 = cntOut fo := by
  funext i
  unfold cntC cntOut
  rw [if_pos (show (i 0).val < 16 from (i 0).isLt)]

/-- The offsets as staged. -/
abbrev foAt (c : Dev nD) : S17.Idx → BitVec 32 := iblk m c 0 t0_0
/-- The Hessian after the region. -/
abbrev hRun (c : Dev nD) : HIdx → Elt F .f32 := hOut (foAt m c) (V m c main_arg0) (V m c main_v0) (V m c main_v1_0)

/-- The contents after the region of the buffers the body writes. -/
def G0 (c : Dev nD) (b : Ref sig .tc) : Buf (Elt F) ((c.tc : Thread nD τ).loc b) :=
  Function.update (V m c) main_v1_0 (hRun m c) b
theorem G0_h (c : Dev nD) : G0 m c main_v1_0 = hRun m c := Function.update_self ..

/-! ## The proof data and the body's obligation -/

/-- The invariant: the launch's before the point, the results' after it. -/
def PhiAt (c : Dev nD) (n : ℕ) : sProp 𝕄 :=
  if n = 0 then Pipeline.ΦDRG osem0 spec0 H0 R0 (V m) (V m) c else Pipeline.ΦDRG osem0 spec0 H0 R0 (V m) (G0 m) c

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => cntOut (foAt m c)
  Φ t := PhiAt m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = cntOut (foAt m c) := by dsimp only [dats]

theorem before0_0 {c : Dev nD} (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

theorem Phi_in (c : Dev nD) : (dats m 0 c).Φ t0_0.castSucc = Pipeline.ΦDRG osem0 spec0 H0 R0 (V m) (V m) c := by
  show PhiAt m c 0 = _
  unfold PhiAt; rw [if_pos rfl]
theorem Phi_out (c : Dev nD) : (dats m 0 c).Φ t0_0.succ = Pipeline.ΦDRG osem0 spec0 H0 R0 (V m) (G0 m) c := by
  show PhiAt m c 1 = _
  unfold PhiAt; rw [if_neg (by decide)]

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t))

theorem own_o (c : Dev nD) (f : S17.Idx → BitVec 32) :
    (owns (c : Thread nD τ) (stage0_0 0) fullShare f : sProp 𝕄) = oPt (F := F) c f :=
  owns_whole (Val := Elt F) (c : Thread nD τ) cc0_stg0_0 fullShare f
theorem own_c (c : Dev nD) (f : S16.Idx → BitVec 32) :
    (owns (c : Thread nD τ) (stage0_1 0) fullShare f : sProp 𝕄) = cPt (F := F) c f :=
  owns_whole (Val := Elt F) (c : Thread nD τ) cc0_stg1_0 fullShare f

theorem bodyAt0_eq (t : Fin cfg0.N) : bodyAt0 (F := F) t = bodyB (F := F) := by
  unfold bodyAt0
  have h : ∀ s0 s1 : Fin 1, cc0_moe_hessian (F := F) (win0_0.stage s0) (hstage0_0 0) (Memref.whole main_arg0) (Memref.isWhole_whole _) (Memref.whole main_v0) (Memref.isWhole_whole _) (Memref.whole main_v1_0) (Memref.isWhole_whole _) (win0_1.stage s1) (hstage0_1 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 = bodyB (F := F) := by
    intro s0 s1
    obtain rfl : s0 = 0 := Subsingleton.elim _ _
    obtain rfl : s1 = 0 := Subsingleton.elim _ _
    rfl
  exact h _ _

/-- What the body finds and leaves, the staged scalars as their buffers. -/
abbrev midPre (c : Dev nD) : sProp 𝕄 :=
  iprop(Pipeline.ΦDRG osem0 spec0 H0 R0 (V m) (V m) c ∗ (dats m 0 c).owesAt () t0_0.castSucc ∗ oPt (F := F) c (foAt m c) ∗ ∃ d, cPt (F := F) c d)
abbrev midPost (c : Dev nD) : sProp 𝕄 :=
  iprop(Pipeline.ΦDRG osem0 spec0 H0 R0 (V m) (G0 m) c ∗ (dats m 0 c).owesAt () t0_0.succ ∗ oPt (F := F) c (foAt m c) ∗ cPt (F := F) c (cntOut (foAt m c)))

theorem stage_o (c : Dev nD) (s : Fin 1) (f : S17.Idx → BitVec 32) :
    (owns (c : Thread nD τ) (win0_0.stage s) fullShare f : sProp 𝕄) = oPt (F := F) c f := by
  obtain rfl : s = 0 := Subsingleton.elim _ _
  exact own_o c f
theorem stage_c (c : Dev nD) (s : Fin 1) (f : S16.Idx → BitVec 32) :
    (owns (c : Thread nD τ) (win0_1.stage s) fullShare f : sProp 𝕄) = cPt (F := F) c f := by
  obtain rfl : s = 0 := Subsingleton.elim _ _
  exact own_c c f

theorem pre_of (c : Dev nD) : bodyPre m c t0_0 ⊢ midPre m c := by
  unfold bodyPre
  rw [Phi_in]
  refine sep_mono .rfl (sep_mono .rfl (sep_mono (exists_elim fun d => ?_) (exists_elim fun d => ?_)))
  · rw [before0_0]
    exact Entails.of_eq (stage_o c _ (foAt m c))
  · exact (Entails.of_eq (stage_c c _ ((dats m 0 c).before 1 t0_0 d))).trans (exists_intro (Φ := fun d => cPt (F := F) c d) _)
theorem post_of (c : Dev nD) : midPost m c ⊢ bodyPost m c t0_0 := by
  unfold bodyPost
  rw [Phi_out, after0_0, after0_1]
  refine BIClass.sep_mono .rfl (BIClass.sep_mono .rfl (BIClass.sep_mono ?_ ?_))
  · exact Entails.of_eq (stage_o c _ (foAt m c)).symm
  · exact Entails.of_eq (stage_c c _ (cntOut (foAt m c))).symm

theorem mid_body (c : Dev nD) : midPre m c ⊢ run c (bodyB (F := F)) (fun _ => midPost m c) := by
  unfold midPre midPost
  rw [PhiDRG0_eq, PhiDRG0_eq, G0_h]
  unfold Dat.owesAt Pipeline.owesWithin
  rw [show (dats m 0 c).owed t0_0.castSucc = 0 from rfl, show (dats m 0 c).owed t0_0.succ = 0 from rfl]
  iintro ⟨⟨⟨HS0, HS1, HS2, HS3, HS4, HS5⟩, Hg, ⟨Hq0, Hq1, Hq2, Hq3, Hq4, Hq5, Hq6, Hq7, Hq8, Hq9, Hq10⟩, ⟨HA1, HA2⟩, HH⟩, ⟨%W, -, HW⟩, HF, ⟨%d1, HC⟩⟩
  ihave HR := (body_run c (foAt m c) d1 (V m c main_arg0) (V m c main_v0) (V m c main_v1_0)) $$ [HS0 HS1 HS2 HS3 HS4 HS5 Hq0 Hq1 Hq2 Hq3 Hq4 Hq5 Hq6 Hq7 Hq8 Hq9 Hq10 HA1 HA2 HH HW HF HC]
  · isplitl [HF]; · iexact HF
    isplitl [HC]; · iexact HC
    isplitl [HS0 HS1 HS2 HS3 HS4 HS5 Hq0 Hq1 Hq2 Hq3 Hq4 Hq5 Hq6 Hq7 Hq8 Hq9 Hq10]
    · unfold ownAny
      rw [ring_sems]
      isplitl [HS0]; · iexact HS0
      isplitl [HS1]; · iexact HS1
      isplitl [HS2]; · iexact HS2
      isplitl [HS3]; · iexact HS3
      isplitl [HS4]; · iexact HS4
      isplitl [HS5]; · iexact HS5
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      iexact Hq10
    isplitl [HA1]; · iexact HA1
    isplitl [HA2]; · iexact HA2
    isplitl [HH]; · iexact HH
    iexists W; iexact HW
  iapply wp_wand $$ HR
  iintro %u
  unfold ownAny
  rw [ring_sems, cntC_all]
  iintro ⟨HF, HC, ⟨HS0, HS1, HS2, HS3, HS4, HS5, Hq0, Hq1, Hq2, Hq3, Hq4, Hq5, Hq6, Hq7, Hq8, Hq9, Hq10⟩, HA1, HA2, HH, ⟨%W', HW⟩⟩
  isplitl [HS0 HS1 HS2 HS3 HS4 HS5 Hg Hq0 Hq1 Hq2 Hq3 Hq4 Hq5 Hq6 Hq7 Hq8 Hq9 Hq10 HA1 HA2 HH]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    isplitl [Hg]; · iexact Hg
    isplitl [Hq0 Hq1 Hq2 Hq3 Hq4 Hq5 Hq6 Hq7 Hq8 Hq9 Hq10]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      iexact Hq10
    isplitl [HA1 HA2]
    · isplitl [HA1]; · iexact HA1
      iexact HA2
    iexact HH
  isplitl [HW]
  · iexists W'; isplitr; · ipureintro; exact fun _ _ => Or.inl trivial
    iexact HW
  isplitl [HF]; · iexact HF
  iexact HC

theorem sound_body (c : Dev nD) (t : Fin cfg0.N) :
    bodyPre m c t ⊢ wp frame (wpE (defs₀ (F := F)) Variants.none c none) Set.univ (bodyAt0 t) (fun _ => bodyPost m c t) := by
  rw [bodyAt0_eq]
  obtain rfl : t = t0_0 := fin_N0 t
  exact (pre_of m c).trans ((mid_body m c).trans (wp_mono _ _ _ fun _ => post_of m c))

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ) (fun r => Pipeline.FramePostRG cfgs (dats m) 0 R0 (V m) (G0 m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m) (G := G0 m)
    (hin := fun _ => .rfl) (hout := fun _ => .rfl)

/-- The counts' array after the region. -/
theorem final_cnt (c : Dev nD) : (dats m 0 c).arrAt 1 cfg0.N = cntOut (foAt m c) := by
  refine (dats m 0 c).arrAt_eq_of_after_last 1 t0_0 (by decide +kernel) (cntOut (foAt m c)) (fun j => ?_)
  rw [after0_1]
  rfl

/-- The offsets as staged are the argument's. -/
theorem foAt_eq (c : Dev nD) : foAt m c = m ((c : Thread nD τ).loc main_arg2) := by
  funext j
  show V m c main_arg2 _ = _
  rw [V_main_arg2]
  congr 1
  funext a
  refine Fin.ext ?_
  fin_cases a
  show 0 * 17 + 1 * (j 0).val = (j 0).val
  omega

/-- The run, buffer by buffer. -/
theorem run_values : θ_run defs (onTc (τ := τ) (main (F := F))) ⟨m, fun _ => 0, ρ⟩ (fun r => (∀ c : Dev nD,
      r.2.mem ((c.tc : Thread nD τ).loc main_v1_0) = hRun m c
      ∧ r.2.mem ((c.tc : Thread nD τ).loc main_v1_1) = cntOut (foAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h.1.2 c main_v1_0 (by decide)).trans (G0_h m c),
      ((h.1.1 c).1 1).trans (final_cnt m c),
      ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).1 0).trans (((dats m 0 c).arrAt_in 0 rfl _).trans ((A_eq m c 0).trans (V_main_arg2 m c)))⟩, h.2⟩) (run_main m ρ)

/-- The frame. -/
theorem frameQ : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h.1 c).2.2, h.2⟩) (run_values m ρ)

end Cert.Kernel.Hand

end
-- ==== Proof.Ideal.Words.lean ====
/-
  The kernel's word arithmetic in closed form: how many trips each counted loop makes, where each slice starts, and that
  the side conditions the body assumes hold of every word the offsets can hold.
-/
module

public import proofs.«01_k».proof.Proof.Gen.KernelIdeal.Skeleton

@[expose] public section

namespace Cert.KernelIdeal.Hand

open Cert.KernelIdeal Cert.KernelIdeal.Gen Idealize.ShloMosaic

/-- The induction variable of a loop from 0 by 1. -/
theorem iv_toNat {k : ℕ} (hk : k < 4096) : (Scf.iv 0#32 1#32 k).toNat = k := by
  unfold Scf.iv
  rw [BitVec.zero_add, BitVec.mul_one, BitVec.toNat_ofNat]
  exact Nat.mod_eq_of_lt (by omega)

theorem iv256_toNat {k : ℕ} (hk : k < 16) : (Scalar.muli (Scf.iv 0#32 1#32 k) 256#32).toNat = 256 * k := by
  revert k; decide

theorem iv1_toNat {k : ℕ} (hk : k < 16) : (Scalar.addi (Scf.iv 0#32 1#32 k) 1#32).toNat = k + 1 := by
  revert k; decide

theorem cmp_cases (p : CmpIPredicate) (x y : BitVec 32) : Scalar.cmpi p x y = 1#1 ∨ Scalar.cmpi p x y = 0#1 := by
  generalize Scalar.cmpi p x y = b; revert b; decide

/-! ## The two halves of a row of blocks: eight trips or none -/

theorem t1_trips : k0_t1_loop.trips = 16 := by decide
theorem t4_trips : k0_t4_loop.trips = 16 := by decide

/-- The bounds of `t2`'s loop: eight blocks when the expert has as many rows as zero, none otherwise. -/
theorem t2_loop_eq (v47 v49 : BitVec 32) :
    k0_t2_loop v47 v49 = if Scalar.cmpi .eq (Scalar.subi v47 v49) 0#32 = 1#1 then ⟨0#32, 8#32, 1#32⟩ else ⟨0#32, 0#32, 1#32⟩ := by
  unfold k0_t2_loop; dsimp only
  rcases cmp_cases .eq (Scalar.subi v47 v49) 0#32 with h | h <;> rw [h] <;> rfl

theorem t3_loop_eq (v47 v49 : BitVec 32) :
    k0_t3_loop v47 v49 = if Scalar.cmpi .eq (Scalar.subi v47 v49) 0#32 = 1#1 then ⟨8#32, 8#32, 1#32⟩ else ⟨0#32, 0#32, 1#32⟩ := by
  unfold k0_t3_loop; dsimp only
  rcases cmp_cases .eq (Scalar.subi v47 v49) 0#32 with h | h <;> rw [h] <;> rfl

theorem t5_loop_eq (v46 v49 : BitVec 32) :
    k0_t5_loop v46 v49 = if Scalar.cmpi .sgt v49 v46 = 1#1 then ⟨0#32, 8#32, 1#32⟩ else ⟨0#32, 0#32, 1#32⟩ := by
  unfold k0_t5_loop; dsimp only
  rcases cmp_cases .sgt v49 v46 with h | h <;> rw [h] <;> rfl

theorem t6_loop_eq (v46 v49 : BitVec 32) :
    k0_t6_loop v46 v49 = if Scalar.cmpi .sgt v49 v46 = 1#1 then ⟨8#32, 8#32, 1#32⟩ else ⟨0#32, 0#32, 1#32⟩ := by
  unfold k0_t6_loop; dsimp only
  rcases cmp_cases .sgt v49 v46 with h | h <;> rw [h] <;> rfl

theorem t2_trips (v47 v49 : BitVec 32) : (k0_t2_loop v47 v49).trips = if Scalar.cmpi .eq (Scalar.subi v47 v49) 0#32 = 1#1 then 8 else 0 := by
  rw [t2_loop_eq]; split <;> decide
theorem t3_trips (v47 v49 : BitVec 32) : (k0_t3_loop v47 v49).trips = 0 := by
  rw [t3_loop_eq]; split <;> decide
theorem t5_trips (v46 v49 : BitVec 32) : (k0_t5_loop v46 v49).trips = if Scalar.cmpi .sgt v49 v46 = 1#1 then 8 else 0 := by
  rw [t5_loop_eq]; split <;> decide
theorem t6_trips (v46 v49 : BitVec 32) : (k0_t6_loop v46 v49).trips = 0 := by
  rw [t6_loop_eq]; split <;> decide

theorem t2_lt {v47 v49 : BitVec 32} (j : Fin (k0_t2_loop v47 v49).trips) : j.val < 8 := by
  have := lt_of_lt_of_eq j.isLt (t2_trips _ _); split at this <;> omega
theorem t5_lt {v46 v49 : BitVec 32} (j : Fin (k0_t5_loop v46 v49).trips) : j.val < 8 := by
  have := lt_of_lt_of_eq j.isLt (t5_trips _ _); split at this <;> omega
theorem t1_lt (k : Fin k0_t1_loop.trips) : k.val < 16 := by exact lt_of_lt_of_eq k.isLt t1_trips
theorem t4_lt (k : Fin k0_t4_loop.trips) : k.val < 16 := by exact lt_of_lt_of_eq k.isLt t4_trips

/-! ## Where each slice starts -/

theorem off1_eq (k : Fin k0_t1_loop.trips) : k0_off1 k = ![k.val + 1] := by
  unfold k0_off1; dsimp only; rw [show ∀ w : BitVec 32, (Scalar.indexCast w : Index).toNat = w.toNat from fun w => rfl, iv1_toNat (t1_lt k)]
theorem off2_eq (k : Fin k0_t1_loop.trips) : k0_off2 k = ![k.val] := by
  unfold k0_off2; dsimp only; rw [show ∀ w : BitVec 32, (Scalar.indexCast w : Index).toNat = w.toNat from fun w => rfl, iv_toNat (by have := t1_lt k; omega)]
theorem off3_eq (k : Fin k0_t1_loop.trips) : k0_off3 k = ![k.val] := by
  unfold k0_off3; dsimp only; rw [show ∀ w : BitVec 32, (Scalar.indexCast w : Index).toNat = w.toNat from fun w => rfl, iv_toNat (by have := t1_lt k; omega)]
theorem off6_eq (k : Fin k0_t4_loop.trips) : k0_off6 k = ![k.val] := by
  unfold k0_off6; dsimp only; rw [show ∀ w : BitVec 32, (Scalar.indexCast w : Index).toNat = w.toNat from fun w => rfl, iv_toNat (by have := t4_lt k; omega)]
theorem off7_eq (k : Fin k0_t4_loop.trips) : k0_off7 k = ![k.val + 1] := by
  unfold k0_off7; dsimp only; rw [show ∀ w : BitVec 32, (Scalar.indexCast w : Index).toNat = w.toNat from fun w => rfl, iv1_toNat (t4_lt k)]

theorem off4_eq (k : Fin k0_t1_loop.trips) (v47 v49 : BitVec 32) (j : Fin (k0_t2_loop v47 v49).trips) :
    k0_off4 k v47 v49 j = ![k.val, 256 * j.val, 0] := by
  unfold k0_off4
  dsimp only
  rw [iv_toNat (by have := t1_lt k; omega), iv256_toNat (by have := t2_lt j; omega)]
theorem off9_eq (k : Fin k0_t4_loop.trips) (v46 v49 : BitVec 32) (j : Fin (k0_t5_loop v46 v49).trips) :
    k0_off9 k v46 v49 j = ![k.val, 256 * j.val, 0] := by
  unfold k0_off9
  dsimp only
  rw [iv_toNat (by have := t4_lt k; omega), iv256_toNat (by have := t5_lt j; omega)]
theorem off14_eq (k : Fin k0_t4_loop.trips) (v46 v49 : BitVec 32) (j : Fin (k0_t5_loop v46 v49).trips) :
    k0_off14 k v46 v49 j = ![k.val, 256 * j.val, 0] := by
  unfold k0_off14
  dsimp only
  rw [iv_toNat (by have := t4_lt k; omega), iv256_toNat (by have := t5_lt j; omega)]
theorem off11_eq (v46 v49 : BitVec 32) (j : Fin (k0_t5_loop v46 v49).trips) :
    k0_off11 v46 v49 j = ![256 * j.val, 0] := by
  unfold k0_off11
  dsimp only
  rw [show ∀ w : BitVec 32, (Scalar.indexCast w : Index).toNat = w.toNat from fun w => rfl, iv256_toNat (by have := t5_lt j; omega)]

/-! ## The ring's slot and its guard, at the running block number `8 q + j` -/

theorem slot_toNat {q j : ℕ} (hq : q < 16) (hj : j < 8) : (Scalar.remsi (BitVec.ofNat 32 (8 * q + j)) 8#32).toNat = j := by
  have h : ∀ q, q < 16 → ∀ j, j < 8 → (Scalar.remsi (BitVec.ofNat 32 (8 * q + j)) 8#32).toNat = j := by decide +kernel
  exact h q hq j hj
theorem cond1_iff {q j : ℕ} (hq : q < 16) (hj : j < 8) : k0_cond1 (BitVec.ofNat 32 (8 * q + j)) = 1#1 ↔ 0 < q := by
  have h : ∀ q, q < 16 → ∀ j, j < 8 → (k0_cond1 (BitVec.ofNat 32 (8 * q + j)) = 1#1 ↔ 0 < q) := by decide +kernel
  exact h q hq j hj

theorem off8_eq {q j : ℕ} (hq : q < 16) (hj : j < 8) : k0_off8 (BitVec.ofNat 32 (8 * q + j)) = ![j] := by
  unfold k0_off8; dsimp only; rw [slot_toNat hq hj]
theorem off13_eq {q j : ℕ} (hq : q < 16) (hj : j < 8) : k0_off13 (BitVec.ofNat 32 (8 * q + j)) = ![j] := by
  unfold k0_off13; dsimp only; rw [slot_toNat hq hj]
theorem off10_eq {q j : ℕ} (hq : q < 16) (hj : j < 8) : k0_off10 (BitVec.ofNat 32 (8 * q + j)) = ![j, 0, 0] := by
  unfold k0_off10; dsimp only; rw [slot_toNat hq hj]
theorem off15_eq {q j : ℕ} (hq : q < 16) (hj : j < 8) : k0_off15 (BitVec.ofNat 32 (8 * q + j)) = ![j, 0, 0] := by
  unfold k0_off15; dsimp only; rw [slot_toNat hq hj]
theorem off12_eq {q j : ℕ} (hq : q < 16) (hj : j < 8) : k0_off12 (BitVec.ofNat 32 (8 * q + j)) = ![j, 0, 0] := by
  unfold k0_off12; dsimp only
  rw [show ∀ w : BitVec 32, (Scalar.indexCast w : Index).toNat = w.toNat from fun w => rfl, slot_toNat hq hj]

/-! ## Bounds, and the side conditions the body assumes -/

theorem inbH {e m : ℕ} (he : e < 16) (hm : m < 8) : ∀ a, (![e, 256 * m, 0] : Fin 3 → ℕ) a + S1x256x2048.size a ≤ S16x2048x2048.size a := by
  intro a; fin_cases a
  · show e + 1 ≤ 16; omega
  · show 256 * m + 256 ≤ 2048; omega
  · show 0 + 2048 ≤ 2048; omega
theorem inbR {j : ℕ} (hj : j < 8) : ∀ a, (![j, 0, 0] : Fin 3 → ℕ) a + S1x256x2048.size a ≤ S8x256x2048.size a := by
  intro a; fin_cases a
  · show j + 1 ≤ 8; omega
  · show 0 + 256 ≤ 256; omega
  · show 0 + 2048 ≤ 2048; omega
theorem inbS {j : ℕ} (hj : j < 8) : ∀ a, (![j] : Fin 1 → ℕ) a + S1.size a ≤ S8.size a := by
  intro a; fin_cases a
  show j + 1 ≤ 8; omega
theorem inbXt {m : ℕ} (hm : m < 8) : ∀ a, (![256 * m, 0] : Fin 2 → ℕ) a + S256x256.size a ≤ S2048x256.size a := by
  intro a; fin_cases a
  · show 256 * m + 256 ≤ 2048; omega
  · show 0 + 256 ≤ 256; omega

theorem dvd_iv256 {j : ℕ} (hj : j < 16) : 256 ∣ (Scalar.muli (Scf.iv 0#32 1#32 j) 256#32).toNat := by
  rw [iv256_toNat hj]; exact ⟨j, rfl⟩

theorem no_t3 {P : Prop} {v47 v49 : BitVec 32} (j : Fin (k0_t3_loop v47 v49).trips) : P := by
  have := lt_of_lt_of_eq j.isLt (t3_trips _ _); omega
theorem no_t6 {P : Prop} {v46 v49 : BitVec 32} (j : Fin (k0_t6_loop v46 v49).trips) : P := by
  have := lt_of_lt_of_eq j.isLt (t6_trips _ _); omega

theorem chk1_all (k : Fin k0_t1_loop.trips) (v47 v49 : BitVec 32) : k0_chk1 k v47 v49 := by
  refine ⟨?_, fun j => dvd_iv256 (by have := t2_lt j; omega), fun j => ?_, ?_, fun j => no_t3 j, fun j => no_t3 j⟩
  · rw [t2_loop_eq]; split <;> decide
  · rw [off4_eq]; exact inbH (t1_lt k) (t2_lt j)
  · rw [t3_loop_eq]; split <;> decide

theorem chk2_all (k : Fin k0_t4_loop.trips) (v46 v49 : BitVec 32) : k0_chk2 k v46 v49 := by
  refine ⟨?_, fun j => dvd_iv256 (by have := t5_lt j; omega), fun j => ?_, fun j => dvd_iv256 (by have := t5_lt j; omega), fun j => ?_, ?_,
    fun j => no_t6 j, fun j => no_t6 j, fun j => no_t6 j, fun j => no_t6 j⟩
  · rw [t5_loop_eq]; split <;> decide
  · rw [off11_eq]; exact inbXt (t5_lt j)
  · rw [off14_eq]; exact inbH (t4_lt k) (t5_lt j)
  · rw [t6_loop_eq]; split <;> decide

theorem chk3_all (k : Fin k0_t4_loop.trips) (v46 v49 : BitVec 32) (j : Fin (k0_t5_loop v46 v49).trips) {q : ℕ} (hq : q < 16) :
    k0_chk3 k v46 v49 j (BitVec.ofNat 32 (8 * q + j.val)) := by
  have hj := t5_lt j
  refine ⟨fun _ => dvd_iv256 (by omega), fun _ => ?_, fun _ => ?_, fun _ => ?_, ?_, ?_, ?_⟩
  · rw [off8_eq hq hj]; exact inbS hj
  · rw [off9_eq]; exact inbH (t4_lt k) hj
  · rw [off10_eq hq hj]; exact inbR hj
  · rw [off12_eq hq hj]; exact inbR hj
  · rw [off13_eq hq hj]; exact inbS hj
  · rw [off15_eq hq hj]; exact inbR hj

/-! ## The draining loops -/

theorem t7_facts {n : ℕ} (hn : n < 129) : (k0_t7_loop (BitVec.ofNat 32 n)).trips = n ∧ (k0_t8_loop (BitVec.ofNat 32 n)).trips = 0
    ∧ k0_chk5 (BitVec.ofNat 32 n) := by
  have h : ∀ n, n < 129 → (k0_t7_loop (BitVec.ofNat 32 n)).trips = n ∧ (k0_t8_loop (BitVec.ofNat 32 n)).trips = 0
    ∧ k0_chk5 (BitVec.ofNat 32 n) := by decide +kernel
  exact h n hn

theorem t9_facts {q : ℕ} (hq : q < 17) : (k0_t9_loop (BitVec.ofNat 32 (8 * q))).trips = min (8 * q) 8 ∧ (k0_t10_loop (BitVec.ofNat 32 (8 * q))).trips = 0
    ∧ (k0_t9_loop (BitVec.ofNat 32 (8 * q))).OK ∧ (k0_t10_loop (BitVec.ofNat 32 (8 * q))).OK := by
  have h : ∀ q, q < 17 → (k0_t9_loop (BitVec.ofNat 32 (8 * q))).trips = min (8 * q) 8 ∧ (k0_t10_loop (BitVec.ofNat 32 (8 * q))).trips = 0
    ∧ (k0_t9_loop (BitVec.ofNat 32 (8 * q))).OK ∧ (k0_t10_loop (BitVec.ofNat 32 (8 * q))).OK := by decide +kernel
  exact h q hq

theorem t9_lt {q : ℕ} (hq : q < 17) (s : Fin (k0_t9_loop (BitVec.ofNat 32 (8 * q))).trips) : s.val < 8 := by
  have := lt_of_lt_of_eq s.isLt ((t9_facts hq).1); omega

theorem off24_eq (v33 : BitVec 32) (s : Fin (k0_t9_loop v33).trips) (hs : s.val < 8) : k0_off24 v33 s = ![s.val] := by
  unfold k0_off24; dsimp only; rw [iv_toNat (by omega)]
theorem off25_eq (v33 : BitVec 32) (s : Fin (k0_t9_loop v33).trips) (hs : s.val < 8) : k0_off25 v33 s = ![s.val, 0, 0] := by
  unfold k0_off25; dsimp only; rw [iv_toNat (by omega)]

theorem chk6_all {q : ℕ} (hq : q < 17) : k0_chk6 (BitVec.ofNat 32 (8 * q)) := by
  obtain ⟨h9, h10, o9, o10⟩ := t9_facts hq
  refine ⟨o9, fun s => ?_, fun s => ?_, o10, fun s => ?_, fun s => ?_⟩
  · rw [off24_eq _ _ (t9_lt hq s)]; exact inbS (t9_lt hq s)
  · rw [off25_eq _ _ (t9_lt hq s)]; exact inbR (t9_lt hq s)
  · have := lt_of_lt_of_eq s.isLt (h10); omega
  · have := lt_of_lt_of_eq s.isLt (h10); omega

end Cert.KernelIdeal.Hand
-- ==== Proof.Ideal.Blocks.lean ====
/-
  The blocks the kernel's transfers move, named by expert and block number: block `m` of expert `e`'s Hessian, slot `m` of
  the ring buffer, cell `m` of the ring's semaphores. The body's own slices are these, at the offsets' closed forms.
-/
module

public import proofs.«01_k».proof.Proof.Ideal.Words
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The body's operands -/

/-- The staged offsets and the counts' buffer. -/
abbrev mO : Memref sig .tc .smem S17 .i32 := Memref.whole cc0_stg0_0
abbrev mC : Memref sig .tc .smem S16 .i32 := Memref.whole cc0_stg1_0
/-- The codes, the scales and the Hessian, left in HBM. -/
abbrev mA1 : Memref sig .tc .hbm S256x2048 .fp8e4m3 := Memref.whole main_arg0
abbrev mA2 : Memref sig .tc .hbm S1x256 .f32 := Memref.whole main_v0
abbrev mH : Memref sig .tc .hbm S16x2048x2048 .f32 := Memref.whole main_v1_0
/-- The scratch: the codes, the scales, the rows, their transpose, the zeros, the ring. -/
abbrev mCd : Memref sig .tc .vmem S256x2048 .fp8e4m3 := Memref.whole cc0_scratch0
abbrev mSc : Memref sig .tc .vmem S1x256 .f32 := Memref.whole cc0_scratch1
abbrev mX : Memref sig .tc .vmem S256x2048 .bf16 := Memref.whole cc0_scratch2
abbrev mXt : Memref sig .tc .vmem S2048x256 .bf16 := Memref.whole cc0_scratch3
abbrev mZ : Memref sig .tc .vmem S256x2048 .f32 := Memref.whole cc0_scratch4
abbrev mR : Memref sig .tc .vmem S8x256x2048 .f32 := Memref.whole cc0_scratch5

/-! ## The blocks -/

/-- Block `m` of expert `e`'s Hessian. -/
def hBlk (e : Fin 16) (m : Fin 8) : Memref sig .tc .hbm S256x2048 .f32 :=
  (mH.slice (Rect.unit (s := S16x2048x2048) ![e.val, 256 * m.val, 0] S1x256x2048.size (inbH e.isLt m.isLt)) (fun _ => rfl)).squeeze S256x2048 squeezes_S1x256x2048_S256x2048
/-- Slot `m` of the ring. -/
def rSlot (m : Fin 8) : Memref sig .tc .vmem S256x2048 .f32 :=
  (mR.slice (Rect.unit (s := S8x256x2048) ![m.val, 0, 0] S1x256x2048.size (inbR m.isLt)) (fun _ => rfl)).squeeze S256x2048 squeezes_S1x256x2048_S256x2048
/-- Cell `m` of the ring's semaphores. -/
def rSem (m : Fin 8) : DmaSem sig :=
  ((cc0_scratch8.slice (Rect.unit (s := S8) ![m.val] S1.size (inbS m.isLt))).squeeze S_ squeezes_S1_S_).sem

theorem hBlk_of {off : Fin 3 → ℕ} (h : ∀ a, off a + S1x256x2048.size a ≤ S16x2048x2048.size a) (e : Fin 16) (m : Fin 8)
    (ho : off = ![e.val, 256 * m.val, 0]) :
    (mH.slice (Rect.unit (s := S16x2048x2048) off S1x256x2048.size h) (fun _ => rfl)).squeeze S256x2048 squeezes_S1x256x2048_S256x2048 = hBlk e m := by
  subst ho; rfl
theorem rSlot_of {off : Fin 3 → ℕ} (h : ∀ a, off a + S1x256x2048.size a ≤ S8x256x2048.size a) (m : Fin 8) (ho : off = ![m.val, 0, 0]) :
    (mR.slice (Rect.unit (s := S8x256x2048) off S1x256x2048.size h) (fun _ => rfl)).squeeze S256x2048 squeezes_S1x256x2048_S256x2048 = rSlot m := by
  subst ho; rfl
theorem rSem_of {off : Fin 1 → ℕ} (h : ∀ a, off a + S1.size a ≤ S8.size a) (m : Fin 8) (ho : off = ![m.val]) :
    ((cc0_scratch8.slice (Rect.unit (s := S8) off S1.size h)).squeeze S_ squeezes_S1_S_).sem = rSem m := by
  subst ho; rfl

theorem rSem_eq (m : Fin 8) : rSem m = ⟨m.val + 5, by have := m.isLt; show _ < 13; omega⟩ := by
  fin_cases m <;> rfl

/-! ## Their elements -/

abbrev HIdx : Type := S16x2048x2048.Idx
abbrev hset (e : Fin 16) (m : Fin 8) : Finset HIdx := (hBlk e m).view.set
abbrev rset (m : Fin 8) : Finset S8x256x2048.Idx := (rSlot m).view.set

theorem hset_eq (e : Fin 16) (m : Fin 8) :
    hset e m = (Rect.unit (s := S16x2048x2048) ![e.val, 256 * m.val, 0] S1x256x2048.size (inbH e.isLt m.isLt)).set := by
  exact ((mH.slice (Rect.unit (s := S16x2048x2048) ![e.val, 256 * m.val, 0] S1x256x2048.size (inbH e.isLt m.isLt)) (fun _ => rfl)).view.set_reshape _).trans
    (View.set_slice_whole _ _)
theorem rset_eq (m : Fin 8) :
    rset m = (Rect.unit (s := S8x256x2048) ![m.val, 0, 0] S1x256x2048.size (inbR m.isLt)).set := by
  exact ((mR.slice (Rect.unit (s := S8x256x2048) ![m.val, 0, 0] S1x256x2048.size (inbR m.isLt)) (fun _ => rfl)).view.set_reshape _).trans
    (View.set_slice_whole _ _)

theorem mem_hset {e : Fin 16} {m : Fin 8} {i : HIdx} : i ∈ hset e m ↔ (i 0).val = e.val ∧ (i 1).val / 256 = m.val := by
  rw [hset_eq, Rect.mem_set_unit]
  constructor
  · intro h
    have h0 := h 0; have h1 := h 1
    change e.val ≤ (i 0).val ∧ (i 0).val < e.val + 1 at h0
    change 256 * m.val ≤ (i 1).val ∧ (i 1).val < 256 * m.val + 256 at h1
    omega
  · rintro ⟨h0, h1⟩ a
    fin_cases a
    · show e.val ≤ (i 0).val ∧ (i 0).val < e.val + 1; omega
    · show 256 * m.val ≤ (i 1).val ∧ (i 1).val < 256 * m.val + 256; omega
    · show 0 ≤ (i 2).val ∧ (i 2).val < 0 + 2048
      exact ⟨Nat.zero_le _, by have := (i 2).isLt; change (i 2).val < 2048 at this; omega⟩
theorem mem_rset {m : Fin 8} {i : S8x256x2048.Idx} : i ∈ rset m ↔ (i 0).val = m.val := by
  rw [rset_eq, Rect.mem_set_unit]
  constructor
  · intro h
    have h0 := h 0
    change m.val ≤ (i 0).val ∧ (i 0).val < m.val + 1 at h0
    omega
  · intro h0 a
    fin_cases a
    · show m.val ≤ (i 0).val ∧ (i 0).val < m.val + 1; omega
    · show 0 ≤ (i 1).val ∧ (i 1).val < 0 + 256
      exact ⟨Nat.zero_le _, by have := (i 1).isLt; change (i 1).val < 256 at this; omega⟩
    · show 0 ≤ (i 2).val ∧ (i 2).val < 0 + 2048
      exact ⟨Nat.zero_le _, by have := (i 2).isLt; change (i 2).val < 2048 at this; omega⟩

theorem hset_disj (p p' : Fin 16 × Fin 8) (h : p ≠ p') : Disjoint (hset p.1 p.2) (hset p'.1 p'.2) :=
  Finset.disjoint_left.mpr fun i hi hi' => h (by
    have a := mem_hset.mp hi; have b := mem_hset.mp hi'
    exact Prod.ext (Fin.ext (a.1.symm.trans b.1)) (Fin.ext (a.2.symm.trans b.2)))
theorem hset_cover : Finset.univ.biUnion (fun p : Fin 16 × Fin 8 => hset p.1 p.2) = (Finset.univ : Finset HIdx) := by
  ext i
  simp only [Finset.mem_biUnion, Finset.mem_univ, true_and, iff_true]
  have h1 := (i 1).isLt; change (i 1).val < 2048 at h1
  exact ⟨(⟨(i 0).val, (i 0).isLt⟩, ⟨(i 1).val / 256, by omega⟩), mem_hset.mpr ⟨rfl, rfl⟩⟩
theorem rset_disj (p p' : Fin 8) (h : p ≠ p') : Disjoint (rset p) (rset p') :=
  Finset.disjoint_left.mpr fun i hi hi' => h (Fin.ext ((mem_rset.mp hi).symm.trans (mem_rset.mp hi')))
theorem rset_cover : Finset.univ.biUnion rset = (Finset.univ : Finset S8x256x2048.Idx) := by
  ext i
  simp only [Finset.mem_biUnion, Finset.mem_univ, true_and, iff_true]
  exact ⟨⟨(i 0).val, (i 0).isLt⟩, mem_rset.mpr rfl⟩

/-- One block's credit on its cell. -/
abbrev NN : ℕ := 65536
theorem hBlk_amount (e : Fin 16) (m : Fin 8) (s : DmaSem sig) : (hBlk e m).view.amount (.dma s) = NN := by
  show RefSig.tileCredit S256x2048 .f32 = NN; decide
theorem hBlk_credit (e : Fin 16) (m : Fin 8) : (hBlk e m).view.dmaCredit = NN := hBlk_amount e m 0

/-- The index of a one-expert block at an element's place in its block. -/
def inBlk (i : HIdx) : S1x256x2048.Idx
  | ⟨0, _⟩ => (⟨0, Nat.one_pos⟩ : Fin 1)
  | ⟨1, _⟩ => (⟨(i 1).val % 256, Nat.mod_lt _ (by decide)⟩ : Fin 256)
  | ⟨2, _⟩ => (⟨(i 2).val, (i 2).isLt⟩ : Fin 2048)

theorem inBlk_emb (e : Fin 16) (m : Fin 8) (y : S256x2048.Idx) :
    inBlk ((hBlk e m).view.emb y) = Shape.reshapeEquiv squeezes_S1x256x2048_S256x2048.numel_eq y := by
  generalize hx : (Shape.reshapeEquiv squeezes_S1x256x2048_S256x2048.numel_eq y : S1x256x2048.Idx) = x
  have he : (hBlk e m).view.emb y = (Rect.unit (s := S16x2048x2048) ![e.val, 256 * m.val, 0] S1x256x2048.size (inbH e.isLt m.isLt)).emb x := by
    subst hx; rfl
  rw [he]
  have h0 : (x 0).val < 1 := (x 0).isLt
  have h1 : (x 1).val < 256 := (x 1).isLt
  funext a
  fin_cases a
  · refine Fin.ext ?_; show 0 = (x 0).val; omega
  · refine Fin.ext ?_
    have : ((Rect.unit (s := S16x2048x2048) ![e.val, 256 * m.val, 0] S1x256x2048.size (inbH e.isLt m.isLt)).emb x 1).val = 256 * m.val + 1 * (x 1).val := rfl
    show ((Rect.unit (s := S16x2048x2048) ![e.val, 256 * m.val, 0] S1x256x2048.size (inbH e.isLt m.isLt)).emb x 1).val % 256 = (x 1).val
    rw [this]; omega
  · refine Fin.ext ?_
    have : ((Rect.unit (s := S16x2048x2048) ![e.val, 256 * m.val, 0] S1x256x2048.size (inbH e.isLt m.isLt)).emb x 2).val = 0 + 1 * (x 2).val := rfl
    show ((Rect.unit (s := S16x2048x2048) ![e.val, 256 * m.val, 0] S1x256x2048.size (inbH e.isLt m.isLt)).emb x 2).val = (x 2).val
    rw [this]; omega

end Cert.KernelIdeal.Hand

end
-- ==== Proof.Ideal.Spec.lean ====
/-
  What the kernel leaves: the count of every expert, and block `m` of expert `e`'s Hessian — the masked product if the
  expert has rows, zeros if it has none, and what was there before if its range of rows ends before it starts.
-/
module

public import proofs.«01_k».proof.Proof.Ideal.Blocks
public import Mathlib.Data.Nat.Count

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The offsets, read by number -/

/-- Where offset `n` is. -/
def at17 (n : ℕ) : S17.Idx
  | ⟨0, _⟩ => (⟨n % 17, Nat.mod_lt _ (by decide)⟩ : Fin 17)
/-- Where count `n` is. -/
def at16 (n : ℕ) : S16.Idx
  | ⟨0, _⟩ => (⟨n % 16, Nat.mod_lt _ (by decide)⟩ : Fin 16)
abbrev loW (fo : S17.Idx → BitVec 32) (e : ℕ) : BitVec 32 := fo (at17 e)
abbrev hiW (fo : S17.Idx → BitVec 32) (e : ℕ) : BitVec 32 := fo (at17 (e + 1))
/-- The expert's count. -/
abbrev cntW (fo : S17.Idx → BitVec 32) (e : ℕ) : BitVec 32 := Scalar.subi (hiW fo e) (loW fo e)
/-- The expert has as many rows as zero. -/
def isEmp (fo : S17.Idx → BitVec 32) (e : ℕ) : Prop := Scalar.cmpi .eq (cntW fo e) 0#32 = 1#1
/-- The expert's range of rows is not empty. -/
def isNe (fo : S17.Idx → BitVec 32) (e : ℕ) : Prop := Scalar.cmpi .sgt (hiW fo e) (loW fo e) = 1#1
instance (fo : S17.Idx → BitVec 32) : DecidablePred (isEmp fo) := fun e => inferInstanceAs (Decidable (_ = _))
instance (fo : S17.Idx → BitVec 32) : DecidablePred (isNe fo) := fun e => inferInstanceAs (Decidable (_ = _))

theorem one_of (b : Bool) (h : BitVec.ofBool b = 1#1) : b = true := by cases b <;> simp_all

theorem not_ne_of_emp {fo : S17.Idx → BitVec 32} {e : ℕ} (h : isEmp fo e) : ¬ isNe fo e := by
  have key : ∀ a b : BitVec 32, Scalar.cmpi .eq (Scalar.subi a b) 0#32 = 1#1 → ¬ Scalar.cmpi .sgt a b = 1#1 := by
    intro a b h1 h2
    have h3 : (a - b == 0#32) = true := one_of _ h1
    have h4 : b.slt a = true := one_of _ h2
    have h5 : a - b = 0#32 := by simpa using h3
    have h6 : a = b := by bv_omega
    subst h6
    simp [BitVec.slt] at h4
  exact key _ _ h

/-- Expert `e`, block `m`, by number. -/
abbrev fE (e : ℕ) : Fin 16 := Fin.ofNat 16 e
abbrev fM (m : ℕ) : Fin 8 := Fin.ofNat 8 m
theorem fE_val {e : ℕ} (h : e < 16) : (fE e).val = e := Nat.mod_eq_of_lt h
theorem fM_val {m : ℕ} (h : m < 8) : (fM m).val = m := Nat.mod_eq_of_lt h

/-- The expert that is number `q` among those of a class. -/
def expOf (p : ℕ → Prop) [DecidablePred p] (q : ℕ) : ℕ := Classical.epsilon fun e => p e ∧ Nat.count p e = q
theorem expOf_count {p : ℕ → Prop} [DecidablePred p] {e : ℕ} (h : p e) : expOf p (Nat.count p e) = e := by
  have := Classical.epsilon_spec (p := fun e' => p e' ∧ Nat.count p e' = Nat.count p e) ⟨e, h, rfl⟩
  exact Nat.count_injective this.1 h this.2

/-! ## The words the body reads and writes -/

theorem read_off17 (fo : S17.Idx → BitVec 32) {off : Fin 1 → ℕ} (h : ∀ a, off a + S1.size a ≤ S17.size a) (n : ℕ) (hn : n < 17) (ho : off = ![n])
    (x : (Rect.unit (s := S17) off S1.size h).shape.Idx) :
    (mO.access (Rect.unit (s := S17) off S1.size h)).read (Elt F) fo x = fo (at17 n) := by
  subst ho
  show fo _ = fo _
  congr 1
  funext a
  refine Fin.ext ?_
  have hx : (x 0).val < 1 := (x 0).isLt
  fin_cases a
  show n + 1 * (x 0).val = n % 17
  omega

/-- The counts' buffer once the counts of the experts below `k` are stored. -/
def cntC (fo : S17.Idx → BitVec 32) (fc : S16.Idx → BitVec 32) (k : ℕ) : S16.Idx → BitVec 32 :=
  fun i => if (i 0).val < k then cntW fo (i 0).val else fc i

theorem write_cnt (fo : S17.Idx → BitVec 32) (fc : S16.Idx → BitVec 32) {off : Fin 1 → ℕ} (h : ∀ a, off a + S1.size a ≤ S16.size a) (k : ℕ) (ho : off = ![k]) :
    (mC.access (Rect.unit (s := S16) off S1.size h)).write (Elt F) (cntC fo fc k) (fun _ => cntW fo k) Finset.univ = cntC fo fc (k + 1) := by
  subst ho
  have hk : k < 16 := by have := h 0; change k + 1 ≤ 16 at this; omega
  funext i
  by_cases hi : (i 0).val = k
  · have : i = (mC.access (Rect.unit (s := S16) ![k] S1.size h)).emb (fun a => match a with | ⟨0, _⟩ => (⟨0, Nat.one_pos⟩ : Fin 1)) := by
      funext a; refine Fin.ext ?_; fin_cases a
      show (i 0).val = k + 1 * 0; omega
    have e1 : cntC fo fc (k + 1) i = cntW fo k := by unfold cntC; rw [if_pos (by omega), hi]
    rw [e1, this]
    exact View.write_emb_of_mem _ _ (Finset.mem_univ _)
  · rw [View.write_of_not_mem]
    · unfold cntC
      by_cases h' : (i 0).val < k
      · rw [if_pos h', if_pos (by omega)]
      · rw [if_neg h', if_neg (by omega)]
    · intro hm
      rw [View.setOn_univ] at hm
      have hm2 : i ∈ (Rect.unit (s := S16) ![k] S1.size h).set := by
        rw [← View.set_slice_whole cc0_stg1_0 (Rect.unit (s := S16) ![k] S1.size h)]; exact hm
      have := Rect.mem_set_unit.mp hm2 0
      change k ≤ (i 0).val ∧ (i 0).val < k + 1 at this
      omega

theorem read_cnt (fo : S17.Idx → BitVec 32) (fc : S16.Idx → BitVec 32) (k : ℕ) (hk : k < 16) {off : Fin 1 → ℕ} (h : ∀ a, off a + S1.size a ≤ S16.size a) (ho : off = ![k])
    (x : (Rect.unit (s := S16) off S1.size h).shape.Idx) :
    (mC.access (Rect.unit (s := S16) off S1.size h)).read (Elt F) (cntC fo fc k) x = cntC fo fc k (at16 k) := by
  subst ho
  show cntC fo fc k _ = cntC fo fc k _
  congr 1
  funext a
  refine Fin.ext ?_
  have hx : (x 0).val < 1 := (x 0).isLt
  fin_cases a
  show k + 1 * (x 0).val = k % 16
  omega

/-! ## The Hessian -/

/-- The iota over the rows' numbers. -/
abbrev rowIota : IVec S1x256 32 := iota .tc S1x256 32 [1] iota_S1x256_d1_w32
/-- Block `m` of the transposed rows. -/
def xtBlk (fXt : S2048x256.Idx → Elt F .bf16) (m : Fin 8) : Vec F S256x256 .bf16 :=
  (mXt.access (Rect.unit (s := S2048x256) ![256 * m.val, 0] S256x256.size (inbXt m.isLt))).read (Elt F) fXt
/-- Block `m` of expert `e`'s product, as it is stored in a slot of the ring. -/
def blkV (fo : S17.Idx → BitVec 32) (fX : S256x2048.Idx → Elt F .bf16) (fXt : S2048x256.Idx → Elt F .bf16) (e : ℕ) (m : Fin 8) : FVec F S1x256x2048 .f32 :=
  k0_pay2 rowIota (loW fo e) (hiW fo e) (xtBlk fXt m) fX
/-- The Hessian at the end, `f0` its contents at the launch. -/
def hFin (fo : S17.Idx → BitVec 32) (fX : S256x2048.Idx → Elt F .bf16) (fXt : S2048x256.Idx → Elt F .bf16) (f0 : HIdx → Elt F .f32) : HIdx → Elt F .f32 :=
  fun i => if isNe fo (i 0).val then blkV fo fX fXt (i 0).val (fM ((i 1).val / 256)) (inBlk i)
    else if isEmp fo (i 0).val then (k0_pay4 (F := F)) (fun a => match a with
      | ⟨0, _⟩ => (⟨0, by decide⟩ : Fin 256)
      | ⟨1, _⟩ => (⟨0, by decide⟩ : Fin 2048))
    else f0 i

theorem pay4_const (x y : S256x2048.Idx) : k0_pay4 (F := F) x = k0_pay4 (F := F) y := rfl

/-- Where element `y` of a block is in the Hessian. -/
abbrev hEmb (e : Fin 16) (m : Fin 8) (y : S256x2048.Idx) : HIdx := (hBlk e m).view.emb y
theorem emb_coords (e : Fin 16) (m : Fin 8) (y : S256x2048.Idx) :
    (hEmb e m y 0).val = e.val ∧ (hEmb e m y 1).val / 256 = m.val :=
  mem_hset.mp ((hBlk e m).view.emb_mem_set y)

section
variable {fo : S17.Idx → BitVec 32} {fX : S256x2048.Idx → Elt F .bf16} {fXt : S2048x256.Idx → Elt F .bf16} {f0 : HIdx → Elt F .f32}

/-- A zero block delivered is the Hessian's block of an empty expert. -/
theorem hFin_emp {e : ℕ} (he : e < 16) (h : isEmp fo e) (m : Fin 8) (g : HIdx → Elt F .f32) (w : S256x2048.Idx → Elt F .f32) (hw : w = k0_pay4 (F := F)) :
    ∀ i ∈ hset (fE e) m, (hBlk (fE e) m).view.write (Elt F) g w Finset.univ i = hFin fo fX fXt f0 i := by
  intro i hi
  obtain ⟨y, -, hy⟩ := Finset.mem_map.mp hi
  change hEmb (fE e) m y = i at hy
  subst hy
  refine (View.write_emb_of_mem _ _ (Finset.mem_univ _)).trans ?_
  have hc := emb_coords (fE e) m y
  unfold hFin
  rw [hc.1, fE_val he, if_neg (not_ne_of_emp h), if_pos h]
  subst hw
  exact pay4_const _ _

/-- A slot of the ring delivered is the Hessian's block of an expert that has rows. -/
theorem hFin_ne {e : ℕ} (he : e < 16) (h : isNe fo e) {j : ℕ} (hj : j < 8) (g : HIdx → Elt F .f32) (w : S256x2048.Idx → Elt F .f32)
    (hw : ∀ y, w y = blkV fo fX fXt e (fM j) (Shape.reshapeEquiv squeezes_S1x256x2048_S256x2048.numel_eq y)) :
    ∀ i ∈ hset (fE e) (fM j), (hBlk (fE e) (fM j)).view.write (Elt F) g w Finset.univ i = hFin fo fX fXt f0 i := by
  intro i hi
  obtain ⟨y, -, hy⟩ := Finset.mem_map.mp hi
  change hEmb (fE e) (fM j) y = i at hy
  subst hy
  refine (View.write_emb_of_mem _ _ (Finset.mem_univ _)).trans ?_
  have hc := emb_coords (fE e) (fM j) y
  unfold hFin
  rw [hc.1, fE_val he, if_pos h, hc.2, show inBlk (hEmb (fE e) (fM j) y) = _ from inBlk_emb _ _ y]
  rw [show fM (fM j).val = fM j from Fin.ext (by rw [fM_val (fM j).isLt])]
  exact hw y
end

end Cert.KernelIdeal.Hand

end
-- ==== Proof.Ideal.Value.lean ====
/-
  The body's arithmetic over the extended reals, element by element: the dequantised rows, and a block of the masked product.
-/
module

public import proofs.«01_k».proof.Proof.Ideal.Spec
public import Idealize.ShloMosaic.Lib.Pointwise
public import Idealize.ShloMosaic.Lib.Bf16Pair

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

theorem pay5_at (v14 : Vec Ideal S1x256 .f32) (v20 : Vec Ideal S256x2048 .fp8e4m3) (r : Fin 256) (c : Fin 2048) :
    k0_pay5 (F := Ideal) v14 v20 (ix2 r c) = v20 (ix2 r c) * v14 (ix2 0 r) := by
  pointwise [k0_pay5]

theorem pay6_at (v14 : Vec Ideal S1x256 .f32) (v20 : Vec Ideal S256x2048 .fp8e4m3) (r : Fin 256) (c : Fin 2048) :
    k0_pay6 (F := Ideal) v14 v20 (ix2 r c) = v20 (ix2 r c) * v14 (ix2 0 r) := by
  pointwise [k0_pay6, k0_pay5]

theorem pay7_at (v14 : Vec Ideal S1x256 .f32) (v20 : Vec Ideal S256x2048 .fp8e4m3) (r : Fin 256) (c : Fin 2048) :
    k0_pay7 (F := Ideal) v14 v20 (ix2 c r) = v20 (ix2 r c) * v14 (ix2 0 r) := by
  pointwise [k0_pay7, k0_pay5]

/-- Row `k` is in the range from `lo` to `hi`. -/
abbrev keepBit (lo hi : BitVec 32) (k : ℕ) : BitVec 1 :=
  IntOp.andi (IntOp.cmpi .sge (BitVec.ofNat 32 k) lo) (IntOp.cmpi .slt (BitVec.ofNat 32 k) hi)

/-- A mask of all ones or zero, tested against zero, is the bit it came from. -/
theorem keep_ne (b : BitVec 1) : IntOp.cmpi .ne (Scalar.select b 4294967295#32 0#32) 0#32 = b := by
  revert b; decide

theorem select_mul (b : BitVec 1) (x y : EReal) : Scalar.select b x 0 * y = Scalar.select b (x * y) 0 := by
  rcases BitVec.eq_zero_or_eq_one b with rfl | rfl
  · exact zero_mul y
  · rfl

theorem pay2_at (lo hi : BitVec 32) (v74 : Vec Ideal S256x256 .bf16) (v83 : Vec Ideal S256x2048 .bf16) (r : Fin 256) (c : Fin 2048) :
    k0_pay2 (F := Ideal) rowIota lo hi v74 v83 (ix3 0 r c)
      = ∑ k : Fin 256, Scalar.select (keepBit lo hi k.val) (v74 (ix2 r k) * v83 (ix2 k c)) 0 := by
  pointwise [k0_pay2, k0_pay1]
  refine Finset.sum_congr rfl fun x _ => ?_
  rw [keep_ne]
  by_cases h : (r : ℕ) % 2 = 0
  · rw [if_pos h, show (⟨2 * ((r : ℕ) / 2), by omega⟩ : Fin 256) = r from Fin.ext (by show 2 * ((r : ℕ) / 2) = r; omega)]
    exact select_mul _ _ _
  · rw [if_neg h, show (⟨2 * ((r : ℕ) / 2) + 1, by omega⟩ : Fin 256) = r from Fin.ext (by show 2 * ((r : ℕ) / 2) + 1 = r; omega)]
    exact select_mul _ _ _

end Cert.KernelIdeal.Hand

end
-- ==== Proof.Ideal.ZeroLoop.lean ====
/-
  The loop over the experts that stores the counts and starts, for an expert without rows, the eight transfers of zeros
  into its Hessian: one batch of transfers on one cell, eight for each such expert.
-/
module

public import proofs.«01_k».proof.Proof.Ideal.Spec
public import proofs.«01_k».proof.Proof.Gen.KernelIdeal.Skeleton

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ
/-- Where the transfers' counters are in it. -/
abbrev EC : UEmb Counters 𝕄 := countersEmb (U := Pipeline.UD sig nD τ)

/-- A hand rule leaves its continuation applied: the next statement is `k a`. -/
theorem ret_bind' {E : Type → Type} {α β : Type} (a : α) (k : α → Prog E β) : (Prog.ret a).bind k = k a := rfl

/-! ## Products over numbers -/

theorem bigSep_Ico_head {M : Type _} [URA M] {a b : ℕ} (h : a < b) (Φ : ℕ → sProp M) :
    bigSep (Finset.Ico a b) Φ = iprop(Φ a ∗ bigSep (Finset.Ico (a + 1) b) Φ) := by
  rw [show Finset.Ico a b = insert a (Finset.Ico (a + 1) b) by ext x; simp only [Finset.mem_insert, Finset.mem_Ico]; omega,
    bigSep_insert (by simp)]; rfl
theorem bigSep_Ico_nil {M : Type _} [URA M] {a b : ℕ} (h : b ≤ a) (Φ : ℕ → sProp M) : bigSep (Finset.Ico a b) Φ = iprop(emp) := by
  rw [Finset.Ico_eq_empty (by omega), bigSep_empty]; rfl
theorem bigSep_range_succ {M : Type _} [URA M] (k : ℕ) (Φ : ℕ → sProp M) :
    bigSep (Finset.range (k + 1)) Φ = iprop(Φ k ∗ bigSep (Finset.range k) Φ) := by
  rw [Finset.range_add_one, bigSep_insert (by simp)]; rfl

/-! ## What is held -/

section
variable (c : Dev nD)

/-- Block `m` of expert `e`'s Hessian, at `f`. -/
abbrev hPt (e : Fin 16) (m : Fin 8) (f : HIdx → Elt F .f32) : sProp 𝕄 :=
  (hBlk e m).view.loc (c : Thread nD τ) ↦[(hBlk e m).view.set]{fullShare} f
instance hPt_storable (e : Fin 16) (m : Fin 8) (f : HIdx → Elt F .f32) : BI.Storable (upEmb : UEmb _ 𝕄) (hPt (F := F) c e m f) := by
  have key : ∀ (S : Finset HIdx) (g : Buf (Elt F) (mH.view.loc (c : Thread nD τ))),
      BI.Storable (upEmb : UEmb _ 𝕄) (mH.view.loc (c : Thread nD τ) ↦[S]{fullShare} g) := fun _ _ => inferInstance
  exact key _ _
/-- The eight blocks of an expert's Hessian. -/
abbrev row (f : HIdx → Elt F .f32) (e : ℕ) : sProp 𝕄 := bigSep (Finset.Ico 0 8) fun m => hPt c (fE e) (fM m) f
/-- The zeros, under the read token of one transfer. -/
abbrev zTok (t : ℕ) : sProp 𝕄 :=
  mZ.view.loc (c : Thread nD τ) ↦[mZ.view.set]{Transfers.shareTokN fullShare t} (k0_pay4 (F := F))

/-- What the batch's transfer `t` delivers: its block of zeros, and its token back. -/
def zD (fo : S17.Idx → BitVec 32) (hf : HIdx → Elt F .f32) (n : ℕ) (t : Fin n) : sProp 𝕄 :=
  iprop(hPt c (fE (expOf (isEmp fo) (t.val / 8))) (fM (t.val % 8)) hf ∗ zTok (F := F) c t.val)
instance zD_storable (fo : S17.Idx → BitVec 32) (hf : HIdx → Elt F .f32) (n : ℕ) (t : Fin n) :
    BI.Storable (upEmb : UEmb _ 𝕄) (zD c fo hf n t) := by
  have h1 : BI.Storable (upEmb : UEmb _ 𝕄) (zTok (F := F) c t.val) := inferInstance
  have h2 := hPt_storable (F := F) c (fE (expOf (isEmp fo) (t.val / 8))) (fM (t.val % 8)) hf
  unfold zD; infer_instance

abbrev zBatch (fo : S17.Idx → BitVec 32) (hf : HIdx → Elt F .f32) (n j u : ℕ) : sProp 𝕄 :=
  Transfers.Batch (EC (F := F)) (c : Thread nD τ) (.dma cc0_scratch7.sem) () NN (zD c fo hf n) j u

/-- A run of the core. -/
abbrev run {α : Type} (p : Prog (TpuEff nD τ sig (Elt F) Λ₀ .tc) α) (Q : α → sProp 𝕄) : sProp 𝕄 :=
  wp frame (wpE (defs₀ (F := F)) Variants.none (c : Thread nD τ) none) Set.univ p Q

/-! ## One trip of the inner loop -/

/-- Before trip `j` of expert `e`'s eight: the batch so far, the tokens and the expert's blocks from there on. -/
def inv2 (fo : S17.Idx → BitVec 32) (hf f0 : HIdx → Elt F .f32) (n q e j : ℕ) (_ : Unit) : sProp 𝕄 :=
  iprop(zBatch c fo hf n (8 * q + j) 0 ∗ bigSep (Finset.Ico (8 * q + j) n) (zTok c) ∗ bigSep (Finset.Ico j 8) fun m => hPt c (fE e) (fM m) f0)

def t2At (off : Fin 3 → ℕ) (h : ∀ a, off a + S1x256x2048.size a ≤ S16x2048x2048.size a) : Prog (TpuEff nD τ sig (Elt F) Λ₀ .tc) Unit := do
  Prog.lift (.enqueueDma mZ (.here ((mH.slice (Rect.unit (s := S16x2048x2048) off S1x256x2048.size h) (fun _ => rfl)).squeeze S256x2048 squeezes_S1x256x2048_S256x2048))
    (.dma cc0_scratch7.sem) (Memref.isWhole_whole _).wordExact ((View.wordExact_bits rfl).reshape _ _) ⟨Or.inl rfl, trivial⟩)
  pure ⟨⟩

theorem t2_run (fo : S17.Idx → BitVec 32) (fX : S256x2048.Idx → Elt F .bf16) (fXt : S2048x256.Idx → Elt F .bf16) (f0 : HIdx → Elt F .f32)
    (n e j : ℕ) (he : e < 16) (hemp : isEmp fo e) (hj : j < 8) (hn : 8 * Nat.count (isEmp fo) e + 8 ≤ n)
    (off : Fin 3 → ℕ) (h : ∀ a, off a + S1x256x2048.size a ≤ S16x2048x2048.size a) (ho : off = ![e, 256 * j, 0]) :
    inv2 c fo (hFin fo fX fXt f0) f0 n (Nat.count (isEmp fo) e) e j ⟨⟩
      ⊢ run c (t2At (F := F) off h) (inv2 c fo (hFin fo fX fXt f0) f0 n (Nat.count (isEmp fo) e) e (j + 1)) := by
  have ho' : off = ![(fE e).val, 256 * (fM j).val, 0] := by rw [fE_val he, fM_val hj]; exact ho
  subst ho'
  unfold inv2
  rw [bigSep_Ico_head (a := 8 * _ + j) (by omega), bigSep_Ico_head (a := j) hj]
  iintro ⟨HB, ⟨HT, HTs⟩, ⟨HH, HHs⟩⟩
  unfold t2At
  iapply (Transfers.wp_dmaBatch (EC (F := F)) Variants.none (c : Thread nD τ) none (src := mZ) (dst := hBlk (fE e) (fM j)) () NN (hBlk_amount _ _ _) subset_rfl
    (D := zD c fo (hFin fo fX fXt f0) n) (j := 8 * Nat.count (isEmp fo) e + j) (u := 0) (by omega) (Nat.zero_le _) (by
      unfold zD
      dsimp only
      rw [show (8 * Nat.count (isEmp fo) e + j) / 8 = Nat.count (isEmp fo) e by omega, show (8 * Nat.count (isEmp fo) e + j) % 8 = j by omega,
        expOf_count hemp]
      exact sep_mono_l (Entails.of_eq (pointsTo_congr (hFin_emp he hemp (fM j) f0 _ (by rfl)))))) $$ [HT HH HB]
  · isplitl [HT]; · iexact HT
    isplitl [HH]; · iexact HH
    iexact HB
  iintro HB
  simp only [ret_bind']
  sl_step
  rw [show 8 * Nat.count (isEmp fo) e + (j + 1) = 8 * Nat.count (isEmp fo) e + j + 1 by omega]
  isplitl [HB]; · iexact HB
  isplitl [HTs]; · iexact HTs
  iexact HHs

/-! ## The loops on the body's operands -/

abbrev t2B (k : Fin k0_t1_loop.trips) (v47 v49 : BitVec 32) (hw : k0_chk1 k v47 v49) :=
  k0_t2_body (F := F) mO (Memref.isWhole_whole _) mA1 (Memref.isWhole_whole _) mA2 (Memref.isWhole_whole _) mH (Memref.isWhole_whole _) mC (Memref.isWhole_whole _)
    mCd (Memref.isWhole_whole _) mSc (Memref.isWhole_whole _) mX (Memref.isWhole_whole _) mXt (Memref.isWhole_whole _) mZ (Memref.isWhole_whole _) mR (Memref.isWhole_whole _)
    cc0_scratch6 cc0_scratch7 cc0_scratch8 k v47 v49 hw
abbrev t3B (k : Fin k0_t1_loop.trips) (v47 v49 : BitVec 32) (hw : k0_chk1 k v47 v49) :=
  k0_t3_body (F := F) mO (Memref.isWhole_whole _) mA1 (Memref.isWhole_whole _) mA2 (Memref.isWhole_whole _) mH (Memref.isWhole_whole _) mC (Memref.isWhole_whole _)
    mCd (Memref.isWhole_whole _) mSc (Memref.isWhole_whole _) mX (Memref.isWhole_whole _) mXt (Memref.isWhole_whole _) mZ (Memref.isWhole_whole _) mR (Memref.isWhole_whole _)
    cc0_scratch6 cc0_scratch7 cc0_scratch8 k v47 v49 hw
abbrev t1B := k0_t1_body (F := F) mO (Memref.isWhole_whole _) mA1 (Memref.isWhole_whole _) mA2 (Memref.isWhole_whole _) mH (Memref.isWhole_whole _) mC (Memref.isWhole_whole _)
    mCd (Memref.isWhole_whole _) mSc (Memref.isWhole_whole _) mX (Memref.isWhole_whole _) mXt (Memref.isWhole_whole _) mZ (Memref.isWhole_whole _) mR (Memref.isWhole_whole _)
    cc0_scratch6 cc0_scratch7 cc0_scratch8

/-- The eight transfers of an expert without rows, or no trip at all. -/
theorem t2_loop (fo : S17.Idx → BitVec 32) (fX : S256x2048.Idx → Elt F .bf16) (fXt : S2048x256.Idx → Elt F .bf16) (f0 : HIdx → Elt F .f32)
    (n : ℕ) (k : Fin k0_t1_loop.trips) (hw : k0_chk1 k (hiW fo k.val) (loW fo k.val))
    (hn : isEmp fo k.val → 8 * Nat.count (isEmp fo) k.val + 8 ≤ n)
    {β : Type} (kk : Unit → Prog (TpuEff nD τ sig (Elt F) Λ₀ .tc) β) (Q : β → sProp 𝕄) :
    iprop(zBatch c fo (hFin fo fX fXt f0) n (8 * Nat.count (isEmp fo) k.val) 0 ∗ bigSep (Finset.Ico (8 * Nat.count (isEmp fo) k.val) n) (zTok c)
        ∗ (if isEmp fo k.val then row c f0 k.val else iprop(emp)))
      ⊢ iprop((iprop(zBatch c fo (hFin fo fX fXt f0) n (8 * Nat.count (isEmp fo) (k.val + 1)) 0 ∗ bigSep (Finset.Ico (8 * Nat.count (isEmp fo) (k.val + 1)) n) (zTok c))
            -∗ run c (kk ⟨⟩) Q)
          -∗ run c (Scf.Loop.for (k0_t2_loop (hiW fo k.val) (loW fo k.val)) (k0_t2_ok k _ _ hw) ⟨⟩ (t2B (F := F) k _ _ hw) >>= kk) Q) := by
  have hk := t1_lt k
  by_cases he : isEmp fo k.val
  · rw [if_pos he, Nat.count_succ, if_pos he]
    have ht : (k0_t2_loop (hiW fo k.val) (loW fo k.val)).trips = 8 := by rw [t2_trips]; exact if_pos he
    iintro ⟨HB, HT, HR⟩ HK
    iapply (Scf.wp_for_bind frame (wpE (defs₀ (F := F)) Variants.none (c : Thread nD τ) none) Set.univ _ _ _ (k0_t2_ok k _ _ hw) ⟨⟩
      (t2B (F := F) k _ _ hw) (inv2 c fo (hFin fo fX fXt f0) f0 n (Nat.count (isEmp fo) k.val) k.val)
      (fun j acc => t2_run c fo fX fXt f0 n k.val j.val hk he (t2_lt j) (hn he) _ _ (off4_eq k _ _ j)) (kk := kk)) $$ [HB HT HR] [HK]
    · unfold inv2
      isplitl [HB]; · iexact HB
      isplitl [HT]; · iexact HT
      iexact HR
    rw [show Scf.trips _ _ _ = 8 from ht]
    unfold inv2
    iintro %acc ⟨HB, HT, -⟩
    rw [show 8 * Nat.count (isEmp fo) k.val + 8 = 8 * (Nat.count (isEmp fo) k.val + 1) by omega]
    iapply HK
    isplitl [HB]; · iexact HB
    iexact HT
  · rw [if_neg he, Nat.count_succ, if_neg he]
    have ht : (k0_t2_loop (hiW fo k.val) (loW fo k.val)).trips = 0 := by rw [t2_trips]; exact if_neg he
    iintro ⟨HB, HT, -⟩ HK
    iapply (Scf.wp_for_bind frame (wpE (defs₀ (F := F)) Variants.none (c : Thread nD τ) none) Set.univ _ _ _ (k0_t2_ok k _ _ hw) ⟨⟩
      (t2B (F := F) k _ _ hw) (fun _ _ => iprop(emp)) (fun j acc => absurd (lt_of_lt_of_eq j.isLt ht) (Nat.not_lt_zero _)) (kk := kk)) $$ [] [HB HT HK]
    · iempintro
    iintro %acc -
    iapply HK
    isplitl [HB]; · iexact HB
    iexact HT

/-- A loop without trips. -/
theorem no_trips {w : ℕ} {σ β : Type} (lb ub st : BitVec w) (hok : Scf.OK lb ub st) (init : σ) (body : Fin (Scf.trips lb ub st) → σ → Prog (TpuEff nD τ sig (Elt F) Λ₀ .tc) σ)
    (h : Scf.trips lb ub st = 0) (kk : σ → Prog (TpuEff nD τ sig (Elt F) Λ₀ .tc) β) (Q : β → sProp 𝕄) :
    run c (kk init) Q ⊢ run c (Scf.for lb ub st hok init body >>= kk) Q := by
  iintro HK
  iapply (Scf.wp_for_bind frame (wpE (defs₀ (F := F)) Variants.none (c : Thread nD τ) none) Set.univ lb ub st hok init body
    (fun _ a => iprop(⌜a = init⌝)) (fun j acc => absurd (lt_of_lt_of_eq j.isLt h) (Nat.not_lt_zero _)) (kk := kk)) $$ [] [HK]
  · ipureintro; rfl
  iintro %acc %ha
  subst ha
  iexact HK

/-! ## The scalars -/

abbrev oPt (fo : S17.Idx → BitVec 32) : sProp 𝕄 := mO.view.loc (c : Thread nD τ) ↦{fullShare} fo
abbrev cPt (fc : S16.Idx → BitVec 32) : sProp 𝕄 := mC.view.loc (c : Thread nD τ) ↦{fullShare} fc

theorem wp_word {s : Shape} (m : Memref sig .tc .smem s .i32) (r : Rect s) (h1 : r.shape.numel = 1) (hp : EltTy.packing .i32 = 1)
    (f : Buf (Elt F) (m.view.loc (c : Thread nD τ)))
    {β : Type} (kk : Elt F .i32 → Prog (TpuEff nD τ sig (Elt F) Λ₀ .tc) β) (Q : β → sProp 𝕄) (w : Elt F .i32)
    (hw : ∀ x, (m.access r).read (Elt F) f x = w) :
    (m.view.loc (c : Thread nD τ) ↦{fullShare} f) ⊢ iprop(((m.view.loc (c : Thread nD τ) ↦{fullShare} f) -∗ run c (kk w) Q)
      -∗ run c (smemLoad m r h1 hp >>= kk) Q) := by
  have := wp_smemLoadElt (Name := ℕ) (Lvl := ℕ) (Ix := Unit) (U := Pipeline.UD sig nD τ) (defs := defs₀ (F := F)) (Γ := .empty) Variants.none (c : Thread nD τ) none Set.univ (m := m) (r := r) (hw := View.loads_smem_one hp h1)
    (x := Shape.Idx.first (h1.symm ▸ Nat.one_pos)) (k := kk) (f := f) (S := Finset.univ) (q := fullShare) (Q := Q) (Finset.subset_univ _)
  rw [hw] at this
  exact this

theorem wp_st {cs : CoreSpace} {s : Shape} {e : EltTy} (m : Memref sig .tc cs s e) (r : Rect s) (w : r.shape.Idx → Elt F e) (hx : (m.access r).Stores Finset.univ)
    (hm : Finset.univ = (Finset.univ : Finset r.shape.Idx) ∨ ∀ a, r.stride a = 1)
    (S : Finset (Idx (m.view.loc (c : Thread nD τ)))) (f : Buf (Elt F) (m.view.loc (c : Thread nD τ))) (hS : (m.access r).setOn Finset.univ ⊆ S)
    {β : Type} (kk : PUnit → Prog (TpuEff nD τ sig (Elt F) Λ₀ .tc) β) (Q : β → sProp 𝕄) :
    (m.view.loc (c : Thread nD τ) ↦[S]{fullShare} f)
      ⊢ iprop(((m.view.loc (c : Thread nD τ) ↦[S]{fullShare} (m.access r).write (Elt F) f w Finset.univ) -∗ run c (kk ⟨⟩) Q)
      -∗ run c (Prog.lift (.store m r w Finset.univ hx hm) >>= kk) Q) :=
  wp_store (Name := ℕ) (Lvl := ℕ) (Ix := Unit) (U := Pipeline.UD sig nD τ) (defs := defs₀ (F := F)) (Γ := .empty) Variants.none (c : Thread nD τ) none Set.univ (m := m) (r := r)
    (k := kk) (f := f) (S := S) (Q := Q) hS

theorem wp_ld {cs : CoreSpace} {s : Shape} {e : EltTy} (m : Memref sig .tc cs s e) (r : Rect s) (hl : m.view.LoadsAt r.toLoadRect)
    (S : Finset (Idx (m.view.loc (c : Thread nD τ)))) (q : PosShare TreeShare) (f : Buf (Elt F) (m.view.loc (c : Thread nD τ))) (hS : (m.access r).set ⊆ S)
    {β : Type} (kk : (r.shape.Idx → Elt F e) → Prog (TpuEff nD τ sig (Elt F) Λ₀ .tc) β) (Q : β → sProp 𝕄) :
    (m.view.loc (c : Thread nD τ) ↦[S]{q} f)
      ⊢ iprop(((m.view.loc (c : Thread nD τ) ↦[S]{q} f) -∗ run c (kk ((m.access r).read (Elt F) f)) Q)
      -∗ run c (Prog.lift (.load m r.toLoadRect hl) >>= kk) Q) :=
  wp_load_rect (Name := ℕ) (Lvl := ℕ) (Ix := Unit) (U := Pipeline.UD sig nD τ) (defs := defs₀ (F := F)) (Γ := .empty) Variants.none (c : Thread nD τ) none Set.univ (m := m) (r := r)
    (k := kk) (f := f) (S := S) (Q := Q) hS

theorem wp_ldU {cs : CoreSpace} {s : Shape} {e : EltTy} (m : Memref sig .tc cs s e) (r : Rect s) (hl : m.view.LoadsAt r.toLoadRect)
    (q : PosShare TreeShare) (f : Buf (Elt F) (m.view.loc (c : Thread nD τ)))
    {β : Type} (kk : (r.shape.Idx → Elt F e) → Prog (TpuEff nD τ sig (Elt F) Λ₀ .tc) β) (Q : β → sProp 𝕄) :
    (m.view.loc (c : Thread nD τ) ↦{q} f)
      ⊢ iprop(((m.view.loc (c : Thread nD τ) ↦{q} f) -∗ run c (kk ((m.access r).read (Elt F) f)) Q)
      -∗ run c (Prog.lift (.load m r.toLoadRect hl) >>= kk) Q) :=
  wp_ld c m r hl Finset.univ q f (Finset.subset_univ _) kk Q

theorem wp_stU {cs : CoreSpace} {s : Shape} {e : EltTy} (m : Memref sig .tc cs s e) (r : Rect s) (w : r.shape.Idx → Elt F e) (hx : (m.access r).Stores Finset.univ)
    (hm : Finset.univ = (Finset.univ : Finset r.shape.Idx) ∨ ∀ a, r.stride a = 1)
    (f : Buf (Elt F) (m.view.loc (c : Thread nD τ)))
    {β : Type} (kk : PUnit → Prog (TpuEff nD τ sig (Elt F) Λ₀ .tc) β) (Q : β → sProp 𝕄) :
    (m.view.loc (c : Thread nD τ) ↦{fullShare} f)
      ⊢ iprop(((m.view.loc (c : Thread nD τ) ↦{fullShare} (m.access r).write (Elt F) f w Finset.univ) -∗ run c (kk ⟨⟩) Q)
      -∗ run c (Prog.lift (.store m r w Finset.univ hx hm) >>= kk) Q) :=
  wp_st c m r w hx hm Finset.univ f (Finset.subset_univ _) kk Q

theorem wp_offs (fo : S17.Idx → BitVec 32) {off : Fin 1 → ℕ} (h : ∀ a, off a + S1.size a ≤ S17.size a) (n : ℕ) (hn : n < 17) (ho : off = ![n])
    {β : Type} (kk : Elt F .i32 → Prog (TpuEff nD τ sig (Elt F) Λ₀ .tc) β) (Q : β → sProp 𝕄) :
    oPt (F := F) c fo ⊢ iprop((oPt (F := F) c fo -∗ run c (kk (fo (at17 n))) Q)
      -∗ run c (smemLoad mO (Rect.unit (s := S17) off S1.size h) numel1_S1 rfl >>= kk) Q) :=
  wp_word c mO _ _ _ fo kk Q _ (fun x => read_off17 (F := F) fo h n hn ho x)

/-! ## One trip of the outer loop -/

/-- Before expert `k`: the units counted so far, the offsets, the counts stored so far, the batch so far, the tokens from
    there on, and the rows of the empty experts from `k` on. -/
def inv1 (fo : S17.Idx → BitVec 32) (fc : S16.Idx → BitVec 32) (hf f0 : HIdx → Elt F .f32) (n k : ℕ) (acc : BitVec 32) : sProp 𝕄 :=
  iprop(⌜acc = BitVec.ofNat 32 (8 * Nat.count (isEmp fo) k)⌝ ∗ oPt c fo ∗ cPt c (cntC fo fc k)
    ∗ zBatch c fo hf n (8 * Nat.count (isEmp fo) k) 0 ∗ bigSep (Finset.Ico (8 * Nat.count (isEmp fo) k) n) (zTok c)
    ∗ bigSep (Finset.Ico k 16) fun e => if isEmp fo e then row c f0 e else iprop(emp))

theorem ofNat_add8 (q : ℕ) : Scalar.addi (BitVec.ofNat 32 (8 * q)) 8#32 = BitVec.ofNat 32 (8 * (q + 1)) := by
  show BitVec.ofNat 32 (8 * q) + 8#32 = _
  apply BitVec.eq_of_toNat_eq
  rw [BitVec.toNat_add, BitVec.toNat_ofNat, BitVec.toNat_ofNat, BitVec.toNat_ofNat]
  omega

theorem add_units (fo : S17.Idx → BitVec 32) (k : ℕ) :
    Scalar.addi (BitVec.ofNat 32 (8 * Nat.count (isEmp fo) k)) (Scalar.select (Scalar.cmpi .eq (Scalar.subi (hiW fo k) (loW fo k)) 0#32) 8#32 0#32)
      = BitVec.ofNat 32 (8 * Nat.count (isEmp fo) (k + 1)) := by
  rw [Nat.count_succ]
  by_cases h : isEmp fo k
  · rw [if_pos h, show Scalar.cmpi .eq (Scalar.subi (hiW fo k) (loW fo k)) 0#32 = 1#1 from h]
    exact ofNat_add8 _
  · rw [if_neg h, show Scalar.cmpi .eq (Scalar.subi (hiW fo k) (loW fo k)) 0#32 = 0#1 from (cmp_cases _ _ _).resolve_left h]
    exact BitVec.add_zero _

theorem t1_step (fo : S17.Idx → BitVec 32) (fc : S16.Idx → BitVec 32) (fX : S256x2048.Idx → Elt F .bf16) (fXt : S2048x256.Idx → Elt F .bf16) (f0 : HIdx → Elt F .f32)
    (k : Fin k0_t1_loop.trips) (acc : BitVec 32) :
    inv1 c fo fc (hFin fo fX fXt f0) f0 (8 * Nat.count (isEmp fo) 16) k.val acc
      ⊢ run c (t1B (F := F) k acc) (inv1 c fo fc (hFin fo fX fXt f0) f0 (8 * Nat.count (isEmp fo) 16) (k.val + 1)) := by
  have hk := t1_lt k
  unfold inv1
  rw [bigSep_Ico_head hk]
  iintro ⟨%hacc, HO, HC, HB, HT, HR, HRs⟩
  subst hacc
  unfold t1B k0_t1_body
  dsimp only
  iapply (wp_offs c fo _ (k.val + 1) (by omega) (off1_eq k)) $$ HO
  iintro HO
  iapply (wp_offs c fo _ k.val (by omega) (off2_eq k)) $$ HO
  iintro HO
  iapply (wp_assume (defs := defs₀ (F := F)) Variants.none (c : Thread nD τ) none Set.univ (chk1_all k _ _))
  simp only [ret_bind']
  iapply (wp_word c mC (Rect.unit (s := S16) (k0_off3 k) S1.size (k0_off3_inb k)) _ _ (cntC fo fc k.val) _ _
    (cntC fo fc k.val (at16 k.val)) (read_cnt fo fc k.val hk _ (off3_eq k))) $$ HC
  iintro HC
  iapply (wp_st c mC (Rect.unit (s := S16) (k0_off3 k) S1.size (k0_off3_inb k)) _ _ _ Finset.univ (cntC fo fc k.val) (Finset.subset_univ _)) $$ HC
  rw [write_cnt fo fc _ k.val (off3_eq k)]
  iintro HC
  simp only [ret_bind']
  iapply (t2_loop c fo fX fXt f0 (8 * Nat.count (isEmp fo) 16) k (chk1_all k _ _) (fun h => by
    have h1 : Nat.count (isEmp fo) (k.val + 1) ≤ Nat.count (isEmp fo) 16 := Nat.count_monotone _ (by omega)
    rw [Nat.count_succ, if_pos h] at h1; omega)) $$ [HB HT HR]
  · isplitl [HB]; · iexact HB
    isplitl [HT]; · iexact HT
    iexact HR
  iintro ⟨HB, HT⟩
  iapply (no_trips c _ _ _ (k0_t3_ok k _ _ (chk1_all k _ _)) _ (t3B (F := F) k _ _ (chk1_all k _ _)) (t3_trips _ _))
  unfold run
  sl_step
  isplitr
  · ipureintro
    exact add_units fo k.val
  isplitl [HO]; · iexact HO
  isplitl [HC]; · iexact HC
  isplitl [HB]; · iexact HB
  isplitl [HT]; · iexact HT
  iexact HRs

end

end Cert.KernelIdeal.Hand

end
-- ==== Proof.Ideal.RingLoop.lean ====
/-
  The loop over the experts that writes the products: block `m` of an expert with rows is computed into slot `m` of the
  ring and sent to the Hessian on cell `m`; the slot's transfer of the last expert with rows is waited for before.
-/
module

public import proofs.«01_k».proof.Proof.Ideal.ZeroLoop

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD)

/-! ## What is held -/

/-- Slot `m` of the ring, at `f`. -/
abbrev rPt (m : Fin 8) (f : S8x256x2048.Idx → Elt F .f32) : sProp 𝕄 :=
  (rSlot m).view.loc (c : Thread nD τ) ↦[(rSlot m).view.set]{fullShare} f
theorem rPt_eq (m : Fin 8) (f : S8x256x2048.Idx → Elt F .f32) :
    rPt c m f = (mR.view.loc (c : Thread nD τ) ↦[rset m]{fullShare} f : sProp 𝕄) := rfl
/-- Slot `m` of the ring, at anything. -/
def rAny (m : Fin 8) : sProp 𝕄 := iprop(∃ f, rPt (F := F) c m f)
/-- The rows, and their transpose. -/
abbrev xPt (fX : S256x2048.Idx → Elt F .bf16) : sProp 𝕄 := mX.view.loc (c : Thread nD τ) ↦{fullShare} fX
abbrev xtPt (fXt : S2048x256.Idx → Elt F .bf16) : sProp 𝕄 := mXt.view.loc (c : Thread nD τ) ↦{fullShare} fXt

/-- The last expert with rows below `k`. -/
def last (fo : S17.Idx → BitVec 32) : ℕ → Option ℕ
  | 0 => none
  | k + 1 => if isNe fo k then some k else last fo k

theorem last_iff (fo : S17.Idx → BitVec 32) (k : ℕ) : last fo k ≠ none ↔ 0 < Nat.count (isNe fo) k := by
  induction k with
  | zero => simp [last]
  | succ k ih =>
    rw [Nat.count_succ]
    by_cases h : isNe fo k
    · simp [last, h]
    · simp only [last, if_neg h, ih]; omega

/-- Slot `m` and its cell: free, or in flight to an expert's block `m`. -/
def slotSt (hf : HIdx → Elt F .f32) (o : Option ℕ) (m : Fin 8) : sProp 𝕄 :=
  match o with
  | none => iprop(rAny (F := F) c m ∗ semVal ((c : Thread nD τ), SemLoc.dma (rSem m)) 0)
  | some e => Transfers.Flight (EC (F := F)) (c : Thread nD τ) (.dma (rSem m)) () NN iprop(hPt c (fE e) m hf ∗ rAny c m)
/-- Block `m` of the expert whose transfers were in the ring, delivered. -/
def retB (hf : HIdx → Elt F .f32) (o : Option ℕ) (m : ℕ) : sProp 𝕄 :=
  match o with
  | none => iprop(emp)
  | some e => hPt c (fE e) (fM m) hf

/-! ## One block -/

theorem read_x (fX : S256x2048.Idx → Elt F .bf16) :
    (mX.access (Rect.unit (s := S256x2048) ![0, 0] S256x2048.size inb_S256x2048_S256x2048_0_0)).read (Elt F) fX = fX := by
  funext y
  show fX _ = fX y
  congr 1
  funext a
  refine Fin.ext ?_
  fin_cases a
  · show 0 + 1 * (y 0).val = (y 0).val; omega
  · show 0 + 1 * (y 1).val = (y 1).val; omega

theorem write_at {κ : Kind} {sp : Space} {s : Shape} {e : EltTy} (v : View sig κ sp s e) (f : v.ref.ty.Contents (Elt F)) (w : s.Idx → Elt F e) (x : s.Idx) :
    v.read (Elt F) (v.write (Elt F) f w Finset.univ) x = w x := by rw [View.read_write_univ]

theorem slot_read (m : Fin 8) (h : ∀ a, (![m.val, 0, 0] : Fin 3 → ℕ) a + S1x256x2048.size a ≤ S8x256x2048.size a) (f : S8x256x2048.Idx → Elt F .f32)
    (w : S1x256x2048.Idx → Elt F .f32) (y : S256x2048.Idx) :
    (rSlot m).view.read (Elt F) ((mR.access (Rect.unit (s := S8x256x2048) ![m.val, 0, 0] S1x256x2048.size h)).write (Elt F) f w Finset.univ) y
      = w (Shape.reshapeEquiv squeezes_S1x256x2048_S256x2048.numel_eq y) := by
  exact write_at (mR.access (Rect.unit (s := S8x256x2048) ![m.val, 0, 0] S1x256x2048.size h)) f w (Shape.reshapeEquiv squeezes_S1x256x2048_S256x2048.numel_eq y)

abbrev hAt (off : Fin 3 → ℕ) (h : ∀ a, off a + S1x256x2048.size a ≤ S16x2048x2048.size a) : Memref sig .tc .hbm S256x2048 .f32 :=
  (mH.slice (Rect.unit (s := S16x2048x2048) off S1x256x2048.size h) (fun _ => rfl)).squeeze S256x2048 squeezes_S1x256x2048_S256x2048
abbrev rAt (off : Fin 3 → ℕ) (h : ∀ a, off a + S1x256x2048.size a ≤ S8x256x2048.size a) : Memref sig .tc .vmem S256x2048 .f32 :=
  (mR.slice (Rect.unit (s := S8x256x2048) off S1x256x2048.size h) (fun _ => rfl)).squeeze S256x2048 squeezes_S1x256x2048_S256x2048
abbrev sAt (off : Fin 1 → ℕ) (h : ∀ a, off a + S1.size a ≤ S8.size a) : DmaSem sig :=
  ((cc0_scratch8.slice (Rect.unit (s := S8) off S1.size h)).squeeze S_ squeezes_S1_S_).sem

/-- The wait for a slot's transfer. -/
theorem wait_run (hf : HIdx → Elt F .f32) (e j : ℕ) (hj : j < 8) (W : Waits sig Unit)
    {o8 : Fin 1 → ℕ} (h8 : ∀ a, o8 a + S1.size a ≤ S8.size a) (ho8 : o8 = ![j])
    {o9 : Fin 3 → ℕ} (h9 : ∀ a, o9 a + S1x256x2048.size a ≤ S16x2048x2048.size a)
    {o10 : Fin 3 → ℕ} (h10 : ∀ a, o10 a + S1x256x2048.size a ≤ S8x256x2048.size a)
    (hs : (rAt o10 h10).view.WordExact) (hd : (hAt o9 h9).view.WordExact)
    {β : Type} (kk : PUnit → Prog (TpuEff nD τ sig (Elt F) Λ₀ .tc) β) (Q : β → sProp 𝕄) :
    iprop(slotSt c hf (some e) (fM j) ∗ owes (c : Thread nD τ) 0 W)
      ⊢ iprop((iprop((hPt c (fE e) (fM j) hf ∗ rAny c (fM j)) ∗ semVal ((c : Thread nD τ), SemLoc.dma (rSem (fM j))) 0
            ∗ owes (c : Thread nD τ) 0 (insert (SemLoc.dma (rSem (fM j)), ()) W)) -∗ run c (kk ⟨⟩) Q)
        -∗ run c (Prog.lift (.waitDma2 (sAt o8 h8) (rAt o10 h10) (hAt o9 h9) hs hd) >>= kk) Q) := by
  have ho8' : o8 = ![(fM j).val] := by rw [fM_val hj]; exact ho8
  subst ho8'
  exact Transfers.wp_waitLocal (EC (F := F)) Variants.none (c : Thread nD τ) none (sem := rSem (fM j)) (srcw := rAt o10 h10) (dstw := hAt o9 h9)
    (k := kk) () (N := NN) (by show RefSig.tileCredit S256x2048 .f32 = NN; decide)

/-- The rest of a trip: the product into the slot, and its transfer. -/
def t5Tail (v46 v49 acc : BitVec 32) (o11 : Fin 2 → ℕ) (h11 : ∀ a, o11 a + S256x256.size a ≤ S2048x256.size a)
    (o12 : Fin 3 → ℕ) (h12 : ∀ a, o12 a + S1x256x2048.size a ≤ S8x256x2048.size a)
    (o13 : Fin 1 → ℕ) (h13 : ∀ a, o13 a + S1.size a ≤ S8.size a)
    (o14 : Fin 3 → ℕ) (h14 : ∀ a, o14 a + S1x256x2048.size a ≤ S16x2048x2048.size a)
    (o15 : Fin 3 → ℕ) (h15 : ∀ a, o15 a + S1x256x2048.size a ≤ S8x256x2048.size a) : Prog (TpuEff nD τ sig (Elt F) Λ₀ .tc) (BitVec 32) := do
  let v74 : Vec F S256x256 .bf16 ← Prog.lift (.load mXt (Rect.unit (s := S2048x256) o11 S256x256.size h11).toLoadRect (View.loadsAt_vmem h_S256x256))
  let v83 : Vec F S256x2048 .bf16 ← Prog.lift (.load mX (Rect.unit (s := S256x2048) ![0, 0] S256x2048.size inb_S256x2048_S256x2048_0_0).toLoadRect (View.loadsAt_vmem h_S256x2048))
  let v86 : Vec F S1x256x2048 .f32 ← Prog.lift (.load mR (Rect.unit (s := S8x256x2048) o12 S1x256x2048.size h12).toLoadRect (View.loadsAt_vmem h_S1x256x2048))
  Prog.lift (.store mR (Rect.unit (s := S8x256x2048) o12 S1x256x2048.size h12) (k0_pay2 rowIota v46 v49 v74 v83) Finset.univ (View.stores_vmem_bits_univ h_S1x256x2048 rfl) (.inl rfl))
  Prog.lift (.enqueueDma (rAt o15 h15) (.here (hAt o14 h14)) (.dma (sAt o13 h13)) ((View.wordExact_bits rfl).reshape _ _) ((View.wordExact_bits rfl).reshape _ _) ⟨Or.inl rfl, trivial⟩)
  pure (Scalar.addi acc 1#32)

theorem tail_run (fo : S17.Idx → BitVec 32) (fX : S256x2048.Idx → Elt F .bf16) (fXt : S2048x256.Idx → Elt F .bf16) (f0 : HIdx → Elt F .f32)
    (e j : ℕ) (he : e < 16) (hne : isNe fo e) (hj : j < 8) (acc : BitVec 32)
    {o11 : Fin 2 → ℕ} (h11 : ∀ a, o11 a + S256x256.size a ≤ S2048x256.size a) (ho11 : o11 = ![256 * j, 0])
    {o12 : Fin 3 → ℕ} (h12 : ∀ a, o12 a + S1x256x2048.size a ≤ S8x256x2048.size a) (ho12 : o12 = ![j, 0, 0])
    {o13 : Fin 1 → ℕ} (h13 : ∀ a, o13 a + S1.size a ≤ S8.size a) (ho13 : o13 = ![j])
    {o14 : Fin 3 → ℕ} (h14 : ∀ a, o14 a + S1x256x2048.size a ≤ S16x2048x2048.size a) (ho14 : o14 = ![e, 256 * j, 0])
    {o15 : Fin 3 → ℕ} (h15 : ∀ a, o15 a + S1x256x2048.size a ≤ S8x256x2048.size a) (ho15 : o15 = ![j, 0, 0])
    (Q : BitVec 32 → sProp 𝕄) :
    iprop(xPt c fX ∗ xtPt c fXt ∗ rAny (F := F) c (fM j) ∗ semVal ((c : Thread nD τ), SemLoc.dma (rSem (fM j))) 0 ∗ hPt c (fE e) (fM j) f0)
      ⊢ iprop((iprop(xPt c fX ∗ xtPt c fXt ∗ slotSt c (hFin fo fX fXt f0) (some e) (fM j)) -∗ Q (Scalar.addi acc 1#32))
        -∗ run c (t5Tail (F := F) (loW fo e) (hiW fo e) acc o11 h11 o12 h12 o13 h13 o14 h14 o15 h15) Q) := by
  have ho11' : o11 = ![256 * (fM j).val, 0] := by rw [fM_val hj]; exact ho11
  have ho12' : o12 = ![(fM j).val, 0, 0] := by rw [fM_val hj]; exact ho12
  have ho13' : o13 = ![(fM j).val] := by rw [fM_val hj]; exact ho13
  have ho14' : o14 = ![(fE e).val, 256 * (fM j).val, 0] := by rw [fM_val hj, fE_val he]; exact ho14
  have ho15' : o15 = ![(fM j).val, 0, 0] := by rw [fM_val hj]; exact ho15
  subst ho11' ho12' ho13' ho14' ho15'
  have hset : (mR.access (Rect.unit (s := S8x256x2048) ![(fM j).val, 0, 0] S1x256x2048.size h12)).set = rset (fM j) :=
    (View.set_slice_whole _ _).trans (rset_eq _).symm
  have hsetOn : (mR.access (Rect.unit (s := S8x256x2048) ![(fM j).val, 0, 0] S1x256x2048.size h12)).setOn Finset.univ ⊆ rset (fM j) := by
    rw [View.setOn_univ, hset]
  unfold rAny
  iintro ⟨HX, HXt, ⟨%fr, HR⟩, HS, HH⟩ HK
  unfold t5Tail
  iapply (wp_ldU c mXt _ _ fullShare fXt) $$ HXt
  iintro HXt
  iapply (wp_ldU c mX _ _ fullShare fX) $$ HX
  iintro HX
  rw [read_x]
  ihave HR := (Entails.of_eq (rPt_eq c (fM j) fr)) $$ HR
  iapply (wp_ld c mR _ _ (rset (fM j)) fullShare fr (by rw [hset])) $$ HR
  iintro HR
  iapply (wp_st c mR _ _ _ _ (rset (fM j)) fr hsetOn) $$ HR
  iintro HR
  ihave HR := (Entails.of_eq (rPt_eq c (fM j) _).symm) $$ HR
  iapply (Transfers.wp_dmaLocal (EC (F := F)) Variants.none (c : Thread nD τ) none (src := rSlot (fM j)) (dst := hBlk (fE e) (fM j)) () NN (hBlk_amount _ _ _) (by decide) subset_rfl)
    $$ [HR HH HS]
  · isplitl [HR]; · iexact HR
    isplitl [HH]; · iexact HH
    iexact HS
  iintro HF
  simp only [ret_bind']
  sl_step
  iapply HK
  isplitl [HX]; · iexact HX
  isplitl [HXt]; · iexact HXt
  unfold slotSt
  dsimp only
  iapply (Transfers.Flight_mono (EC (F := F)) (c : Thread nD τ) (sep_mono
    (Entails.of_eq (pointsTo_congr (hFin_ne (fo := fo) (fX := fX) (fXt := fXt) (f0 := f0) he hne hj f0 _ (fun y => slot_read (fM j) h12 fr _ y))))
    (exists_intro (Φ := fun f => rPt (F := F) c (fM j) f) _))) $$ HF

/-! ## One trip of the inner loop -/

abbrev t5B (k : Fin k0_t4_loop.trips) (v46 v49 : BitVec 32) (hw : k0_chk2 k v46 v49) :=
  k0_t5_body (F := F) mO (Memref.isWhole_whole _) mA1 (Memref.isWhole_whole _) mA2 (Memref.isWhole_whole _) mH (Memref.isWhole_whole _) mC (Memref.isWhole_whole _)
    mCd (Memref.isWhole_whole _) mSc (Memref.isWhole_whole _) mX (Memref.isWhole_whole _) mXt (Memref.isWhole_whole _) mZ (Memref.isWhole_whole _) mR (Memref.isWhole_whole _)
    cc0_scratch6 cc0_scratch7 cc0_scratch8 rowIota k v46 v49 hw
abbrev t6B (k : Fin k0_t4_loop.trips) (v46 v49 : BitVec 32) (hw : k0_chk2 k v46 v49) :=
  k0_t6_body (F := F) mO (Memref.isWhole_whole _) mA1 (Memref.isWhole_whole _) mA2 (Memref.isWhole_whole _) mH (Memref.isWhole_whole _) mC (Memref.isWhole_whole _)
    mCd (Memref.isWhole_whole _) mSc (Memref.isWhole_whole _) mX (Memref.isWhole_whole _) mXt (Memref.isWhole_whole _) mZ (Memref.isWhole_whole _) mR (Memref.isWhole_whole _)
    cc0_scratch6 cc0_scratch7 cc0_scratch8 rowIota k v46 v49 hw
abbrev t4B := k0_t4_body (F := F) mO (Memref.isWhole_whole _) mA1 (Memref.isWhole_whole _) mA2 (Memref.isWhole_whole _) mH (Memref.isWhole_whole _) mC (Memref.isWhole_whole _)
    mCd (Memref.isWhole_whole _) mSc (Memref.isWhole_whole _) mX (Memref.isWhole_whole _) mXt (Memref.isWhole_whole _) mZ (Memref.isWhole_whole _) mR (Memref.isWhole_whole _)
    cc0_scratch6 cc0_scratch7 cc0_scratch8 rowIota

/-- Before trip `j` of expert `k`'s eight: slots below `j` are in flight to its blocks, those from `j` on are as the last
    expert with rows, `o`, left them; the blocks of `o` below `j` are back. -/
def inv5 (fX : S256x2048.Idx → Elt F .bf16) (fXt : S2048x256.Idx → Elt F .bf16) (hf f0 : HIdx → Elt F .f32) (q k : ℕ) (o : Option ℕ) (j : ℕ) (acc : BitVec 32) : sProp 𝕄 :=
  iprop(⌜acc = BitVec.ofNat 32 (8 * q + j)⌝ ∗ xPt c fX ∗ xtPt c fXt ∗ (∃ W, owes (c : Thread nD τ) 0 W)
    ∗ bigSep (Finset.range j) (fun m => slotSt c hf (some k) (fM m)) ∗ bigSep (Finset.Ico j 8) (fun m => slotSt c hf o (fM m))
    ∗ bigSep (Finset.range j) (retB c hf o) ∗ bigSep (Finset.Ico j 8) fun m => hPt c (fE k) (fM m) f0)

theorem ofNat_add1 (n : ℕ) : Scalar.addi (BitVec.ofNat 32 n) 1#32 = BitVec.ofNat 32 (n + 1) := by
  show BitVec.ofNat 32 n + 1#32 = _
  apply BitVec.eq_of_toNat_eq
  rw [BitVec.toNat_add, BitVec.toNat_ofNat, BitVec.toNat_ofNat, BitVec.toNat_ofNat]
  omega

theorem t5_step (fo : S17.Idx → BitVec 32) (fX : S256x2048.Idx → Elt F .bf16) (fXt : S2048x256.Idx → Elt F .bf16) (f0 : HIdx → Elt F .f32)
    (k : Fin k0_t4_loop.trips) (hne : isNe fo k.val) (q : ℕ) (hq : q < 16) (o : Option ℕ) (ho : o ≠ none ↔ 0 < q)
    (hw : k0_chk2 k (loW fo k.val) (hiW fo k.val)) (j : Fin (k0_t5_loop (loW fo k.val) (hiW fo k.val)).trips) (acc : BitVec 32) :
    inv5 c fX fXt (hFin fo fX fXt f0) f0 q k.val o j.val acc
      ⊢ run c (t5B (F := F) k _ _ hw j acc) (inv5 c fX fXt (hFin fo fX fXt f0) f0 q k.val o (j.val + 1)) := by
  have hk := t4_lt k
  have hj := t5_lt j
  unfold inv5
  rw [bigSep_Ico_head hj, bigSep_Ico_head hj, bigSep_range_succ, bigSep_range_succ]
  iintro ⟨%hacc, HX, HXt, ⟨%W, HO⟩, HS1, ⟨HS, HS2⟩, HR1, ⟨HH, HH2⟩⟩
  subst hacc
  unfold t5B k0_t5_body
  dsimp only
  iapply (wp_assume (defs := defs₀ (F := F)) Variants.none (c : Thread nD τ) none Set.univ (chk3_all k _ _ j hq))
  simp only [ret_bind']
  have tail := tail_run c fo fX fXt f0 k.val j.val hk hne hj (BitVec.ofNat 32 (8 * q + j.val)) (k0_off11_inb k _ _ hw j) (off11_eq _ _ j)
    (k0_off12_inb k _ _ j _ (chk3_all k _ _ j hq)) (off12_eq hq hj) (k0_off13_inb k _ _ j _ (chk3_all k _ _ j hq)) (off13_eq hq hj)
    (k0_off14_inb k _ _ hw j) (off14_eq k _ _ j) (k0_off15_inb k _ _ j _ (chk3_all k _ _ j hq)) (off15_eq hq hj)
    (inv5 c fX fXt (hFin fo fX fXt f0) f0 q k.val o (j.val + 1))
  unfold t5Tail at tail
  unfold inv5 at tail
  rw [bigSep_range_succ, bigSep_range_succ] at tail
  cases o with
  | none =>
    have h1 : ¬ k0_cond1 (BitVec.ofNat 32 (8 * q + j.val)) = 1#1 := fun h => (ho.mpr ((cond1_iff hq hj).mp h)) rfl
    rw [dif_neg h1]
    ihave HS := (show slotSt c (hFin fo fX fXt f0) none (fM j.val) ⊢ iprop(rAny (F := F) c (fM j.val) ∗ semVal ((c : Thread nD τ), SemLoc.dma (rSem (fM j.val))) 0) from .rfl) $$ HS
    icases HS with ⟨HR, HS⟩
    iapply tail $$ [HX HXt HR HS HH]
    · isplitl [HX]; · iexact HX
      isplitl [HXt]; · iexact HXt
      isplitl [HR]; · iexact HR
      isplitl [HS]; · iexact HS
      iexact HH
    iintro ⟨HX, HXt, HS⟩
    rw [← Nat.add_assoc]
    isplitr; · ipureintro; exact ofNat_add1 _
    isplitl [HX]; · iexact HX
    isplitl [HXt]; · iexact HXt
    isplitl [HO]; · iexists _; iexact HO
    isplitl [HS HS1]
    · isplitl [HS]; · iexact HS
      iexact HS1
    isplitl [HS2]; · iexact HS2
    isplitl [HR1]
    · isplitl []; · unfold retB; iempintro
      iexact HR1
    iexact HH2
  | some e =>
    have h1 : k0_cond1 (BitVec.ofNat 32 (8 * q + j.val)) = 1#1 := (cond1_iff hq hj).mpr (ho.mp (by simp))
    rw [dif_pos h1]
    iapply (wait_run c (hFin fo fX fXt f0) e j.val hj W (k0_off8_inb k _ _ j _ (chk3_all k _ _ j hq) h1) (off8_eq hq hj)
      (k0_off9_inb k _ _ j _ (chk3_all k _ _ j hq) h1) (k0_off10_inb k _ _ j _ (chk3_all k _ _ j hq) h1)) $$ [HS HO]
    · isplitl [HS]; · iexact HS
      iexact HO
    iintro ⟨⟨HE, HR⟩, HS, HO⟩
    iapply tail $$ [HX HXt HR HS HH]
    · isplitl [HX]; · iexact HX
      isplitl [HXt]; · iexact HXt
      isplitl [HR]; · iexact HR
      isplitl [HS]; · iexact HS
      iexact HH
    iintro ⟨HX, HXt, HS⟩
    rw [← Nat.add_assoc]
    isplitr; · ipureintro; exact ofNat_add1 _
    isplitl [HX]; · iexact HX
    isplitl [HXt]; · iexact HXt
    isplitl [HO]; · iexists _; iexact HO
    isplitl [HS HS1]
    · isplitl [HS]; · iexact HS
      iexact HS1
    isplitl [HS2]; · iexact HS2
    isplitl [HE HR1]
    · isplitl [HE]
      · ihave HE := (show hPt c (fE e) (fM j.val) (hFin fo fX fXt f0) ⊢ retB c (hFin fo fX fXt f0) (some e) j.val from .rfl) $$ HE
        iexact HE
      iexact HR1
    iexact HH2

/-! ## The outer loop -/

/-- The eight slots. -/
abbrev slots (hf : HIdx → Elt F .f32) (o : Option ℕ) : sProp 𝕄 := bigSep (Finset.range 8) fun m => slotSt c hf o (fM m)
abbrev ret8 (hf : HIdx → Elt F .f32) (o : Option ℕ) : sProp 𝕄 := bigSep (Finset.range 8) (retB c hf o)
/-- What the experts below `k` but the last with rows have got back. -/
def retd (fo : S17.Idx → BitVec 32) (hf : HIdx → Elt F .f32) : ℕ → sProp 𝕄
  | 0 => iprop(emp)
  | k + 1 => if isNe fo k then iprop(retd fo hf k ∗ ret8 c hf (last fo k)) else retd fo hf k

theorem retd_all (fo : S17.Idx → BitVec 32) (hf : HIdx → Elt F .f32) (k : ℕ) :
    iprop(retd c fo hf k ∗ ret8 c hf (last fo k)) ⊢ bigSep (Finset.range k) fun e => if isNe fo e then row c hf e else iprop(emp) := by
  induction k with
  | zero =>
    rw [Finset.range_zero, bigSep_empty]
    iintro -
    iempintro
  | succ k ih =>
    rw [bigSep_range_succ]
    by_cases h : isNe fo k
    · rw [if_pos h]
      simp only [retd, last, if_pos h]
      iintro ⟨H1, H2⟩
      isplitl [H2]
      · ihave H2 := (show ret8 c hf (some k) ⊢ row c hf k from by rw [ret8, row, Finset.range_eq_Ico]; exact .rfl) $$ H2
        iexact H2
      iapply ih; iexact H1
    · rw [if_neg h]
      simp only [retd, last, if_neg h]
      iintro H
      isplitr; · iempintro
      iapply ih; iexact H

theorem t5_loop (fo : S17.Idx → BitVec 32) (fX : S256x2048.Idx → Elt F .bf16) (fXt : S2048x256.Idx → Elt F .bf16) (f0 : HIdx → Elt F .f32)
    (k : Fin k0_t4_loop.trips) (hw : k0_chk2 k (loW fo k.val) (hiW fo k.val))
    {β : Type} (kk : BitVec 32 → Prog (TpuEff nD τ sig (Elt F) Λ₀ .tc) β) (Q : β → sProp 𝕄) :
    iprop(xPt c fX ∗ xtPt c fXt ∗ (∃ W, owes (c : Thread nD τ) 0 W) ∗ slots c (hFin fo fX fXt f0) (last fo k.val) ∗ retd c fo (hFin fo fX fXt f0) k.val
        ∗ (if isNe fo k.val then row c f0 k.val else iprop(emp)))
      ⊢ iprop((iprop(xPt c fX ∗ xtPt c fXt ∗ (∃ W, owes (c : Thread nD τ) 0 W) ∗ slots c (hFin fo fX fXt f0) (last fo (k.val + 1)) ∗ retd c fo (hFin fo fX fXt f0) (k.val + 1))
            -∗ run c (kk (BitVec.ofNat 32 (8 * Nat.count (isNe fo) (k.val + 1)))) Q)
          -∗ run c (Scf.Loop.for (k0_t5_loop (loW fo k.val) (hiW fo k.val)) (k0_t5_ok k _ _ hw) (BitVec.ofNat 32 (8 * Nat.count (isNe fo) k.val)) (t5B (F := F) k _ _ hw) >>= kk) Q) := by
  have hk := t4_lt k
  by_cases he : isNe fo k.val
  · have hq : Nat.count (isNe fo) k.val < 16 := lt_of_le_of_lt (Nat.count_le (isNe fo)) hk
    simp only [retd, last, if_pos he]
    rw [Nat.count_succ, if_pos he]
    have ht : (k0_t5_loop (loW fo k.val) (hiW fo k.val)).trips = 8 := by rw [t5_trips]; exact if_pos he
    iintro ⟨HX, HXt, HO, HS, HD, HR⟩ HK
    iapply (Scf.wp_for_bind frame (wpE (defs₀ (F := F)) Variants.none (c : Thread nD τ) none) Set.univ _ _ _ (k0_t5_ok k _ _ hw) _
      (t5B (F := F) k _ _ hw) (inv5 c fX fXt (hFin fo fX fXt f0) f0 (Nat.count (isNe fo) k.val) k.val (last fo k.val))
      (fun j acc => t5_step c fo fX fXt f0 k he _ hq _ (last_iff fo k.val) hw j acc) (kk := kk)) $$ [HX HXt HO HS HR] [HK HD]
    · unfold inv5
      rw [Finset.range_zero, bigSep_empty, bigSep_empty]
      isplitr; · ipureintro; rfl
      isplitl [HX]; · iexact HX
      isplitl [HXt]; · iexact HXt
      isplitl [HO]; · iexact HO
      isplitr; · iempintro
      isplitl [HS]
      · ihave HS := (show slots c (hFin fo fX fXt f0) (last fo k.val) ⊢ bigSep (Finset.Ico 0 8) (fun m => slotSt c (hFin fo fX fXt f0) (last fo k.val) (fM m)) from by
          rw [slots, Finset.range_eq_Ico]) $$ HS
        iexact HS
      isplitr; · iempintro
      iexact HR
    rw [show Scf.trips _ _ _ = 8 from ht]
    unfold inv5
    iintro %acc ⟨%hacc, HX, HXt, HO, HS, -, HR, -⟩
    subst hacc
    rw [show 8 * Nat.count (isNe fo) k.val + 8 = 8 * (Nat.count (isNe fo) k.val + 1) by omega]
    iapply HK
    isplitl [HX]; · iexact HX
    isplitl [HXt]; · iexact HXt
    isplitl [HO]; · iexact HO
    isplitl [HS]; · iexact HS
    isplitl [HD]; · iexact HD
    iexact HR
  · simp only [retd, last, if_neg he]
    rw [Nat.count_succ, if_neg he]
    have ht : (k0_t5_loop (loW fo k.val) (hiW fo k.val)).trips = 0 := by rw [t5_trips]; exact if_neg he
    iintro ⟨HX, HXt, HO, HS, HD, -⟩ HK
    iapply (no_trips c _ _ _ (k0_t5_ok k _ _ hw) _ (t5B (F := F) k _ _ hw) ht)
    iapply HK
    isplitl [HX]; · iexact HX
    isplitl [HXt]; · iexact HXt
    isplitl [HO]; · iexact HO
    isplitl [HS]; · iexact HS
    iexact HD

theorem no_trips' {w : ℕ} {σ : Type} (lb ub st : BitVec w) (hok : Scf.OK lb ub st) (init : σ) (body : Fin (Scf.trips lb ub st) → σ → Prog (TpuEff nD τ sig (Elt F) Λ₀ .tc) σ)
    (h : Scf.trips lb ub st = 0) (Q : σ → sProp 𝕄) :
    Q init ⊢ run c (Scf.for lb ub st hok init body) Q := by
  iintro HK
  iapply (Scf.wp_for frame (wpE (defs₀ (F := F)) Variants.none (c : Thread nD τ) none) Set.univ lb ub st hok init body
    (fun _ a => iprop(⌜a = init⌝)) (fun j acc => absurd (lt_of_lt_of_eq j.isLt h) (Nat.not_lt_zero _)))
  isplitr; · ipureintro; rfl
  iintro %acc %ha
  subst ha
  iexact HK

/-- Before expert `k`: the units counted so far, the scalars and the rows, the eight slots as the last expert with rows left
    them, what the others got back, and the rows of the experts with rows from `k` on. -/
def inv4 (fo : S17.Idx → BitVec 32) (fX : S256x2048.Idx → Elt F .bf16) (fXt : S2048x256.Idx → Elt F .bf16) (hf f0 : HIdx → Elt F .f32) (k : ℕ) (acc : BitVec 32) : sProp 𝕄 :=
  iprop(⌜acc = BitVec.ofNat 32 (8 * Nat.count (isNe fo) k)⌝ ∗ oPt c fo ∗ xPt c fX ∗ xtPt c fXt ∗ (∃ W, owes (c : Thread nD τ) 0 W)
    ∗ slots c hf (last fo k) ∗ retd c fo hf k ∗ bigSep (Finset.Ico k 16) fun e => if isNe fo e then row c f0 e else iprop(emp))

theorem t4_step (fo : S17.Idx → BitVec 32) (fX : S256x2048.Idx → Elt F .bf16) (fXt : S2048x256.Idx → Elt F .bf16) (f0 : HIdx → Elt F .f32)
    (k : Fin k0_t4_loop.trips) (acc : BitVec 32) :
    inv4 c fo fX fXt (hFin fo fX fXt f0) f0 k.val acc
      ⊢ run c (t4B (F := F) k acc) (inv4 c fo fX fXt (hFin fo fX fXt f0) f0 (k.val + 1)) := by
  have hk := t4_lt k
  unfold inv4
  rw [bigSep_Ico_head hk]
  iintro ⟨%hacc, HF, HX, HXt, HO, HS, HD, HR, HRs⟩
  subst hacc
  unfold t4B k0_t4_body
  dsimp only
  iapply (wp_offs c fo _ k.val (by omega) (off6_eq k)) $$ HF
  iintro HF
  iapply (wp_offs c fo _ (k.val + 1) (by omega) (off7_eq k)) $$ HF
  iintro HF
  iapply (wp_assume (defs := defs₀ (F := F)) Variants.none (c : Thread nD τ) none Set.univ (chk2_all k _ _))
  simp only [ret_bind']
  iapply (t5_loop c fo fX fXt f0 k (chk2_all k _ _)) $$ [HX HXt HO HS HD HR]
  · isplitl [HX]; · iexact HX
    isplitl [HXt]; · iexact HXt
    isplitl [HO]; · iexact HO
    isplitl [HS]; · iexact HS
    isplitl [HD]; · iexact HD
    iexact HR
  iintro ⟨HX, HXt, HO, HS, HD⟩
  iapply (no_trips' c _ _ _ (k0_t6_ok k _ _ (chk2_all k _ _)) _ (t6B (F := F) k _ _ (chk2_all k _ _)) (t6_trips _ _))
  isplitr; · ipureintro; rfl
  isplitl [HF]; · iexact HF
  isplitl [HX]; · iexact HX
  isplitl [HXt]; · iexact HXt
  isplitl [HO]; · iexact HO
  isplitl [HS]; · iexact HS
  isplitl [HD]; · iexact HD
  iexact HRs

end

end Cert.KernelIdeal.Hand

end
-- ==== Proof.Ideal.Drain.lean ====
/-
  The waits at the end: one for every block of zeros, which gives back the empty experts' rows and the zeros themselves, and
  one for every slot of the ring still in flight.
-/
module

public import proofs.«01_k».proof.Proof.Ideal.RingLoop

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD)

/-! ## The waits for the zeros -/

abbrev t7B (v9 : BitVec 32) (hw : k0_chk5 v9) :=
  k0_t7_body (F := F) mO (Memref.isWhole_whole _) mA1 (Memref.isWhole_whole _) mA2 (Memref.isWhole_whole _) mH (Memref.isWhole_whole _) mC (Memref.isWhole_whole _)
    mCd (Memref.isWhole_whole _) mSc (Memref.isWhole_whole _) mX (Memref.isWhole_whole _) mXt (Memref.isWhole_whole _) mZ (Memref.isWhole_whole _) mR (Memref.isWhole_whole _)
    cc0_scratch6 cc0_scratch7 cc0_scratch8 v9 hw
abbrev t8B (v9 : BitVec 32) (hw : k0_chk5 v9) :=
  k0_t8_body (F := F) mO (Memref.isWhole_whole _) mA1 (Memref.isWhole_whole _) mA2 (Memref.isWhole_whole _) mH (Memref.isWhole_whole _) mC (Memref.isWhole_whole _)
    mCd (Memref.isWhole_whole _) mSc (Memref.isWhole_whole _) mX (Memref.isWhole_whole _) mXt (Memref.isWhole_whole _) mZ (Memref.isWhole_whole _) mR (Memref.isWhole_whole _)
    cc0_scratch6 cc0_scratch7 cc0_scratch8 v9 hw
abbrev t9B (v33 : BitVec 32) (hw : k0_chk6 v33) :=
  k0_t9_body (F := F) mO (Memref.isWhole_whole _) mA1 (Memref.isWhole_whole _) mA2 (Memref.isWhole_whole _) mH (Memref.isWhole_whole _) mC (Memref.isWhole_whole _)
    mCd (Memref.isWhole_whole _) mSc (Memref.isWhole_whole _) mX (Memref.isWhole_whole _) mXt (Memref.isWhole_whole _) mZ (Memref.isWhole_whole _) mR (Memref.isWhole_whole _)
    cc0_scratch6 cc0_scratch7 cc0_scratch8 v33 hw
abbrev t10B (v33 : BitVec 32) (hw : k0_chk6 v33) :=
  k0_t10_body (F := F) mO (Memref.isWhole_whole _) mA1 (Memref.isWhole_whole _) mA2 (Memref.isWhole_whole _) mH (Memref.isWhole_whole _) mC (Memref.isWhole_whole _)
    mCd (Memref.isWhole_whole _) mSc (Memref.isWhole_whole _) mX (Memref.isWhole_whole _) mXt (Memref.isWhole_whole _) mZ (Memref.isWhole_whole _) mR (Memref.isWhole_whole _)
    cc0_scratch6 cc0_scratch7 cc0_scratch8 v33 hw

/-- After `k` waits: that many blocks' units are consumed. -/
def inv7 (fo : S17.Idx → BitVec 32) (hf : HIdx → Elt F .f32) (n k : ℕ) (_ : Unit) : sProp 𝕄 :=
  iprop(zBatch c fo hf n n (k * NN) ∗ ∃ W, owes (c : Thread nD τ) 0 W)

theorem t7_step (fo : S17.Idx → BitVec 32) (hf : HIdx → Elt F .f32) (n : ℕ) (v9 : BitVec 32) (hw : k0_chk5 v9)
    (k : Fin (k0_t7_loop v9).trips) (hk : k.val < n) (acc : Unit) :
    inv7 c fo hf n k.val acc ⊢ run c (t7B (F := F) v9 hw k acc) (inv7 c fo hf n (k.val + 1)) := by
  unfold inv7
  iintro ⟨HB, %W, HO⟩
  unfold t7B k0_t7_body
  dsimp only
  iapply (Transfers.wp_waitBatchMul (EC (F := F)) Variants.none (c : Thread nD τ) none (sem := cc0_scratch7.sem) (srcw := mZ)
    (dstw := hAt ![0, 0, 0] inb_S16x2048x2048_S1x256x2048_0_0_0) () (N := NN) 1 (by show RefSig.tileCredit S256x2048 .f32 = 1 * NN; decide)
    (D := zD c fo hf n) (j := n) (u := k.val * NN)
    (by have : (k.val + 1) * NN ≤ n * NN := Nat.mul_le_mul_right _ hk
        rw [Nat.mul_comm NN n]; rw [Nat.succ_mul] at this; omega)) $$ [HB HO]
  · isplitl [HB]; · iexact HB
    iexact HO
  iintro ⟨HB, HO⟩
  simp only [ret_bind']
  sl_step
  rw [show k.val * NN + 1 * NN = (k.val + 1) * NN by rw [Nat.one_mul, Nat.succ_mul]]
  isplitl [HB]; · iexact HB
  iexists _; iexact HO

theorem t7_loop (fo : S17.Idx → BitVec 32) (hf : HIdx → Elt F .f32) (n : ℕ) (hn : n < 129) (hw : k0_chk5 (BitVec.ofNat 32 n))
    {β : Type} (kk : Unit → Prog (TpuEff nD τ sig (Elt F) Λ₀ .tc) β) (Q : β → sProp 𝕄) :
    iprop(zBatch c fo hf n n 0 ∗ ∃ W, owes (c : Thread nD τ) 0 W)
      ⊢ iprop((iprop(zBatch c fo hf n n (NN * n) ∗ ∃ W, owes (c : Thread nD τ) 0 W) -∗ run c (kk ⟨⟩) Q)
        -∗ run c (Scf.Loop.for (k0_t7_loop (BitVec.ofNat 32 n)) (k0_t7_ok _ hw) ⟨⟩ (t7B (F := F) _ hw) >>= kk) Q) := by
  have ht : (k0_t7_loop (BitVec.ofNat 32 n)).trips = n := (t7_facts hn).1
  iintro ⟨HB, HO⟩ HK
  iapply (Scf.wp_for_bind frame (wpE (defs₀ (F := F)) Variants.none (c : Thread nD τ) none) Set.univ _ _ _ (k0_t7_ok _ hw) ()
    (t7B (F := F) _ hw) (inv7 c fo hf n)
    (fun k acc => t7_step c fo hf n _ hw k (lt_of_lt_of_eq k.isLt ht) acc) (kk := kk)) $$ [HB HO] [HK]
  · unfold inv7
    rw [Nat.zero_mul]
    isplitl [HB]; · iexact HB
    iexact HO
  rw [show Scf.trips _ _ _ = n from ht]
  unfold inv7
  rw [Nat.mul_comm n NN]
  iintro %acc H
  iapply HK
  iexact H

/-! ## The waits for the ring -/

/-- After `s` waits: slots below `s` are free and their blocks are back. -/
def inv9 (hf : HIdx → Elt F .f32) (e s : ℕ) (_ : Unit) : sProp 𝕄 :=
  iprop((∃ W, owes (c : Thread nD τ) 0 W) ∗ bigSep (Finset.range s) (fun m => slotSt c hf none (fM m)) ∗ bigSep (Finset.range s) (retB c hf (some e))
    ∗ bigSep (Finset.Ico s 8) fun m => slotSt c hf (some e) (fM m))

theorem t9_step (hf : HIdx → Elt F .f32) (e : ℕ) (v33 : BitVec 32) (hw : k0_chk6 v33)
    (s : Fin (k0_t9_loop v33).trips) (hs : s.val < 8) (acc : Unit) :
    inv9 c hf e s.val acc ⊢ run c (t9B (F := F) v33 hw s acc) (inv9 c hf e (s.val + 1)) := by
  unfold inv9
  rw [bigSep_Ico_head hs, bigSep_range_succ, bigSep_range_succ]
  iintro ⟨⟨%W, HO⟩, HN, HR, HS, HSs⟩
  unfold t9B k0_t9_body
  dsimp only
  iapply (wait_run c hf e s.val hs W (k0_off24_inb v33 hw s) (off24_eq v33 s hs) inb_S16x2048x2048_S1x256x2048_0_0_0 (k0_off25_inb v33 hw s) _ _) $$ [HS HO]
  · isplitl [HS]; · iexact HS
    iexact HO
  iintro ⟨⟨HB, HA⟩, Hv, HO⟩
  unfold run
  sl_step
  isplitl [HO]; · iexists _; iexact HO
  isplitl [HA Hv HN]
  · isplitl [HA Hv]
    · unfold slotSt
      dsimp only
      isplitl [HA]; · iexact HA
      iexact Hv
    iexact HN
  isplitl [HB HR]
  · isplitl [HB]
    · ihave HB := (show hPt c (fE e) (fM s.val) hf ⊢ retB c hf (some e) s.val from .rfl) $$ HB
      iexact HB
    iexact HR
  iexact HSs

theorem t9_loop (fo : S17.Idx → BitVec 32) (hf : HIdx → Elt F .f32) (q : ℕ) (hq : q < 17) (o : Option ℕ) (ho : o ≠ none ↔ 0 < q)
    (hw : k0_chk6 (BitVec.ofNat 32 (8 * q)))
    {β : Type} (kk : Unit → Prog (TpuEff nD τ sig (Elt F) Λ₀ .tc) β) (Q : β → sProp 𝕄) :
    iprop((∃ W, owes (c : Thread nD τ) 0 W) ∗ slots c hf o)
      ⊢ iprop((iprop((∃ W, owes (c : Thread nD τ) 0 W) ∗ slots c hf none ∗ ret8 c hf o) -∗ run c (kk ⟨⟩) Q)
        -∗ run c (Scf.Loop.for (k0_t9_loop (BitVec.ofNat 32 (8 * q))) (k0_t9_ok _ hw) ⟨⟩ (t9B (F := F) _ hw) >>= kk) Q) := by
  cases o with
  | none =>
    have h0 : q = 0 := by
      by_contra h
      exact (ho.mpr (Nat.pos_of_ne_zero h)) rfl
    subst h0
    iintro ⟨HO, HS⟩ HK
    iapply (no_trips c _ _ _ (k0_t9_ok _ hw) _ (t9B (F := F) _ hw) ((t9_facts hq).1))
    iapply HK
    isplitl [HO]; · iexact HO
    isplitl [HS]; · iexact HS
    iapply (show iprop(emp) ⊢ ret8 c hf none from Entails.of_eq (bigSep_emp_const _).symm)
    iempintro
  | some e =>
    have h0 : 0 < q := ho.mp (by simp)
    have ht : (k0_t9_loop (BitVec.ofNat 32 (8 * q))).trips = 8 := by rw [(t9_facts hq).1]; omega
    iintro ⟨HO, HS⟩ HK
    iapply (Scf.wp_for_bind frame (wpE (defs₀ (F := F)) Variants.none (c : Thread nD τ) none) Set.univ _ _ _ (k0_t9_ok _ hw) ()
      (t9B (F := F) _ hw) (inv9 c hf e)
      (fun k acc => t9_step c hf e _ hw k (lt_of_lt_of_eq k.isLt ht) acc) (kk := kk)) $$ [HO HS] [HK]
    · unfold inv9
      rw [Finset.range_zero, bigSep_empty, bigSep_empty]
      isplitl [HO]; · iexact HO
      isplitr; · iempintro
      isplitr; · iempintro
      ihave HS := (show slots c hf (some e) ⊢ bigSep (Finset.Ico 0 8) (fun m => slotSt c hf (some e) (fM m)) from by
        rw [slots, Finset.range_eq_Ico]) $$ HS
      iexact HS
    rw [show Scf.trips _ _ _ = 8 from ht]
    unfold inv9
    iintro %acc ⟨HO, HN, HR, -⟩
    iapply HK
    isplitl [HO]; · iexact HO
    isplitl [HN]; · iexact HN
    iexact HR

/-! ## What the zeros' batch delivered -/

theorem bigSep_sepi {M : Type _} [URA M] (s : Finset ℕ) (Φ Ψ : ℕ → sProp M) :
    bigSep s (fun i => iprop(Φ i ∗ Ψ i)) = iprop(bigSep s Φ ∗ bigSep s Ψ) := bigSep_sep s Φ Ψ

theorem bigSep_range_add {M : Type _} [URA M] (a b : ℕ) (Φ : ℕ → sProp M) :
    bigSep (Finset.range (a + b)) Φ ⊢ iprop(bigSep (Finset.range a) Φ ∗ bigSep (Finset.range b) fun j => Φ (a + j)) := by
  induction b with
  | zero =>
    rw [Finset.range_zero, bigSep_empty]
    iintro H
    isplitl [H]; · iexact H
    iempintro
  | succ b ih =>
    rw [← Nat.add_assoc, bigSep_range_succ, bigSep_range_succ]
    iintro ⟨H, Hs⟩
    ihave Hs := ih $$ Hs
    icases Hs with ⟨Ha, Hb⟩
    isplitl [Ha]; · iexact Ha
    isplitl [H]; · iexact H
    iexact Hb

theorem rows_of_blocks (fo : S17.Idx → BitVec 32) (hf : HIdx → Elt F .f32) (k : ℕ) :
    (bigSep (Finset.range (8 * Nat.count (isEmp fo) k)) fun t => hPt c (fE (expOf (isEmp fo) (t / 8))) (fM (t % 8)) hf)
      ⊢ bigSep (Finset.range k) fun e => if isEmp fo e then row c hf e else iprop(emp) := by
  induction k with
  | zero =>
    rw [Nat.count_zero, Nat.mul_zero, Finset.range_zero, bigSep_empty, bigSep_empty]
  | succ k ih =>
    rw [bigSep_range_succ, Nat.count_succ]
    by_cases h : isEmp fo k
    · rw [if_pos h, if_pos h, Nat.mul_add]
      iintro H
      ihave H := (bigSep_range_add _ _ _) $$ H
      icases H with ⟨Ha, Hb⟩
      isplitl [Hb]
      · ihave Hb := (show (bigSep (Finset.range (8 * 1)) fun j => hPt c (fE (expOf (isEmp fo) ((8 * Nat.count (isEmp fo) k + j) / 8))) (fM ((8 * Nat.count (isEmp fo) k + j) % 8)) hf) ⊢ row c hf k from by
          rw [row, ← Finset.range_eq_Ico, Nat.mul_one]
          refine Entails.of_eq (bigSep_congr fun j hj => ?_)
          have hj := Finset.mem_range.mp hj
          rw [show (8 * Nat.count (isEmp fo) k + j) / 8 = Nat.count (isEmp fo) k by omega, show (8 * Nat.count (isEmp fo) k + j) % 8 = j by omega, expOf_count h]) $$ Hb
        iexact Hb
      iapply ih; iexact Ha
    · rw [if_neg h, if_neg h, Nat.add_zero]
      iintro H
      isplitr; · iempintro
      iapply ih; iexact H

/-- The batch's deliveries: the empty experts' rows, and the zeros' tokens. -/
theorem zD_all (fo : S17.Idx → BitVec 32) (hf : HIdx → Elt F .f32) :
    bigSep Finset.univ (zD c fo hf (8 * Nat.count (isEmp fo) 16))
      ⊢ iprop((bigSep (Finset.range 16) fun e => if isEmp fo e then row c hf e else iprop(emp)) ∗ bigSep (Finset.range (8 * Nat.count (isEmp fo) 16)) (zTok (F := F) c)) := by
  rw [Ring.bigSep_fin_eq_range _ (zD c fo hf (8 * Nat.count (isEmp fo) 16))
    (fun t => iprop(hPt c (fE (expOf (isEmp fo) (t / 8))) (fM (t % 8)) hf ∗ zTok (F := F) c t)) (fun t h => rfl)]
  rw [bigSep_sepi]
  exact sep_mono (rows_of_blocks c fo hf 16) .rfl

/-! ## Splitting the Hessian and the ring -/

theorem h_rows (f : HIdx → Elt F .f32) :
    (mH.view.loc (c : Thread nD τ) ↦{fullShare} f : sProp 𝕄) = bigSep (Finset.range 16) (row c f) := by
  refine (Ring.pointsTo_blocks (ℓ := mH.view.loc (c : Thread nD τ)) (fun p : Fin 16 × Fin 8 => hset p.1 p.2) hset_disj hset_cover f).trans ?_
  rw [bigSep_univ_prod, Ring.bigSep_fin_eq_range 16 _ (row c f)]
  intro e he
  show row c f e = bigSep Finset.univ fun m : Fin 8 => hPt c ⟨e, he⟩ m f
  rw [row, ← Finset.range_eq_Ico, Ring.bigSep_fin_eq_range 8 (fun m : Fin 8 => hPt c ⟨e, he⟩ m f) (fun m => hPt c (fE e) (fM m) f)]
  intro m hm
  rw [show fE e = ⟨e, he⟩ from Fin.ext (fE_val he), show fM m = ⟨m, hm⟩ from Fin.ext (fM_val hm)]

/-- The rows of an expert that is neither empty nor has rows: they stay. -/
theorem row_other {fo : S17.Idx → BitVec 32} {fX : S256x2048.Idx → Elt F .bf16} {fXt : S2048x256.Idx → Elt F .bf16} {f0 : HIdx → Elt F .f32}
    {e : ℕ} (he : e < 16) (h1 : ¬ isNe fo e) (h2 : ¬ isEmp fo e) : row c f0 e = row c (hFin fo fX fXt f0) e := by
  refine bigSep_congr fun m _ => ?_
  refine pointsTo_congr fun i hi => ?_
  have h := (mem_hset.mp hi).1
  rw [fE_val he] at h
  unfold hFin
  rw [h, if_neg h1, if_neg h2]

theorem rows_split (fo : S17.Idx → BitVec 32) (f : HIdx → Elt F .f32) :
    bigSep (Finset.range 16) (row c f) ⊢ iprop((bigSep (Finset.range 16) fun e => if isEmp fo e then row c f e else iprop(emp))
      ∗ (bigSep (Finset.range 16) fun e => if isNe fo e then row c f e else iprop(emp))
      ∗ bigSep (Finset.range 16) fun e => if isNe fo e ∨ isEmp fo e then iprop(emp) else row c f e) := by
  rw [← bigSep_sepi, ← bigSep_sepi]
  refine bigSep_mono fun e _ => ?_
  by_cases h1 : isEmp fo e
  · rw [if_pos h1, if_neg (not_ne_of_emp h1), if_pos (Or.inr h1)]
    show (row c f e : sProp 𝕄) ⊢ iprop(row c f e ∗ emp ∗ emp)
    iintro H
    isplitl [H]; · iexact H
    isplitr <;> iempintro
  · by_cases h2 : isNe fo e
    · rw [if_neg h1, if_pos h2, if_pos (Or.inl h2)]
      show (row c f e : sProp 𝕄) ⊢ iprop(emp ∗ row c f e ∗ emp)
      iintro H
      isplitr; · iempintro
      isplitl [H]; · iexact H
      iempintro
    · rw [if_neg h1, if_neg h2, if_neg (by tauto)]
      show (row c f e : sProp 𝕄) ⊢ iprop(emp ∗ emp ∗ row c f e)
      iintro H
      isplitr; · iempintro
      isplitr; · iempintro
      iexact H

theorem rows_join (fo : S17.Idx → BitVec 32) (fX : S256x2048.Idx → Elt F .bf16) (fXt : S2048x256.Idx → Elt F .bf16) (f0 : HIdx → Elt F .f32) :
    iprop((bigSep (Finset.range 16) fun e => if isEmp fo e then row c (hFin fo fX fXt f0) e else iprop(emp))
      ∗ (bigSep (Finset.range 16) fun e => if isNe fo e then row c (hFin fo fX fXt f0) e else iprop(emp))
      ∗ bigSep (Finset.range 16) fun e => if isNe fo e ∨ isEmp fo e then iprop(emp) else row c f0 e) ⊢ bigSep (Finset.range 16) (row c (hFin fo fX fXt f0)) := by
  rw [← bigSep_sepi, ← bigSep_sepi]
  refine bigSep_mono fun e he => ?_
  have he := Finset.mem_range.mp he
  by_cases h1 : isEmp fo e
  · rw [if_pos h1, if_neg (not_ne_of_emp h1), if_pos (Or.inr h1)]
    show (iprop(row c (hFin fo fX fXt f0) e ∗ emp ∗ emp) : sProp 𝕄) ⊢ row c (hFin fo fX fXt f0) e
    iintro ⟨H, -, -⟩
    iexact H
  · by_cases h2 : isNe fo e
    · rw [if_neg h1, if_pos h2, if_pos (Or.inl h2)]
      show (iprop(emp ∗ row c (hFin fo fX fXt f0) e ∗ emp) : sProp 𝕄) ⊢ row c (hFin fo fX fXt f0) e
      iintro ⟨-, H, -⟩
      iexact H
    · rw [if_neg h1, if_neg h2, if_neg (by tauto)]
      show (iprop(emp ∗ emp ∗ row c f0 e) : sProp 𝕄) ⊢ row c (hFin fo fX fXt f0) e
      iintro ⟨-, -, H⟩
      ihave H := (Entails.of_eq (row_other c (fX := fX) (fXt := fXt) (f0 := f0) he h2 h1)) $$ H
      iexact H

theorem ring_split (f : S8x256x2048.Idx → Elt F .f32) :
    (mR.view.loc (c : Thread nD τ) ↦{fullShare} f : sProp 𝕄) ⊢ bigSep (Finset.range 8) fun m => rAny (F := F) c (fM m) := by
  refine (Entails.of_eq (Ring.pointsTo_blocks (ℓ := mR.view.loc (c : Thread nD τ)) rset rset_disj rset_cover f)).trans ?_
  refine (Entails.of_eq (Ring.bigSep_fin_eq_range 8 _ (fun m => rPt c (fM m) f) ?_)).trans (bigSep_mono fun m _ => exists_intro (Φ := fun f => rPt (F := F) c (fM m) f) _)
  intro m hm
  rw [show fM m = ⟨m, hm⟩ from Fin.ext (fM_val hm)]; rfl

theorem ring_join (f : S8x256x2048.Idx → Elt F .f32) :
    (bigSep (Finset.range 8) fun m => rAny (F := F) c (fM m)) ⊢ (iprop(∃ g, mR.view.loc (c : Thread nD τ) ↦{fullShare} g) : sProp 𝕄) := by
  refine (Entails.of_eq (Ring.bigSep_fin_eq_range 8 (fun m => rAny (F := F) c m) (fun m => rAny (F := F) c (fM m)) ?_).symm).trans
    (Ring.pointsTo_blocks_join_exists (ℓ := mR.view.loc (c : Thread nD τ)) rset rset_disj rset_cover f)
  intro m hm
  rw [show fM m = ⟨m, hm⟩ from Fin.ext (fM_val hm)]

end

end Cert.KernelIdeal.Hand

end
-- ==== Proof.Ideal.Body.lean ====
/-
  The body from start to end: the codes and the scales are brought in while the zeros go out, the rows and their transpose
  are stored, the products go out through the ring, and every transfer is waited for. What is held before is held after, the
  counts and the Hessian at their values.
-/
module

public import proofs.«01_k».proof.Proof.Ideal.Drain

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A whole buffer is its memref's elements, whatever the signature. -/
theorem whole_gen {nD : ℕ} {τ : Topo} {sig : RefSig} {Ix : Type} [DecidableEq Ix] {Val : EltTy → Type} {Name : Type} [DecidableEq Name] {U : Type} [URA U] {Lvl : Type}
    (c : Thread nD τ) (b : Ref sig c.2.kind) (q : PosShare TreeShare) (f : b.ty.Contents Val) :
    ((Memref.whole b).view.loc c ↦{q} f : sProp (MT nD τ sig Ix Val Name U Lvl))
      = ((Memref.whole b).view.loc c ↦[(Memref.whole b).view.set]{q} f) :=
  congrArg (fun S => ((Memref.whole b).view.loc c ↦[S]{q} f : sProp (MT nD τ sig Ix Val Name U Lvl))) (View.set_whole b).symm

section
variable (c : Dev nD)

/-! ## The pieces -/

abbrev cdPt (f : S256x2048.Idx → Elt F .fp8e4m3) : sProp 𝕄 := mCd.view.loc (c : Thread nD τ) ↦{fullShare} f
abbrev scPt (f : S1x256.Idx → Elt F .f32) : sProp 𝕄 := mSc.view.loc (c : Thread nD τ) ↦{fullShare} f
abbrev zPt (f : S256x2048.Idx → Elt F .f32) : sProp 𝕄 := mZ.view.loc (c : Thread nD τ) ↦{fullShare} f
abbrev rgPt (f : S8x256x2048.Idx → Elt F .f32) : sProp 𝕄 := mR.view.loc (c : Thread nD τ) ↦{fullShare} f
abbrev a1Pt (f : S256x2048.Idx → Elt F .fp8e4m3) : sProp 𝕄 := mA1.view.loc (c : Thread nD τ) ↦{fullShare} f
abbrev a2Pt (f : S1x256.Idx → Elt F .f32) : sProp 𝕄 := mA2.view.loc (c : Thread nD τ) ↦{fullShare} f
abbrev hhPt (f : HIdx → Elt F .f32) : sProp 𝕄 := mH.view.loc (c : Thread nD τ) ↦{fullShare} f
abbrev sv (d : DmaSem sig) : sProp 𝕄 := semVal ((c : Thread nD τ), SemLoc.dma d) 0

theorem whole_pt (b : Ref sig .tc) (q : PosShare TreeShare) (f : b.ty.Contents (Elt F)) :
    ((Memref.whole b).view.loc (c : Thread nD τ) ↦{q} f : sProp 𝕄)
      = ((Memref.whole b).view.loc (c : Thread nD τ) ↦[(Memref.whole b).view.set]{q} f) :=
  whole_gen (c : Thread nD τ) b q f

theorem z_set (f : S256x2048.Idx → Elt F .f32) :
    (zPt c f : sProp 𝕄) = (mZ.view.loc (c : Thread nD τ) ↦[mZ.view.set]{fullShare} f) := whole_pt (F := F) c cc0_scratch4 fullShare f

/-- The zeros, held as the rest of the share and the transfers' tokens. -/
abbrev zRest (n : ℕ) : sProp 𝕄 := mZ.view.loc (c : Thread nD τ) ↦[mZ.view.set]{Transfers.shareDrop fullShare n} (k0_pay4 (F := F))
theorem zeros_split (n : ℕ) :
    (zPt c (k0_pay4 (F := F)) : sProp 𝕄) ⊢ iprop(zRest (F := F) c n ∗ bigSep (Finset.range n) (zTok (F := F) c)) := by
  rw [z_set]
  exact (Transfers.pointsTo_toks_range fullShare n).1
theorem zeros_join (n : ℕ) :
    iprop(zRest (F := F) c n ∗ bigSep (Finset.range n) (zTok (F := F) c)) ⊢ (zPt c (k0_pay4 (F := F)) : sProp 𝕄) := by
  rw [z_set]
  exact (Transfers.pointsTo_toks_range fullShare n).2

/-- The number of blocks of zeros. -/
abbrev nZ (fo : S17.Idx → BitVec 32) : ℕ := 8 * Nat.count (isEmp fo) 16
theorem nZ_lt (fo : S17.Idx → BitVec 32) : nZ fo < 129 := by
  have := Nat.count_le (isEmp fo) (n := 16); unfold nZ; omega

abbrev part1B := k0_part1 (F := F) mO (Memref.isWhole_whole _) mA1 (Memref.isWhole_whole _) mA2 (Memref.isWhole_whole _) mH (Memref.isWhole_whole _) mC (Memref.isWhole_whole _)
    mCd (Memref.isWhole_whole _) mSc (Memref.isWhole_whole _) mX (Memref.isWhole_whole _) mXt (Memref.isWhole_whole _) mZ (Memref.isWhole_whole _) mR (Memref.isWhole_whole _)
    cc0_scratch6 cc0_scratch7 cc0_scratch8
abbrev bodyB := cc0_moe_hessian (F := F) mO (Memref.isWhole_whole _) mA1 (Memref.isWhole_whole _) mA2 (Memref.isWhole_whole _) mH (Memref.isWhole_whole _) mC (Memref.isWhole_whole _)
    mCd (Memref.isWhole_whole _) mSc (Memref.isWhole_whole _) mX (Memref.isWhole_whole _) mXt (Memref.isWhole_whole _) mZ (Memref.isWhole_whole _) mR (Memref.isWhole_whole _)
    cc0_scratch6 cc0_scratch7 cc0_scratch8

theorem z_store (f : S256x2048.Idx → Elt F .f32) (w : S256x2048.Idx → Elt F .f32) :
    (mZ.access (Rect.unit (s := S256x2048) ![0, 0] S256x2048.size inb_S256x2048_S256x2048_0_0)).write (Elt F) f w Finset.univ = w :=
  Memref.write_access_unit_zero_univ (Elt F) cc0_scratch4 (by funext a; fin_cases a <;> rfl) _ f w
theorem x_store (f : S256x2048.Idx → Elt F .bf16) (w : S256x2048.Idx → Elt F .bf16) :
    (mX.access (Rect.unit (s := S256x2048) ![0, 0] S256x2048.size inb_S256x2048_S256x2048_0_0)).write (Elt F) f w Finset.univ = w :=
  Memref.write_access_unit_zero_univ (Elt F) cc0_scratch2 (by funext a; fin_cases a <;> rfl) _ f w
theorem xt_store (f : S2048x256.Idx → Elt F .bf16) (w : S2048x256.Idx → Elt F .bf16) :
    (mXt.access (Rect.unit (s := S2048x256) ![0, 0] S2048x256.size inb_S2048x256_S2048x256_0_0)).write (Elt F) f w Finset.univ = w :=
  Memref.write_access_unit_zero_univ (Elt F) cc0_scratch3 (by funext a; fin_cases a <;> rfl) _ f w
theorem cd_load (f : S256x2048.Idx → Elt F .fp8e4m3) :
    (mCd.access (Rect.unit (s := S256x2048) ![0, 0] S256x2048.size inb_S256x2048_S256x2048_0_0)).read (Elt F) f = f :=
  Memref.read_access_unit_zero (Elt F) cc0_scratch0 (by funext a; fin_cases a <;> rfl) _ f
theorem sc_load (f : S1x256.Idx → Elt F .f32) :
    (mSc.access (Rect.unit (s := S1x256) ![0, 0] S1x256.size inb_S1x256_S1x256_0_0)).read (Elt F) f = f :=
  Memref.read_access_unit_zero (Elt F) cc0_scratch1 (by funext a; fin_cases a <;> rfl) _ f

/-- The codes' transfer, in flight. -/
abbrev cdD (codes : S256x2048.Idx → Elt F .fp8e4m3) : sProp 𝕄 := iprop(cdPt c codes ∗ a1Pt c codes)
abbrev scD (scales : S1x256.Idx → Elt F .f32) : sProp 𝕄 := iprop(scPt c scales ∗ a2Pt c scales)

theorem cd_landed (codes f : S256x2048.Idx → Elt F .fp8e4m3) :
    iprop((mCd.view.loc (c : Thread nD τ) ↦[mCd.view.set]{fullShare} mCd.view.write (Elt F) f (mA1.view.read (Elt F) codes) Finset.univ)
      ∗ mA1.view.loc (c : Thread nD τ) ↦[mA1.view.set]{fullShare} codes) ⊢ cdD c codes := by
  refine sep_mono (Entails.of_eq ?_) (Entails.of_eq (whole_pt (F := F) c main_arg0 fullShare codes).symm)
  rw [show mCd.view.write (Elt F) f (mA1.view.read (Elt F) codes) Finset.univ = codes from View.write_whole_univ (Val := Elt F) cc0_scratch0 f codes]
  exact (whole_pt (F := F) c cc0_scratch0 fullShare codes).symm
theorem sc_landed (scales f : S1x256.Idx → Elt F .f32) :
    iprop((mSc.view.loc (c : Thread nD τ) ↦[mSc.view.set]{fullShare} mSc.view.write (Elt F) f (mA2.view.read (Elt F) scales) Finset.univ)
      ∗ mA2.view.loc (c : Thread nD τ) ↦[mA2.view.set]{fullShare} scales) ⊢ scD c scales := by
  refine sep_mono (Entails.of_eq ?_) (Entails.of_eq (whole_pt (F := F) c main_v0 fullShare scales).symm)
  rw [show mSc.view.write (Elt F) f (mA2.view.read (Elt F) scales) Finset.univ = scales from View.write_whole_univ (Val := Elt F) cc0_scratch1 f scales]
  exact (whole_pt (F := F) c cc0_scratch1 fullShare scales).symm

/-! ## Up to the products -/

theorem part1_run (fo : S17.Idx → BitVec 32) (fc : S16.Idx → BitVec 32) (codes : S256x2048.Idx → Elt F .fp8e4m3) (scales : S1x256.Idx → Elt F .f32)
    (fX : S256x2048.Idx → Elt F .bf16) (fXt : S2048x256.Idx → Elt F .bf16) (f0 : HIdx → Elt F .f32)
    {β : Type} (kk : (Σ' (v9 : BitVec 32) (_ : k0_chk5 v9), IVec S1x256 32) → Prog (TpuEff nD τ sig (Elt F) Λ₀ .tc) β) (Q : β → sProp 𝕄) :
    iprop(oPt c fo ∗ cPt c fc ∗ (∃ f, cdPt (F := F) c f) ∗ (∃ f, scPt (F := F) c f) ∗ (∃ f, xPt (F := F) c f) ∗ (∃ f, xtPt (F := F) c f) ∗ (∃ f, zPt (F := F) c f)
        ∗ sv (F := F) c 2 ∗ sv (F := F) c 3 ∗ sv (F := F) c 4 ∗ a1Pt c codes ∗ a2Pt c scales ∗ (∃ W, owes (c : Thread nD τ) 0 W)
        ∗ bigSep (Finset.range 16) fun e => if isEmp fo e then row c f0 e else iprop(emp))
      ⊢ iprop((∀ hw : k0_chk5 (BitVec.ofNat 32 (nZ fo)), iprop(oPt c fo ∗ cPt c (cntC fo fc 16) ∗ cdPt c codes ∗ scPt c scales ∗ xPt c (k0_pay6 scales codes) ∗ xtPt c (k0_pay7 scales codes)
            ∗ zRest (F := F) c (nZ fo)
            ∗ sv (F := F) c 2 ∗ sv (F := F) c 3 ∗ zBatch c fo (hFin fo fX fXt f0) (nZ fo) (nZ fo) 0 ∗ a1Pt c codes ∗ a2Pt c scales ∗ (∃ W, owes (c : Thread nD τ) 0 W))
          -∗ run c (kk ⟨BitVec.ofNat 32 (nZ fo), hw, rowIota⟩) Q)
        -∗ run c (part1B (F := F) >>= kk) Q) := by
  iintro ⟨HF, HC, ⟨%f5, HCd⟩, ⟨%f6, HSc⟩, ⟨%f7, HX⟩, ⟨%f8, HXt⟩, ⟨%f9, HZ⟩, Hs2, Hs3, Hs4, HA1, HA2, ⟨%W, HO⟩, HR⟩ HK
  unfold part1B
  rw [k0_part1_eq_skeleton]
  rw [show ∀ p : Prog (TpuEff nD τ sig (Elt F) Λ₀ .tc) (Σ' (v9 : BitVec 32) (_ : k0_chk5 v9), IVec S1x256 32), run c (p >>= kk) Q = run c p (fun r => run c (kk r) Q) from fun p => wp_bind ..]
  unfold k0_part1_skel
  dsimp only
  ihave HCd := (Entails.of_eq (whole_pt (F := F) c cc0_scratch0 fullShare f5)) $$ HCd
  ihave HA1 := (Entails.of_eq (whole_pt (F := F) c main_arg0 fullShare codes)) $$ HA1
  iapply (Transfers.wp_dmaLocal (EC (F := F)) Variants.none (c : Thread nD τ) none (src := mA1) (dst := mCd) (sm := .dma 2) () 16384 (by show RefSig.tileCredit S256x2048 .fp8e4m3 = 16384; decide) (by decide) subset_rfl)
    $$ [HCd HA1 Hs2]
  · isplitl [HA1]; · iexact HA1
    isplitl [HCd]; · iexact HCd
    iexact Hs2
  iintro HF1
  ihave HF1 := (Transfers.Flight_mono (EC (F := F)) (c : Thread nD τ) (cd_landed c codes f5)) $$ HF1
  ihave HSc := (Entails.of_eq (whole_pt (F := F) c cc0_scratch1 fullShare f6)) $$ HSc
  ihave HA2 := (Entails.of_eq (whole_pt (F := F) c main_v0 fullShare scales)) $$ HA2
  iapply (Transfers.wp_dmaLocal (EC (F := F)) Variants.none (c : Thread nD τ) none (src := mA2) (dst := mSc) (sm := .dma 3) () 32 (by show RefSig.tileCredit S1x256 .f32 = 32; decide) (by decide) subset_rfl)
    $$ [HSc HA2 Hs3]
  · isplitl [HA2]; · iexact HA2
    isplitl [HSc]; · iexact HSc
    iexact Hs3
  iintro HF2
  ihave HF2 := (Transfers.Flight_mono (EC (F := F)) (c : Thread nD τ) (sc_landed c scales f6)) $$ HF2
  iapply (wp_ldU c mZ _ _ fullShare f9) $$ HZ
  iintro HZ
  iapply (wp_stU c mZ _ _ _ _ f9) $$ HZ
  iintro HZ
  rw [z_store]
  ihave HZ := (zeros_split c (nZ fo)) $$ HZ
  icases HZ with ⟨HZr, HT⟩
  ihave Hs4 := (show sv (F := F) c 4 ⊢ semVal ((c : Thread nD τ), SemLoc.dma cc0_scratch7.sem) 0 from .rfl) $$ Hs4
  imod (Transfers.batch_alloc' (EC (F := F)) (c : Thread nD τ) () NN (zD c fo (hFin fo fX fXt f0) (nZ fo)) (sm := .dma cc0_scratch7.sem) (E := Set.univ)) $$ Hs4 with HB
  iapply (Scf.wp_for_bind frame (wpE (defs₀ (F := F)) Variants.none (c : Thread nD τ) none) Set.univ _ _ _ k0_t1_ok _
      (t1B (F := F)) (inv1 c fo fc (hFin fo fX fXt f0) f0 (nZ fo))
      (fun k acc => t1_step c fo fc fX fXt f0 k acc)) $$ [HF HC HB HT HR]
  · unfold inv1
    rw [Nat.count_zero, Nat.mul_zero, ← Finset.range_eq_Ico, ← Finset.range_eq_Ico]
    isplitr; · ipureintro; rfl
    isplitl [HF]; · iexact HF
    isplitl [HC]; · iexact HC
    isplitl [HB]; · iexact HB
    isplitl [HT]; · iexact HT
    iexact HR
  rw [show Scf.trips _ _ _ = 16 from t1_trips]
  unfold inv1
  iintro %acc ⟨%hacc, HF, HC, HB, -, -⟩
  subst hacc
  iapply (wp_assume (defs := defs₀ (F := F)) Variants.none (c : Thread nD τ) none Set.univ (t7_facts (nZ_lt fo)).2.2)
  simp only [ret_bind']
  iapply (Transfers.wp_waitLocal (EC (F := F)) Variants.none (c : Thread nD τ) none (sem := 3) (srcw := mA2) (dstw := mSc) () (N := 32) (by show RefSig.tileCredit S1x256 .f32 = 32; decide)) $$ [HF2 HO]
  · isplitl [HF2]; · iexact HF2
    iexact HO
  iintro ⟨⟨HSc, HA2⟩, Hs3, HO⟩
  iapply (Transfers.wp_waitLocal (EC (F := F)) Variants.none (c : Thread nD τ) none (sem := 2) (srcw := mA1) (dstw := mCd) () (N := 16384) (by show RefSig.tileCredit S256x2048 .fp8e4m3 = 16384; decide)) $$ [HF1 HO]
  · isplitl [HF1]; · iexact HF1
    iexact HO
  iintro ⟨⟨HCd, HA1⟩, Hs2, HO⟩
  iapply (wp_ldU c mSc _ _ fullShare scales) $$ HSc
  iintro HSc
  iapply (wp_ldU c mCd _ _ fullShare codes) $$ HCd
  iintro HCd
  rw [sc_load, cd_load]
  iapply (wp_ldU c mX _ _ fullShare f7) $$ HX
  iintro HX
  iapply (wp_stU c mX _ _ _ _ f7) $$ HX
  iintro HX
  rw [x_store]
  iapply (wp_ldU c mXt _ _ fullShare f8) $$ HXt
  iintro HXt
  iapply (wp_stU c mXt _ _ _ _ f8) $$ HXt
  iintro HXt
  rw [xt_store]
  unfold run
  sl_step
  iapply HK
  isplitl [HF]; · iexact HF
  isplitl [HC]; · iexact HC
  isplitl [HCd]; · iexact HCd
  isplitl [HSc]; · iexact HSc
  isplitl [HX]; · iexact HX
  isplitl [HXt]; · iexact HXt
  isplitl [HZr]; · iexact HZr
  isplitl [Hs2]; · iexact Hs2
  isplitl [Hs3]; · iexact Hs3
  isplitl [HB]; · iexact HB
  isplitl [HA1]; · iexact HA1
  isplitl [HA2]; · iexact HA2
  iexists _; iexact HO

end

end Cert.KernelIdeal.Hand

end
-- ==== Proof.Ideal.Whole.lean ====
/-
  The body, from what the launch hands it to what it hands back: every buffer of its own at something, the semaphores at
  zero, the codes and the scales as they were, the counts and the Hessian at their values.
-/
module

public import proofs.«01_k».proof.Proof.Ideal.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD)

/-- The body's own buffers, at anything, and its semaphores at zero. -/
abbrev ownAny : sProp 𝕄 :=
  iprop((∃ f, cdPt (F := F) c f) ∗ (∃ f, scPt (F := F) c f) ∗ (∃ f, xPt (F := F) c f) ∗ (∃ f, xtPt (F := F) c f) ∗ (∃ f, zPt (F := F) c f) ∗ (∃ f, rgPt (F := F) c f)
    ∗ sv (F := F) c 2 ∗ sv (F := F) c 3 ∗ sv (F := F) c 4 ∗ bigSep (Finset.range 8) fun m => sv (F := F) c (rSem (fM m)))

theorem slots_free (hf : HIdx → Elt F .f32) :
    (slots c hf none : sProp 𝕄) = iprop((bigSep (Finset.range 8) fun m => rAny (F := F) c (fM m)) ∗ bigSep (Finset.range 8) fun m => sv (F := F) c (rSem (fM m))) :=
  bigSep_sepi _ _ _

/-- The Hessian the body writes. -/
abbrev hOut (fo : S17.Idx → BitVec 32) (codes : S256x2048.Idx → Elt F .fp8e4m3) (scales : S1x256.Idx → Elt F .f32) (f0 : HIdx → Elt F .f32) : HIdx → Elt F .f32 :=
  hFin fo (k0_pay6 scales codes) (k0_pay7 scales codes) f0

theorem body_run (fo : S17.Idx → BitVec 32) (fc : S16.Idx → BitVec 32) (codes : S256x2048.Idx → Elt F .fp8e4m3) (scales : S1x256.Idx → Elt F .f32) (f0 : HIdx → Elt F .f32) :
    iprop(oPt c fo ∗ cPt c fc ∗ ownAny (F := F) c ∗ a1Pt c codes ∗ a2Pt c scales ∗ hhPt c f0 ∗ (∃ W, owes (c : Thread nD τ) 0 W))
      ⊢ run c (bodyB (F := F)) (fun _ => iprop(oPt c fo ∗ cPt c (cntC fo fc 16) ∗ ownAny (F := F) c ∗ a1Pt c codes ∗ a2Pt c scales ∗ hhPt c (hOut fo codes scales f0)
          ∗ (∃ W, owes (c : Thread nD τ) 0 W))) := by
  have hq : Nat.count (isNe fo) 16 < 17 := lt_of_le_of_lt (Nat.count_le (isNe fo)) (by decide)
  unfold ownAny
  iintro ⟨HF, HC, ⟨HCd, HSc, HX, HXt, HZ, ⟨%g, HRg⟩, Hs2, Hs3, Hs4, Hs8⟩, HA1, HA2, HH, HO⟩
  ihave HH := (Entails.of_eq (h_rows c f0)) $$ HH
  ihave HH := (rows_split c fo f0) $$ HH
  icases HH with ⟨HEm, HNe, HOt⟩
  ihave HRg := (ring_split c g) $$ HRg
  ihave HS := (Entails.of_eq (slots_free c (hOut fo codes scales f0)).symm) $$ [HRg Hs8]
  · isplitl [HRg]; · iexact HRg
    iexact Hs8
  unfold bodyB
  rw [cc0_moe_hessian_eq_skeleton]
  unfold cc0_moe_hessian_skel
  dsimp only
  iapply (part1_run c fo fc codes scales (k0_pay6 scales codes) (k0_pay7 scales codes) f0) $$ [HF HC HCd HSc HX HXt HZ Hs2 Hs3 Hs4 HA1 HA2 HO HEm]
  · isplitl [HF]; · iexact HF
    isplitl [HC]; · iexact HC
    isplitl [HCd]; · iexact HCd
    isplitl [HSc]; · iexact HSc
    isplitl [HX]; · iexact HX
    isplitl [HXt]; · iexact HXt
    isplitl [HZ]; · iexact HZ
    isplitl [Hs2]; · iexact Hs2
    isplitl [Hs3]; · iexact Hs3
    isplitl [Hs4]; · iexact Hs4
    isplitl [HA1]; · iexact HA1
    isplitl [HA2]; · iexact HA2
    isplitl [HO]; · iexact HO
    iexact HEm
  iintro %hw ⟨HF, HC, HCd, HSc, HX, HXt, HZr, Hs2, Hs3, HB, HA1, HA2, HO⟩
  dsimp only
  iapply (Scf.wp_for_bind frame (wpE (defs₀ (F := F)) Variants.none (c : Thread nD τ) none) Set.univ _ _ _ k0_t4_ok _
      (t4B (F := F)) (inv4 c fo (k0_pay6 scales codes) (k0_pay7 scales codes) (hOut fo codes scales f0) f0)
      (fun k acc => t4_step c fo (k0_pay6 scales codes) (k0_pay7 scales codes) f0 k acc)) $$ [HF HX HXt HO HS HNe]
  · unfold inv4
    rw [Nat.count_zero, Nat.mul_zero, ← Finset.range_eq_Ico]
    isplitr; · ipureintro; rfl
    isplitl [HF]; · iexact HF
    isplitl [HX]; · iexact HX
    isplitl [HXt]; · iexact HXt
    isplitl [HO]; · iexact HO
    isplitl [HS]; · iexact HS
    isplitr; · (unfold retd; iempintro)
    iexact HNe
  rw [show Scf.trips _ _ _ = 16 from t4_trips]
  unfold inv4
  iintro %acc ⟨%hacc, HF, HX, HXt, HO, HS, HD, -⟩
  subst hacc
  iapply (wp_assume (defs := defs₀ (F := F)) Variants.none (c : Thread nD τ) none Set.univ (chk6_all hq))
  simp only [ret_bind']
  iapply (t7_loop c fo (hOut fo codes scales f0) (nZ fo) (nZ_lt fo) hw) $$ [HB HO]
  · isplitl [HB]; · iexact HB
    iexact HO
  iintro ⟨HB, HO⟩
  iapply (no_trips c _ _ _ (k0_t8_ok _ hw) _ (t8B (F := F) _ hw) (t7_facts (nZ_lt fo)).2.1)
  iapply (t9_loop c fo (hOut fo codes scales f0) _ hq (last fo 16) (last_iff fo 16) (chk6_all hq)) $$ [HO HS]
  · isplitl [HO]; · iexact HO
    iexact HS
  iintro ⟨HO, HS, HRet⟩
  iapply (no_trips c _ _ _ (k0_t10_ok _ (chk6_all hq)) _ (t10B (F := F) _ (chk6_all hq)) (t9_facts hq).2.1)
  imod (Transfers.batch_collect' (EC (F := F)) (c : Thread nD τ) (N := NN) (by decide)) $$ HB with ⟨HB, Hs4⟩
  ihave HB := (zD_all c fo (hOut fo codes scales f0)) $$ HB
  icases HB with ⟨HEm, HT⟩
  ihave HZ := (zeros_join (F := F) c (nZ fo)) $$ [HZr HT]
  · isplitl [HZr]; · iexact HZr
    iexact HT
  ihave HNe := (retd_all c fo (hOut fo codes scales f0) 16) $$ [HD HRet]
  · isplitl [HD]; · iexact HD
    iexact HRet
  ihave HH := (rows_join c fo (k0_pay6 scales codes) (k0_pay7 scales codes) f0) $$ [HEm HNe HOt]
  · isplitl [HEm]; · iexact HEm
    isplitl [HNe]; · iexact HNe
    iexact HOt
  ihave HH := (Entails.of_eq (h_rows c (hOut fo codes scales f0)).symm) $$ HH
  ihave HS := (Entails.of_eq (slots_free c (hOut fo codes scales f0))) $$ HS
  icases HS with ⟨HRg, Hs8⟩
  ihave HRg := (ring_join c g) $$ HRg
  sl_step
  isplitl [HF]; · iexact HF
  isplitl [HC]; · iexact HC
  isplitl [HCd HSc HX HXt HZ HRg Hs2 Hs3 Hs4 Hs8]
  · isplitl [HCd]; · iexists _; iexact HCd
    isplitl [HSc]; · iexists _; iexact HSc
    isplitl [HX]; · iexists _; iexact HX
    isplitl [HXt]; · iexists _; iexact HXt
    isplitl [HZ]; · iexists _; iexact HZ
    isplitl [HRg]; · iexact HRg
    isplitl [Hs2]; · iexact Hs2
    isplitl [Hs3]; · iexact Hs3
    isplitl [Hs4]; · iexact Hs4
    iexact Hs8
  isplitl [HA1]; · iexact HA1
  isplitl [HA2]; · iexact HA2
  isplitl [HH]; · iexact HH
  iexact HO

end

end Cert.KernelIdeal.Hand

end
-- ==== Proof.Ideal.Run.lean ====
/-
  The program's run: the host's reshape of the scales, then the region, whose one point is the body. The arguments end as
  they were, the counts and the Hessian at their values, every semaphore at zero.
-/
module

public import proofs.«01_k».proof.Proof.Ideal.Whole
public import proofs.«01_k».proof.Proof.Gen.KernelIdeal.Launch
public import proofs.«01_k».proof.Proof.Gen.KernelIdeal.Frame
public import proofs.«01_k».proof.Proof.Gen.KernelIdeal.Points
public import Idealize.ShloMosaic.Lib.Pipeline.FrameBody
public import Idealize.ShloMosaic.Lib.Pipeline.FrameValue
public import Idealize.ShloMosaic.Lib.Pipeline.ValueKit.Geometry

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What is staged, read and written -/

/-- The buffer the body writes by transfers of its own: the Hessian. -/
def R0 : Finset (Ref sig .tc) := {main_v1_0}
/-- The buffers its transfers read: the codes and the scales. -/
def H0 : Finset (Ref sig .tc) := {main_arg0, main_v0}
theorem H0_sub : H0 ⊆ Pipeline.restRefs sig spec0 := by decide
theorem R0_sub : R0 ⊆ Pipeline.restRefs sig spec0 \ H0 := by decide

/-- The body's semaphores. -/
abbrev osem0 : Fin 11 → SemLoc sig := fun j =>
  (![SemLoc.dma 2, SemLoc.dma 3, SemLoc.dma 4, SemLoc.dma 5, SemLoc.dma 6, SemLoc.dma 7, SemLoc.dma 8, SemLoc.dma 9, SemLoc.dma 10, SemLoc.dma 11, SemLoc.dma 12] : Fin 11 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(sv c 2 ∗ sv c 3 ∗ sv c 4 ∗ sv c 5 ∗ sv c 6 ∗ sv c 7 ∗ sv c 8 ∗ sv c 9 ∗ sv c 10 ∗ sv c 11 ∗ sv c 12) := by
  rw [Pipeline.ownSems0_eq_of_list c osem0 [0, 1, 2, 3, 4, 5, 6, 7, 8, 9, 10] (by decide) (by decide)]; rfl

theorem ring_sems (c : Dev nD) :
    (bigSep (Finset.range 8) fun k => sv (F := F) c (rSem (fM k)))
      = iprop(sv (F := F) c 5 ∗ sv (F := F) c 6 ∗ sv (F := F) c 7 ∗ sv (F := F) c 8 ∗ sv (F := F) c 9 ∗ sv (F := F) c 10 ∗ sv (F := F) c 11 ∗ sv (F := F) c 12) := by
  rw [BI.bigSep_eq_bigSepL_of_eq [0, 1, 2, 3, 4, 5, 6, 7] (by decide) (by decide)]; rfl

/-! ## @main up to the region -/

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem hbmPts0_eq (c : Dev nD) :
    (bigSep H0 (fun b => ((c : Thread nD τ).loc b) ↦{fullShare} V m c b) : sProp 𝕄)
      = iprop(a1Pt c (V m c main_arg0) ∗ a2Pt c (V m c main_v0)) := by
  rw [BI.bigSep_eq_bigSepL_of_eq [main_arg0, main_v0] (by decide) (by decide)]; rfl
theorem routed0_eq (c : Dev nD) (G : (b : Ref sig .tc) → Buf (Elt F) ((c.tc : Thread nD τ).loc b)) :
    (Pipeline.routed R0 c G : sProp 𝕄) = hhPt c (G main_v1_0) := by
  unfold Pipeline.routed
  rw [BI.bigSep_eq_bigSepL_of_eq [main_v1_0] (by decide) (by decide)]; rfl

theorem PhiDRG0_eq (G : (c : Dev nD) → (b : Ref sig .tc) → Buf (Elt F) ((c.tc : Thread nD τ).loc b)) (c : Dev nD) :
    (Pipeline.ΦDRG osem0 spec0 H0 R0 (V m) G c : sProp 𝕄)
      = iprop(iprop((∃ f, cdPt (F := F) c f) ∗ (∃ f, scPt (F := F) c f) ∗ (∃ f, xPt (F := F) c f) ∗ (∃ f, xtPt (F := F) c f) ∗ (∃ f, zPt (F := F) c f) ∗ (∃ f, rgPt (F := F) c f))
          ∗ (∃ r, prngReg c r)
          ∗ iprop(sv c 2 ∗ sv c 3 ∗ sv c 4 ∗ sv c 5 ∗ sv c 6 ∗ sv c 7 ∗ sv c 8 ∗ sv c 9 ∗ sv c 10 ∗ sv c 11 ∗ sv c 12)
          ∗ iprop(a1Pt c (V m c main_arg0) ∗ a2Pt c (V m c main_v0))
          ∗ hhPt c (G c main_v1_0)) := by
  rw [Pipeline.ΦDRG_eq, hbmPts0_eq, routed0_eq, ownSems00_eq, scopedRest0_eq]; rfl

/-! ## The values -/

/-- The counts. -/
def cntOut (fo : S17.Idx → BitVec 32) : S16.Idx → BitVec 32 := fun i => cntW fo (i 0).val
theorem cntC_all (fo : S17.Idx → BitVec 32) (fc : S16.Idx → BitVec 32) : cntC fo fc 16 = cntOut fo := by
  funext i
  unfold cntC cntOut
  rw [if_pos (show (i 0).val < 16 from (i 0).isLt)]

/-- The offsets as staged. -/
abbrev foAt (c : Dev nD) : S17.Idx → BitVec 32 := iblk m c 0 t0_0
/-- The Hessian after the region. -/
abbrev hRun (c : Dev nD) : HIdx → Elt F .f32 := hOut (foAt m c) (V m c main_arg0) (V m c main_v0) (V m c main_v1_0)

/-- The contents after the region of the buffers the body writes. -/
def G0 (c : Dev nD) (b : Ref sig .tc) : Buf (Elt F) ((c.tc : Thread nD τ).loc b) :=
  Function.update (V m c) main_v1_0 (hRun m c) b
theorem G0_h (c : Dev nD) : G0 m c main_v1_0 = hRun m c := Function.update_self ..

/-! ## The proof data and the body's obligation -/

/-- The invariant: the launch's before the point, the results' after it. -/
def PhiAt (c : Dev nD) (n : ℕ) : sProp 𝕄 :=
  if n = 0 then Pipeline.ΦDRG osem0 spec0 H0 R0 (V m) (V m) c else Pipeline.ΦDRG osem0 spec0 H0 R0 (V m) (G0 m) c

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => cntOut (foAt m c)
  Φ t := PhiAt m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = cntOut (foAt m c) := by dsimp only [dats]

theorem before0_0 {c : Dev nD} (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

theorem Phi_in (c : Dev nD) : (dats m 0 c).Φ t0_0.castSucc = Pipeline.ΦDRG osem0 spec0 H0 R0 (V m) (V m) c := by
  show PhiAt m c 0 = _
  unfold PhiAt; rw [if_pos rfl]
theorem Phi_out (c : Dev nD) : (dats m 0 c).Φ t0_0.succ = Pipeline.ΦDRG osem0 spec0 H0 R0 (V m) (G0 m) c := by
  show PhiAt m c 1 = _
  unfold PhiAt; rw [if_neg (by decide)]

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t))

theorem own_o (c : Dev nD) (f : S17.Idx → BitVec 32) :
    (owns (c : Thread nD τ) (stage0_0 0) fullShare f : sProp 𝕄) = oPt (F := F) c f :=
  owns_whole (Val := Elt F) (c : Thread nD τ) cc0_stg0_0 fullShare f
theorem own_c (c : Dev nD) (f : S16.Idx → BitVec 32) :
    (owns (c : Thread nD τ) (stage0_1 0) fullShare f : sProp 𝕄) = cPt (F := F) c f :=
  owns_whole (Val := Elt F) (c : Thread nD τ) cc0_stg1_0 fullShare f

theorem bodyAt0_eq (t : Fin cfg0.N) : bodyAt0 (F := F) t = bodyB (F := F) := by
  unfold bodyAt0
  have h : ∀ s0 s1 : Fin 1, cc0_moe_hessian (F := F) (win0_0.stage s0) (hstage0_0 0) (Memref.whole main_arg0) (Memref.isWhole_whole _) (Memref.whole main_v0) (Memref.isWhole_whole _) (Memref.whole main_v1_0) (Memref.isWhole_whole _) (win0_1.stage s1) (hstage0_1 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 = bodyB (F := F) := by
    intro s0 s1
    obtain rfl : s0 = 0 := Subsingleton.elim _ _
    obtain rfl : s1 = 0 := Subsingleton.elim _ _
    rfl
  exact h _ _

/-- What the body finds and leaves, the staged scalars as their buffers. -/
abbrev midPre (c : Dev nD) : sProp 𝕄 :=
  iprop(Pipeline.ΦDRG osem0 spec0 H0 R0 (V m) (V m) c ∗ (dats m 0 c).owesAt () t0_0.castSucc ∗ oPt (F := F) c (foAt m c) ∗ ∃ d, cPt (F := F) c d)
abbrev midPost (c : Dev nD) : sProp 𝕄 :=
  iprop(Pipeline.ΦDRG osem0 spec0 H0 R0 (V m) (G0 m) c ∗ (dats m 0 c).owesAt () t0_0.succ ∗ oPt (F := F) c (foAt m c) ∗ cPt (F := F) c (cntOut (foAt m c)))

theorem stage_o (c : Dev nD) (s : Fin 1) (f : S17.Idx → BitVec 32) :
    (owns (c : Thread nD τ) (win0_0.stage s) fullShare f : sProp 𝕄) = oPt (F := F) c f := by
  obtain rfl : s = 0 := Subsingleton.elim _ _
  exact own_o c f
theorem stage_c (c : Dev nD) (s : Fin 1) (f : S16.Idx → BitVec 32) :
    (owns (c : Thread nD τ) (win0_1.stage s) fullShare f : sProp 𝕄) = cPt (F := F) c f := by
  obtain rfl : s = 0 := Subsingleton.elim _ _
  exact own_c c f

theorem pre_of (c : Dev nD) : bodyPre m c t0_0 ⊢ midPre m c := by
  unfold bodyPre
  rw [Phi_in]
  refine sep_mono .rfl (sep_mono .rfl (sep_mono (exists_elim fun d => ?_) (exists_elim fun d => ?_)))
  · rw [before0_0]
    exact Entails.of_eq (stage_o c _ (foAt m c))
  · exact (Entails.of_eq (stage_c c _ ((dats m 0 c).before 1 t0_0 d))).trans (exists_intro (Φ := fun d => cPt (F := F) c d) _)
theorem post_of (c : Dev nD) : midPost m c ⊢ bodyPost m c t0_0 := by
  unfold bodyPost
  rw [Phi_out, after0_0, after0_1]
  refine BIClass.sep_mono .rfl (BIClass.sep_mono .rfl (BIClass.sep_mono ?_ ?_))
  · exact Entails.of_eq (stage_o c _ (foAt m c)).symm
  · exact Entails.of_eq (stage_c c _ (cntOut (foAt m c))).symm

theorem mid_body (c : Dev nD) : midPre m c ⊢ run c (bodyB (F := F)) (fun _ => midPost m c) := by
  unfold midPre midPost
  rw [PhiDRG0_eq, PhiDRG0_eq, G0_h]
  unfold Dat.owesAt Pipeline.owesWithin
  rw [show (dats m 0 c).owed t0_0.castSucc = 0 from rfl, show (dats m 0 c).owed t0_0.succ = 0 from rfl]
  iintro ⟨⟨⟨HS0, HS1, HS2, HS3, HS4, HS5⟩, Hg, ⟨Hq0, Hq1, Hq2, Hq3, Hq4, Hq5, Hq6, Hq7, Hq8, Hq9, Hq10⟩, ⟨HA1, HA2⟩, HH⟩, ⟨%W, -, HW⟩, HF, ⟨%d1, HC⟩⟩
  ihave HR := (body_run c (foAt m c) d1 (V m c main_arg0) (V m c main_v0) (V m c main_v1_0)) $$ [HS0 HS1 HS2 HS3 HS4 HS5 Hq0 Hq1 Hq2 Hq3 Hq4 Hq5 Hq6 Hq7 Hq8 Hq9 Hq10 HA1 HA2 HH HW HF HC]
  · isplitl [HF]; · iexact HF
    isplitl [HC]; · iexact HC
    isplitl [HS0 HS1 HS2 HS3 HS4 HS5 Hq0 Hq1 Hq2 Hq3 Hq4 Hq5 Hq6 Hq7 Hq8 Hq9 Hq10]
    · unfold ownAny
      rw [ring_sems]
      isplitl [HS0]; · iexact HS0
      isplitl [HS1]; · iexact HS1
      isplitl [HS2]; · iexact HS2
      isplitl [HS3]; · iexact HS3
      isplitl [HS4]; · iexact HS4
      isplitl [HS5]; · iexact HS5
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      iexact Hq10
    isplitl [HA1]; · iexact HA1
    isplitl [HA2]; · iexact HA2
    isplitl [HH]; · iexact HH
    iexists W; iexact HW
  iapply wp_wand $$ HR
  iintro %u
  unfold ownAny
  rw [ring_sems, cntC_all]
  iintro ⟨HF, HC, ⟨HS0, HS1, HS2, HS3, HS4, HS5, Hq0, Hq1, Hq2, Hq3, Hq4, Hq5, Hq6, Hq7, Hq8, Hq9, Hq10⟩, HA1, HA2, HH, ⟨%W', HW⟩⟩
  isplitl [HS0 HS1 HS2 HS3 HS4 HS5 Hg Hq0 Hq1 Hq2 Hq3 Hq4 Hq5 Hq6 Hq7 Hq8 Hq9 Hq10 HA1 HA2 HH]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    isplitl [Hg]; · iexact Hg
    isplitl [Hq0 Hq1 Hq2 Hq3 Hq4 Hq5 Hq6 Hq7 Hq8 Hq9 Hq10]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      iexact Hq10
    isplitl [HA1 HA2]
    · isplitl [HA1]; · iexact HA1
      iexact HA2
    iexact HH
  isplitl [HW]
  · iexists W'; isplitr; · ipureintro; exact fun _ _ => Or.inl trivial
    iexact HW
  isplitl [HF]; · iexact HF
  iexact HC

theorem sound_body (c : Dev nD) (t : Fin cfg0.N) :
    bodyPre m c t ⊢ wp frame (wpE (defs₀ (F := F)) Variants.none c none) Set.univ (bodyAt0 t) (fun _ => bodyPost m c t) := by
  rw [bodyAt0_eq]
  obtain rfl : t = t0_0 := fin_N0 t
  exact (pre_of m c).trans ((mid_body m c).trans (wp_mono _ _ _ fun _ => post_of m c))

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ) (fun r => Pipeline.FramePostRG cfgs (dats m) 0 R0 (V m) (G0 m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m) (G := G0 m)
    (hin := fun _ => .rfl) (hout := fun _ => .rfl)

/-- The counts' array after the region. -/
theorem final_cnt (c : Dev nD) : (dats m 0 c).arrAt 1 cfg0.N = cntOut (foAt m c) := by
  refine (dats m 0 c).arrAt_eq_of_after_last 1 t0_0 (by decide +kernel) (cntOut (foAt m c)) (fun j => ?_)
  rw [after0_1]
  rfl

/-- The offsets as staged are the argument's. -/
theorem foAt_eq (c : Dev nD) : foAt m c = m ((c : Thread nD τ).loc main_arg2) := by
  funext j
  show V m c main_arg2 _ = _
  rw [V_main_arg2]
  congr 1
  funext a
  refine Fin.ext ?_
  fin_cases a
  show 0 * 17 + 1 * (j 0).val = (j 0).val
  omega

/-- The run, buffer by buffer. -/
theorem run_values : θ_run defs (onTc (τ := τ) (main (F := F))) ⟨m, fun _ => 0, ρ⟩ (fun r => (∀ c : Dev nD,
      r.2.mem ((c.tc : Thread nD τ).loc main_v1_0) = hRun m c
      ∧ r.2.mem ((c.tc : Thread nD τ).loc main_v1_1) = cntOut (foAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h.1.2 c main_v1_0 (by decide)).trans (G0_h m c),
      ((h.1.1 c).1 1).trans (final_cnt m c),
      ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).1 0).trans (((dats m 0 c).arrAt_in 0 rfl _).trans ((A_eq m c 0).trans (V_main_arg2 m c)))⟩, h.2⟩) (run_main m ρ)

/-- The frame. -/
theorem frameQ : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h.1 c).2.2, h.2⟩) (run_values m ρ)

end Cert.KernelIdeal.Hand

end
-- ==== Proof.RefRun.lean ====
/-
  The reference's run, buffer by buffer.
-/
module

public import proofs.«01_k».proof.Proof.Gen.ReferenceIdeal.Frame
public import Idealize.ShloMosaic.Lib.Claim
public import Idealize.ShloMosaic.Lib.Pointwise
public import Idealize.ShloMosaic.Lib.StableHlo.ReadAt
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic Idealize.SL.Sem

variable (m : (ℓ : Loc nD τ sig) → Buf (Elt Ideal) ℓ) (ρ : Dev nD → PrngReg)

/-- The dequantised rows. -/
def rows (codes : S256x2048.Idx → EReal) (scales : S256.Idx → EReal) : S256x2048.Idx → EReal :=
  fun i => codes i * scales (ix1 (i 0))

/-- Row `k` is in the range from `lo` to `hi`. -/
abbrev keepBit (lo hi : BitVec 32) (k : ℕ) : BitVec 1 :=
  IntOp.andi (IntOp.cmpi .sge (BitVec.ofNat 32 k) lo) (IntOp.cmpi .slt (BitVec.ofNat 32 k) hi)

/-- The codes as the body reads them. -/
theorem codes_read (c : Dev nD) (t : Fin cfg0.N) (ht : t = ⟨0, by decide⟩) :
    (View.read (Elt Ideal) ((cfg0.win 0).blk t).view (V m c (Pipeline.arrRef spec0 0)) : S256x2048.Idx → EReal) = m ((c : Thread nD τ).loc main_arg0) := by
  subst ht
  funext j
  show V m c main_arg0 _ = _
  rw [V_main_arg0]
  congr 1
  funext a
  refine Fin.ext ?_
  fin_cases a
  · show 0 * 256 + 1 * (j 0).val = (j 0).val
    omega
  · show 0 * 2048 + 1 * (j 1).val = (j 1).val
    omega

theorem V_v0 (c : Dev nD) (r : Fin 256) : (V m c main_v0 : S256x1.Idx → EReal) (ix2 r 0) = (m ((c : Thread nD τ).loc main_arg1) : S256.Idx → EReal) (ix1 r) := by
  unfold V V0 hostOps0
  simp only [List.flatten_cons, List.flatten_nil, List.append_nil, List.cons_append, List.nil_append]
  after_reads_at

/-- The scales as the body reads them. -/
theorem scales_read (c : Dev nD) (t : Fin cfg0.N) (ht : t = ⟨0, by decide⟩) (r : Fin 256) :
    (View.read (Elt Ideal) ((cfg0.win 1).blk t).view (V m c (Pipeline.arrRef spec0 1)) : S256x1.Idx → EReal) (ix2 r 0) = (m ((c : Thread nD τ).loc main_arg1) : S256.Idx → EReal) (ix1 r) := by
  subst ht
  refine Eq.trans ?_ (V_v0 m c r)
  show V m c main_v0 _ = V m c main_v0 _
  congr 1
  funext a
  refine Fin.ext ?_
  fin_cases a
  · show 0 * 256 + 1 * r.val = r.val
    omega
  · rfl

theorem pay1_at (x0 : Vec Ideal S256x2048 .fp8e4m3) (x1 : Vec Ideal S256x1 .f32) (r : Fin 256) (k : Fin 2048) :
    k0_pay1 x0 x1 (ix2 r k) = x0 (ix2 r k) * x1 (ix2 r 0) := by
  pointwise [k0_pay1]

/-- The array of dequantised rows after the region. -/
theorem v1_at (c : Dev nD) (r : Fin 256) (k : Fin 2048) :
    (dats m 0 c).arrAt 2 (cfgs 0).N (ix2 r k) = rows (m ((c : Thread nD τ).loc main_arg0)) (m ((c : Thread nD τ).loc main_arg1)) (ix2 r k) := by
  have h : (dats m 0 c).arrAt 2 (cfgs 0).N = rows (m ((c : Thread nD τ).loc main_arg0)) (m ((c : Thread nD τ).loc main_arg1)) := by
    refine (dats m 0 c).arrAt_eq_of_after_last 2 ⟨0, by decide⟩ (by decide +kernel) _ fun j => ?_
    rw [after0_2]
    frame_out
    blk_simp [iblk]
    obtain ⟨a, b, hj⟩ : ∃ (a : Fin 256) (b : Fin 2048), j = ix2 a b := ⟨j 0, j 1, eq_ix2 j⟩
    subst hj
    refine (pay1_at _ _ a b).trans ?_
    exact congrArg₂ (fun p q : EReal => p * q) (congrFun (codes_read m c _ rfl) (ix2 a b)) (scales_read m c _ rfl a)
  rw [h]

theorem arg2_read (c : Dev nD) : Pipeline.withArrays (cfgs 0).spec c (V0 m c) (fun w => (dats m 0 c).arrAt w (cfgs 0).N) (Proc.tc.devRef main_arg2)
    = m ((c : Thread nD τ).loc main_arg2) :=
  (Pipeline.withArrays_of_ne _ c (V0 m c) _ main_arg2 (by exact (by decide : ∀ w, Pipeline.arrRef spec0 w ≠ main_arg2))).trans (V_main_arg2 m c)

theorem v1_read (c : Dev nD) : Pipeline.withArrays (cfgs 0).spec c (V0 m c) (fun w => (dats m 0 c).arrAt w (cfgs 0).N) (Proc.tc.devRef main_v1)
    = (dats m 0 c).arrAt 2 (cfgs 0).N :=
  Pipeline.withArrays_arr spec0 (by decide) c (V0 m c) _ 2

/-- The counts. -/
def refC (offs : S17.Idx → BitVec 32) : S16.Idx → BitVec 32 :=
  fun i => IntOp.subi (offs (ix1 ⟨1 + (i 0).val, by have := (i 0).isLt; change _ < 16 at this; omega⟩)) (offs (ix1 ⟨(i 0).val, by have := (i 0).isLt; change _ < 16 at this; omega⟩))

/-- The Hessians, from the dequantised rows. -/
def refH (x : S256x2048.Idx → EReal) (offs : S17.Idx → BitVec 32) : S16x2048x2048.Idx → EReal :=
  fun i => ∑ k : Fin 256, Scalar.select
    (keepBit (offs (ix1 ⟨(i 0).val, by have := (i 0).isLt; change _ < 16 at this; omega⟩)) (offs (ix1 ⟨1 + (i 0).val, by have := (i 0).isLt; change _ < 16 at this; omega⟩)) k.val)
    (x (ix2 k (i 1)) * x (ix2 k (i 2))) 0

theorem v20_eq (c : Dev nD) :
    Pipeline.afterTail₀ cfgs (dats m) 0 (V0 m) [hostOps1, hostOps1_1, hostOps1_2] c main_v20 = refC (m ((c : Thread nD τ).loc main_arg2)) := by
  funext i
  idx_vars i
  unfold Pipeline.afterTail₀
  unfold hostOps1 hostOps1_1 hostOps1_2
  simp only [List.flatten_cons, List.flatten_nil, List.append_nil, List.cons_append, List.nil_append]
  after_reads_at
  rw [arg2_read]
  rfl

theorem v19_eq (c : Dev nD) :
    Pipeline.afterTail₀ cfgs (dats m) 0 (V0 m) [hostOps1, hostOps1_1, hostOps1_2] c main_v19
      = refH (rows (m ((c : Thread nD τ).loc main_arg0)) (m ((c : Thread nD τ).loc main_arg1))) (m ((c : Thread nD τ).loc main_arg2)) := by
  funext i
  idx_vars i
  unfold Pipeline.afterTail₀
  unfold hostOps1 hostOps1_1 hostOps1_2
  simp only [List.flatten_cons, List.flatten_nil, List.append_nil, List.cons_append, List.nil_append]
  after_reads_at
  rw [arg2_read, v1_read]
  refine Finset.sum_congr rfl fun x _ => ?_
  rw [v1_at, v1_at]
  rfl

theorem run_values : θ_run defs (onTc (τ := τ) (main (F := Ideal))) ⟨m, fun _ => 0, ρ⟩ (fun r => ∀ c : Dev nD,
      r.2.mem ((c.tc : Thread nD τ).loc main_v19) = refH (rows (m ((c : Thread nD τ).loc main_arg0)) (m ((c : Thread nD τ).loc main_arg1))) (m ((c : Thread nD τ).loc main_arg2))
      ∧ r.2.mem ((c.tc : Thread nD τ).loc main_v20) = refC (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  run_from Cert.ReferenceIdeal.Gen.run_main m ρ
  · exact v19_eq m c
  · exact v20_eq m c
  · exact W_main_arg1 m (dats m) c
  · exact W_main_arg2 m (dats m) c

end Cert.ReferenceIdeal.Hand

end
-- ==== Proof.Equal.lean ====
/-
  The two programs' results are one function of the arguments: a block of the kernel's product, element by element, is the
  reference's sum over the rows, and an expert without rows has the empty sum.
-/
module

public import proofs.«01_k».proof.Proof.Ideal.Value
public import proofs.«01_k».proof.Proof.Ideal.Run
public import proofs.«01_k».proof.Proof.RefRun

@[expose] public section

set_option maxRecDepth 16384

noncomputable section

namespace Cert.Proof

open Idealize.ShloMosaic Idealize.ShloMosaic.TcCoe Idealize.ShloMosaic.Tactic
open Cert.KernelIdeal Cert.KernelIdeal.Gen Cert.KernelIdeal.Hand

/-! ## Words -/

/-- If the range's end is not below its start nor above it, it is its start. -/
theorem eq_of_ordered (a b : BitVec 32) (h : IntOp.cmpi .sle a b = 1#1) (h' : ¬ Scalar.cmpi .sgt b a = 1#1) : a = b := by
  have h1 : a.sle b = true := one_of _ h
  have h2 : ¬ a.slt b = true := fun hh => h' (by show BitVec.ofBool (a.slt b) = 1#1; rw [hh]; rfl)
  have h3 : a.toInt ≤ b.toInt := by simpa [BitVec.sle] using h1
  have h4 : ¬ a.toInt < b.toInt := by simpa [BitVec.slt] using h2
  exact BitVec.eq_of_toInt_eq (by omega)

/-- A range that ends where it starts has no row. -/
theorem keep_none (a : BitVec 32) (k : ℕ) : Cert.ReferenceIdeal.Hand.keepBit a a k = 0#1 := by
  unfold Cert.ReferenceIdeal.Hand.keepBit
  show BitVec.ofBool (a.sle (BitVec.ofNat 32 k)) &&& BitVec.ofBool ((BitVec.ofNat 32 k).slt a) = 0#1
  generalize BitVec.ofNat 32 k = w
  by_cases h : w.toInt < a.toInt
  · have : a.sle w = false := by simp [BitVec.sle]; omega
    rw [this]; cases w.slt a <;> rfl
  · have : w.slt a = false := by simp [BitVec.slt]; omega
    rw [this]; cases a.sle w <;> rfl

theorem emp_of_eq (fo : S17.Idx → BitVec 32) (e : ℕ) (h : loW fo e = hiW fo e) : isEmp fo e := by
  unfold isEmp cntW
  rw [h]
  show BitVec.ofBool (_ - _ == 0#32) = 1#1
  rw [BitVec.sub_self]; rfl

theorem at17_eq (n : ℕ) (h : n < 17) : at17 n = ix1 ⟨n, h⟩ := by
  funext a
  fin_cases a
  exact Fin.ext (Nat.mod_eq_of_lt h)

/-! ## The Hessian -/

/-- A block of the transposed rows, element by element. -/
theorem xtBlk_at (fXt : S2048x256.Idx → EReal) (q : Fin 8) (r k : Fin 256) :
    xtBlk (F := Ideal) fXt q (ix2 r k) = fXt (ix2 (⟨256 * q.val + r.val, by omega⟩ : Fin 2048) k) := by
  show fXt _ = fXt _
  congr 1
  funext a
  refine Fin.ext ?_
  fin_cases a
  · show 256 * q.val + 1 * r.val = 256 * q.val + r.val
    omega
  · show 0 + 1 * k.val = k.val
    omega

theorem inBlk_ix (e : Fin 16) (a b : Fin 2048) : inBlk (ix3 e a b) = ix3 0 (⟨a.val % 256, Nat.mod_lt _ (by decide)⟩ : Fin 256) b := by
  funext x
  fin_cases x <;> rfl

/-- An element of a block of an expert's product is the sum over the rows of the expert. -/
theorem blk_at (fo : S17.Idx → BitVec 32) (codes : S256x2048.Idx → EReal) (v0 : S1x256.Idx → EReal) (sc : S256.Idx → EReal)
    (hv : ∀ r : Fin 256, v0 (ix2 0 r) = sc (ix1 r)) (e : Fin 16) (a b : Fin 2048) :
    blkV (F := Ideal) fo (k0_pay6 (F := Ideal) v0 codes) (k0_pay7 (F := Ideal) v0 codes) e.val (fM (a.val / 256)) (inBlk (ix3 e a b))
      = Cert.ReferenceIdeal.Hand.refH (Cert.ReferenceIdeal.Hand.rows codes sc) fo (ix3 e a b) := by
  rw [inBlk_ix]
  unfold blkV
  refine (pay2_at _ _ _ _ _ _).trans ?_
  unfold Cert.ReferenceIdeal.Hand.refH
  refine Finset.sum_congr rfl fun k _ => ?_
  rw [xtBlk_at, pay6_at, pay7_at, hv]
  have ha : (⟨256 * (fM (a.val / 256)).val + a.val % 256, by have := (fM (a.val / 256)).isLt; omega⟩ : Fin 2048) = a :=
    Fin.ext (by show 256 * ((a.val / 256) % 8) + a.val % 256 = a.val; omega)
  rw [ha]
  unfold loW hiW
  rw [at17_eq e.val (by omega), at17_eq (e.val + 1) (by omega)]
  have h1 : (⟨e.val + 1, by omega⟩ : Fin 17) = ⟨1 + e.val, by omega⟩ := Fin.ext (Nat.add_comm _ _)
  rw [h1]
  rfl

/-- The Hessian of an expert whose range does not end before it starts. -/
theorem hOut_eq (fo : S17.Idx → BitVec 32) (codes : S256x2048.Idx → EReal) (v0 : S1x256.Idx → EReal) (sc : S256.Idx → EReal)
    (hv : ∀ r : Fin 256, v0 (ix2 0 r) = sc (ix1 r)) (f0 : HIdx → EReal) (e : Fin 16) (a b : Fin 2048)
    (ho : IntOp.cmpi .sle (loW fo e.val) (hiW fo e.val) = 1#1) :
    hOut (F := Ideal) fo codes v0 f0 (ix3 e a b)
      = Cert.ReferenceIdeal.Hand.refH (Cert.ReferenceIdeal.Hand.rows codes sc) fo (ix3 e a b) := by
  unfold hOut hFin
  by_cases hn : isNe fo e.val
  · rw [if_pos (show isNe fo ((ix3 e a b : HIdx) 0).val from hn)]
    exact blk_at fo codes v0 sc hv e a b
  · have hl : loW fo e.val = hiW fo e.val := eq_of_ordered _ _ ho hn
    rw [if_neg (show ¬ isNe fo ((ix3 e a b : HIdx) 0).val from hn), if_pos (show isEmp fo ((ix3 e a b : HIdx) 0).val from emp_of_eq fo _ hl)]
    have hz : ∀ y, k0_pay4 (F := Ideal) y = 0 := fun y => by
      show Ideal.ofBits .f32 0x00000000#32 = 0
      exact Ideal.ofBits_zero_f32
    rw [hz]
    unfold Cert.ReferenceIdeal.Hand.refH
    refine (Finset.sum_eq_zero fun k _ => ?_).symm
    unfold loW hiW at hl
    rw [at17_eq e.val (by omega), at17_eq (e.val + 1) (by omega)] at hl
    have h1 : (⟨e.val + 1, by omega⟩ : Fin 17) = ⟨1 + e.val, by omega⟩ := Fin.ext (Nat.add_comm _ _)
    rw [h1] at hl
    have hk := keep_none (fo (ix1 ⟨1 + e.val, by omega⟩)) k.val
    refine (congrArg (fun w => Scalar.select (Cert.ReferenceIdeal.Hand.keepBit w (fo (ix1 ⟨1 + e.val, by omega⟩)) k.val) _ (0 : EReal)) hl).trans ?_
    show Scalar.select (Cert.ReferenceIdeal.Hand.keepBit _ _ k.val) _ (0 : EReal) = 0
    rw [hk]
    rfl

/-- The counts. -/
theorem cnt_eq (fo : S17.Idx → BitVec 32) (e : Fin 16) : cntOut fo (ix1 e) = Cert.ReferenceIdeal.Hand.refC fo (ix1 e) := by
  show IntOp.subi (fo (at17 (e.val + 1))) (fo (at17 e.val)) = _
  rw [at17_eq e.val (by omega), at17_eq (e.val + 1) (by omega)]
  have h1 : (⟨e.val + 1, by omega⟩ : Fin 17) = ⟨1 + e.val, by omega⟩ := Fin.ext (Nat.add_comm _ _)
  rw [h1]
  rfl

/-- The scales as the kernel is given them, one row of them all. -/
theorem V_v0 (m : (ℓ : Loc nD τ sig) → Buf (Elt Ideal) ℓ) (c : Dev nD) (r : Fin 256) :
    (V m c main_v0 : S1x256.Idx → EReal) (ix2 0 r) = (m ((c : Thread nD τ).loc main_arg1) : S256.Idx → EReal) (ix1 r) := by
  unfold V hostOps0
  after_reads_at

end Cert.Proof

end
-- ==== Proof.lean ====
/-
  The proof of `Cert.Claim`: the frames from the runs of the two kernels and the reference, the preservation of the
  idealization from the library, and the equality of the results, expert by expert, from the two runs' values.
-/
module

public import proofs.«01_k».proof.Defs
public import proofs.«01_k».proof.Proof.Bits.Run
public import proofs.«01_k».proof.Proof.Equal
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.On_selected
public import Idealize.ShloMosaic.Lib.Bf16Pair

@[expose] public section

set_option maxRecDepth 16384

noncomputable section

namespace Cert.Proof

open Idealize.ShloMosaic Idealize.SL.Sem
open Cert.KernelIdeal.Hand (loW hiW at17 cntOut hOut HIdx)

/-- Where the Hessians are compared, the expert's range does not end before it starts. -/
theorem ordered_of_selected (codes : FVec Ideal Cert.On_selected.S256x2048 .fp8e4m3) (sc : FVec Ideal Cert.On_selected.S256 .f32)
    (fo : IVec Cert.On_selected.S17 32) (e : Fin 16) (a b : Fin 2048)
    (h : (Cert.On_selected.fn (F := Ideal) codes sc fo).1 (ix3 e a b) = 1#1) :
    IntOp.cmpi .sle (loW fo e.val) (hiW fo e.val) = 1#1 := by
  pointwise [Cert.On_selected.fn] at h
  unfold loW hiW
  rw [at17_eq e.val (by omega), at17_eq (e.val + 1) (by omega)]
  have h1 : (⟨e.val + 1, by omega⟩ : Fin 17) = ⟨1 + e.val, by omega⟩ := Fin.ext (Nat.add_comm _ _)
  rw [h1]
  exact h

theorem algebraic : Cert.algebraic_KernelIdeal_ReferenceIdeal_on_selected := by
  intro m g m' g' _ hagree
  refine ⟨fun c => Cert.ReferenceIdeal.Hand.refH
      (Cert.ReferenceIdeal.Hand.rows (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)),
    fun c => Cert.ReferenceIdeal.Hand.refC (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.Hand.run_values m g)
    obtain ⟨h0, h1, h2, h3, h4⟩ := h.1 c
    refine ⟨fun i hi => ?_, fun i _ => ?_, h2, h3, h4⟩
    · rw [h0]
      obtain ⟨e, a, b, rfl⟩ : ∃ (e : Fin 16) (a b : Fin 2048), i = ix3 e a b := ⟨i 0, i 1, i 2, eq_ix3 i⟩
      have ho := ordered_of_selected _ _ _ e a b hi
      rw [← Cert.KernelIdeal.Hand.foAt_eq m c] at ho
      refine (hOut_eq _ _ _ _ (V_v0 m c) _ e a b ho).trans ?_
      rw [Cert.KernelIdeal.Gen.V_main_arg0 m c, Cert.KernelIdeal.Hand.foAt_eq m c]
    · rw [h1]
      obtain ⟨e, rfl⟩ : ∃ e : Fin 16, i = ix1 e := ⟨i 0, eq_ix1 i⟩
      rw [Cert.KernelIdeal.Hand.foAt_eq m c]
      exact cnt_eq _ e
  · refine (θ_run Cert.ReferenceIdeal.defs _ _).mono (fun r h c => ?_) (Cert.ReferenceIdeal.Hand.run_values m' g')
    obtain ⟨h0, h1, h2, h3, h4⟩ := h c
    obtain ⟨a0, a1, a2⟩ := hagree c
    refine ⟨fun i _ => ?_, fun i _ => ?_, h2, h3, h4⟩
    · rw [h0, a0, a1, a2]
    · rw [h1, a2]

theorem claim : Cert.Claim :=
  ⟨Cert.Kernel.Gen.facts, Cert.KernelIdeal.Gen.facts, Cert.ReferenceIdeal.Gen.facts, Cert.On_selected.Gen.facts,
    fun m g _ => Cert.Kernel.Hand.frameQ m g,
    fun m g _ => Cert.KernelIdeal.Hand.frameQ m g,
    fun m g _ => Cert.ReferenceIdeal.Gen.frame m g,
    ⟨IdealRules.bf16_pair.statement _ _, IdealRules.bf16_pair.selectZeroStatement _⟩,
    algebraic⟩

end Cert.Proof

end
